-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_values_finite [hPre_values_finite : Cert.Pre_values_finite.Facts] (m : (ℓ : Loc Cert.KernelIdeal.nD Cert.KernelIdeal.τ Cert.KernelIdeal.sig) → Buf (Elt Ideal) ℓ) : Prop :=
  ∀ c : Dev Cert.KernelIdeal.nD,
    (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_values_finite [hPre_values_finite : Cert.Pre_values_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def Pre_Kernel2 [hPre_blocks_routed : Cert.Pre_blocks_routed.Facts] (m : (ℓ : Loc Cert.Kernel2.nD Cert.Kernel2.τ Cert.Kernel2.sig) → Buf (Elt Bits) ℓ) : Prop :=
  ∀ c : Dev Cert.Kernel2.nD,
    (Cert.Pre_blocks_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_blocks_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2 = (fun _ => 1#1)

def Pre_Kernel2Ideal [hPre_blocks_routed : Cert.Pre_blocks_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_blocks_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_blocks_routed [hPre_blocks_routed : Cert.Pre_blocks_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_blocks_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_values_finite [hKernelIdeal : Cert.KernelIdeal.Facts] [hPre_values_finite : Cert.Pre_values_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_values_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_values_finite [hReferenceIdeal : Cert.ReferenceIdeal.Facts] [hPre_values_finite : Cert.Pre_values_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_values_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_blocks_routed : Cert.Pre_blocks_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_blocks_routed : Cert.Pre_blocks_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_blocks_routed [hReference2Ideal : Cert.Reference2Ideal.Facts] [hPre_blocks_routed : Cert.Pre_blocks_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_blocks_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_on_latent_rows_pre_values_finite [hKernelIdeal : Cert.KernelIdeal.Facts] [hReferenceIdeal : Cert.ReferenceIdeal.Facts] [hPre_values_finite : Cert.Pre_values_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_values_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![33792, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.KernelIdeal.nD Cert.KernelIdeal.τ).loc Cert.KernelIdeal.main_v24) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![33792, 512]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) i = 1#1 → r.2.mem ((c.tc : Thread Cert.ReferenceIdeal.nD Cert.ReferenceIdeal.τ).loc Cert.ReferenceIdeal.main_v50) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal_on_used_rows [hKernel2Ideal : Cert.Kernel2Ideal.Facts] [hReference2Ideal : Cert.Reference2Ideal.Facts] [hPre_blocks_routed : Cert.Pre_blocks_routed.Facts] [hOn_used_rows : Cert.On_used_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![1146880, 128]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![1146880, 128]⟩ : Shape).Idx, (Cert.On_used_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v52) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_values_finite : Cert.Pre_values_finite.Facts) (hPre_blocks_routed : Cert.Pre_blocks_routed.Facts) (hOn_latent_rows : Cert.On_latent_rows.Facts) (hOn_used_rows : Cert.On_used_rows.Facts),
    quiescent_Kernel (hKernel := hKernel)
    ∧ quiescent_KernelIdeal (hKernelIdeal := hKernelIdeal)
    ∧ quiescent_KernelIdeal_pre_values_finite (hKernelIdeal := hKernelIdeal) (hPre_values_finite := hPre_values_finite)
    ∧ quiescent_ReferenceIdeal (hReferenceIdeal := hReferenceIdeal)
    ∧ quiescent_ReferenceIdeal_pre_values_finite (hReferenceIdeal := hReferenceIdeal) (hPre_values_finite := hPre_values_finite)
    ∧ quiescent_Kernel2 (hKernel2 := hKernel2) (hPre_blocks_routed := hPre_blocks_routed)
    ∧ quiescent_Kernel2Ideal (hKernel2Ideal := hKernel2Ideal) (hPre_blocks_routed := hPre_blocks_routed)
    ∧ quiescent_Reference2Ideal (hReference2Ideal := hReference2Ideal)
    ∧ quiescent_Reference2Ideal_pre_blocks_routed (hReference2Ideal := hReference2Ideal) (hPre_blocks_routed := hPre_blocks_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_latent_rows_pre_values_finite (hKernelIdeal := hKernelIdeal) (hReferenceIdeal := hReferenceIdeal) (hPre_values_finite := hPre_values_finite) (hOn_latent_rows := hOn_latent_rows)
    ∧ preserves_Kernel2_Kernel2Ideal
    ∧ algebraic_Kernel2Ideal_Reference2Ideal_on_used_rows (hKernel2Ideal := hKernel2Ideal) (hReference2Ideal := hReference2Ideal) (hPre_blocks_routed := hPre_blocks_routed) (hOn_used_rows := hOn_used_rows)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== On_latent_rows.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S64 : Shape := ⟨1, ![64]⟩
abbrev S128 : Shape := ⟨1, ![128]⟩
abbrev S33792x512 : Shape := ⟨2, ![33792, 512]⟩
abbrev S_ : Shape := ⟨0, ![]⟩

class Facts : Prop where
  bcast_S_S33792x512 : S_.BroadcastsInDim S33792x512 (![] : Fin 0 → Fin S33792x512.rank)

variable [Facts]

def fn {F : FTy → Type} [FloatOps F] (main_arg0 : FVec F S4x8192x4x2x64 .f32) (main_arg1 : FVec F S4x256x4x2x64 .f32) (main_arg2 : FVec F S4x8192x4x2x64 .f32) (main_arg3 : FVec F S4x256x4x2x64 .f32) (main_arg4 : FVec F S4x8192x4x128 .f32) (main_arg5 : FVec F S4x256x4x128 .f32) (main_arg6 : FVec F S64 .f32) (main_arg7 : FVec F S64 .f32) (main_arg8 : FVec F S64 .f32) (main_arg9 : FVec F S64 .f32) (main_arg10 : FVec F S128 .f32) : IVec S33792x512 1 :=
  let main_v0 : IVec S33792x512 32 := iotaInDim S33792x512 32 0
  let main_c : IVec S_ 32 := constantI S_ 32 32768#32
  let main_v1 : IVec S33792x512 32 := broadcastInDim S33792x512 ![] bcast_S_S33792x512 main_c
  let main_v2 : IVec S33792x512 1 := cmpi .slt main_v0 main_v1
  main_v2
-- ==== On_used_rows.lean ====
abbrev S560 : Shape := ⟨1, ![560]⟩
abbrev S1 : Shape := ⟨1, ![1]⟩
abbrev S1146880x128 : Shape := ⟨2, ![1146880, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S560x2048x128 : Shape := ⟨3, ![560, 2048, 128]⟩
abbrev S_ : Shape := ⟨0, ![]⟩

class Facts : Prop where
  shapeCasts_S1_S_ : S1.ShapeCasts S_
  bcast_S_S560x2048x128 : S_.BroadcastsInDim S560x2048x128 (![] : Fin 0 → Fin S560x2048x128.rank)
  shapeCasts_S560x2048x128_S1146880x128 : S560x2048x128.ShapeCasts S1146880x128

variable [Facts]

def fn {F : FTy → Type} [FloatOps F] (main_arg0 : IVec S560 32) (main_arg1 : IVec S1 32) (main_arg2 : FVec F S1146880x128 .f32) (main_arg3 : FVec F S32x1024x2048 .f32) (main_arg4 : FVec F S32x1x2048 .f32) (main_arg5 : FVec F S32x1024x1024 .f32) (main_arg6 : FVec F S32x1x1024 .f32) : IVec S1146880x128 1 :=
  let main_v0 : IVec S560x2048x128 32 := iotaInDim S560x2048x128 32 0
  let main_v1 : IVec S_ 32 := shapeCast S_ main_arg1 shapeCasts_S1_S_
  let main_v2 : IVec S560x2048x128 32 := broadcastInDim S560x2048x128 ![] bcast_S_S560x2048x128 main_v1
  let main_v3 : IVec S560x2048x128 1 := cmpi .slt main_v0 main_v2
  let main_v4 : IVec S1146880x128 1 := shapeCast S1146880x128 main_v3 shapeCasts_S560x2048x128_S1146880x128
  main_v4
-- ==== Pre_blocks_routed.lean ====
abbrev S560 : Shape := ⟨1, ![560]⟩
abbrev S1 : Shape := ⟨1, ![1]⟩
abbrev S1146880x128 : Shape := ⟨2, ![1146880, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S560 : S_.BroadcastsInDim S560 (![] : Fin 0 → Fin S560.rank)
  bcast_S_S1 : S_.BroadcastsInDim S1 (![] : Fin 0 → Fin S1.rank)

variable [Facts]

def fn {F : FTy → Type} [FloatOps F] (main_arg0 : IVec S560 32) (main_arg1 : IVec S1 32) (main_arg2 : FVec F S1146880x128 .f32) (main_arg3 : FVec F S32x1024x2048 .f32) (main_arg4 : FVec F S32x1x2048 .f32) (main_arg5 : FVec F S32x1024x1024 .f32) (main_arg6 : FVec F S32x1x1024 .f32) : IVec S560 1 × IVec S1 1 :=
  let main_c : IVec S_ 32 := constantI S_ 32 0#32
  let main_v0 : IVec S560 32 := broadcastInDim S560 ![] bcast_S_S560 main_c
  let main_v1 : IVec S560 1 := cmpi .sge main_arg0 main_v0
  let main_c_0 : IVec S_ 32 := constantI S_ 32 32#32
  let main_v2 : IVec S560 32 := broadcastInDim S560 ![] bcast_S_S560 main_c_0
  let main_v3 : IVec S560 1 := cmpi .slt main_arg0 main_v2
  let main_v4 : IVec S560 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== Pre_values_finite.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S64 : Shape := ⟨1, ![64]⟩
abbrev S128 : Shape := ⟨1, ![128]⟩
abbrev S_ : Shape := ⟨0, ![]⟩

class Facts : Prop where
  bcast_S_S4x8192x4x128 : S_.BroadcastsInDim S4x8192x4x128 (![] : Fin 0 → Fin S4x8192x4x128.rank)
  bcast_S_S4x256x4x128 : S_.BroadcastsInDim S4x256x4x128 (![] : Fin 0 → Fin S4x256x4x128.rank)
  bcast_S_S64 : S_.BroadcastsInDim S64 (![] : Fin 0 → Fin S64.rank)

variable [Facts]

def fn {F : FTy → Type} [FloatOps F] (main_arg0 : FVec F S4x8192x4x2x64 .f32) (main_arg1 : FVec F S4x256x4x2x64 .f32) (main_arg2 : FVec F S4x8192x4x2x64 .f32) (main_arg3 : FVec F S4x256x4x2x64 .f32) (main_arg4 : FVec F S4x8192x4x128 .f32) (main_arg5 : FVec F S4x256x4x128 .f32) (main_arg6 : FVec F S64 .f32) (main_arg7 : FVec F S64 .f32) (main_arg8 : FVec F S64 .f32) (main_arg9 : FVec F S64 .f32) (main_arg10 : FVec F S128 .f32) : IVec S4x8192x4x128 1 × IVec S4x256x4x128 1 × IVec S64 1 × IVec S64 1 × IVec S64 1 × IVec S64 1 :=
  let main_v0 : FVec F S4x8192x4x128 .f32 := Host.absf main_arg4
  let main_cst : FVec F S_ .f32 := constant S_ .f32 0x7F800000#32
  let main_v1 : FVec F S4x8192x4x128 .f32 := broadcastInDim S4x8192x4x128 ![] bcast_S_S4x8192x4x128 main_cst
  let main_v2 : IVec S4x8192x4x128 1 := cmpf .olt main_v0 main_v1
  let main_v3 : FVec F S4x256x4x128 .f32 := Host.absf main_arg5
  let main_cst_0 : FVec F S_ .f32 := constant S_ .f32 0x7F800000#32
  let main_v4 : FVec F S4x256x4x128 .f32 := broadcastInDim S4x256x4x128 ![] bcast_S_S4x256x4x128 main_cst_0
  let main_v5 : IVec S4x256x4x128 1 := cmpf .olt main_v3 main_v4
  let main_v6 : FVec F S64 .f32 := Host.absf main_arg6
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg7
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg8
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg9
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  (main_v2, main_v5, main_v8, main_v11, main_v14, main_v17)
-- ==== Kernel.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S64 : Shape := ⟨1, ![64]⟩
abbrev S128 : Shape := ⟨1, ![128]⟩
abbrev S32768x512 : Shape := ⟨2, ![32768, 512]⟩
abbrev S1024x512 : Shape := ⟨2, ![1024, 512]⟩
abbrev S33792x512 : Shape := ⟨2, ![33792, 512]⟩
abbrev S_ : Shape := ⟨0, ![]⟩
abbrev S1 : Shape := ⟨1, ![1]⟩
abbrev S1x128 : Shape := ⟨2, ![1, 128]⟩
abbrev S1024x128 : Shape := ⟨2, ![1024, 128]⟩
abbrev S256x128 : Shape := ⟨2, ![256, 128]⟩
abbrev S8192x128 : Shape := ⟨2, ![8192, 128]⟩
abbrev S1024x1 : Shape := ⟨2, ![1024, 1]⟩
abbrev S1024x256 : Shape := ⟨2, ![1024, 256]⟩
abbrev S1024 : Shape := ⟨1, ![1024]⟩
abbrev S512x128 : Shape := ⟨2, ![512, 128]⟩

abbrev nBuf : Space → Nat
  | .hbm => 40
  | .vmem => 13
  | .smem => 1
  | _ => 0

abbrev bufTy : (tb : Table) → Fin (tcTables nBuf tb) → BufTy
  | .hbm, ⟨0, _⟩ => ⟨S4x8192x4x2x64, .f32⟩
  | .hbm, ⟨1, _⟩ => ⟨S4x256x4x2x64, .f32⟩
  | .hbm, ⟨2, _⟩ => ⟨S4x8192x4x2x64, .f32⟩
  | .hbm, ⟨3, _⟩ => ⟨S4x256x4x2x64, .f32⟩
  | .hbm, ⟨4, _⟩ => ⟨S4x8192x4x128, .f32⟩
  | .hbm, ⟨5, _⟩ => ⟨S4x256x4x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S32768x512, .f32⟩
  | .hbm, ⟨12, _⟩ => ⟨S1024x512, .f32⟩
  | .hbm, ⟨13, _⟩ => ⟨S33792x512, .f32⟩
  | .hbm, ⟨14, _⟩ => ⟨S_, .f32⟩
  | .hbm, ⟨15, _⟩ => ⟨S33792x512, .f32⟩
  | .hbm, ⟨16, _⟩ => ⟨S33792x512, .f32⟩
  | .hbm, ⟨17, _⟩ => ⟨S33792x512, .bf16⟩
  | .hbm, ⟨18, _⟩ => ⟨S32768x512, .f32⟩
  | .hbm, ⟨19, _⟩ => ⟨S1024x512, .f32⟩
  | .hbm, ⟨20, _⟩ => ⟨S33792x512, .f32⟩
  | .hbm, ⟨21, _⟩ => ⟨S33792x512, .bf16⟩
  | .hbm, ⟨22, _⟩ => ⟨S32768x512, .f32⟩
  | .hbm, ⟨23, _⟩ => ⟨S1024x512, .f32⟩
  | .hbm, ⟨24, _⟩ => ⟨S33792x512, .f32⟩
  | .hbm, ⟨25, _⟩ => ⟨S33792x512, .bf16⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S1x128, .f32⟩
  | .hbm, ⟨39, _⟩ => ⟨S33792x512, .f32⟩
  | .local _ .vmem, ⟨0, _⟩ => ⟨S1024x128, .bf16⟩
  | .local _ .vmem, ⟨1, _⟩ => ⟨S1024x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .smem, ⟨0, _⟩ => ⟨S1, .f32⟩
  | _, _ => ⟨S4x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 8], ![false, false, false]⟩

@[reducible] def k0_t1_loop : Scf.Loop 32 :=
  let c0_i32 : BitVec 32 := 0#32
  let c16_i32 : BitVec 32 := 16#32
  let v56 : BitVec 32 := Scalar.addi c0_i32 c16_i32
  let c1_i32 : BitVec 32 := 1#32
  ⟨c0_i32, v56, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v83 : BitVec 32 := Scalar.muli arg11 c512_i32
  v83
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v83 : BitVec 32 := Scalar.muli arg11 c512_i32
  let v84 : BitVec 32 := v83
  let v85 : Index := Scalar.indexCast v84
  let c0_30 : Index := 0#32
  ![v85.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x8192x4x2x64 : Shape := ⟨5, ![4, 8192, 4, 2, 64]⟩
abbrev S4x256x4x2x64 : Shape := ⟨5, ![4, 256, 4, 2, 64]⟩
abbrev S4x8192x4x128 : Shape := ⟨4, ![4, 8192, 4, 128]⟩
abbrev S4x256x4x128 : Shape := ⟨4, ![4, 256, 4, 128]⟩
abbrev S64 : Shape := ⟨1, ![64]⟩
abbrev S128 : Shape := ⟨1, ![128]⟩
abbrev S_ : Shape := ⟨0, ![]⟩
abbrev S4x8448x4x2x64 : Shape := ⟨5, ![4, 8448, 4, 2, 64]⟩
abbrev S4x8448x4x128 : Shape := ⟨4, ![4, 8448, 4, 128]⟩
abbrev S4x4x2x8192x8448 : Shape := ⟨5, ![4, 4, 2, 8192, 8448]⟩
abbrev S4x4x2x8192 : Shape := ⟨4, ![4, 4, 2, 8192]⟩
abbrev S4x4x2x8192x1 : Shape := ⟨5, ![4, 4, 2, 8192, 1]⟩
abbrev S4x4x1x8192x8448 : Shape := ⟨5, ![4, 4, 1, 8192, 8448]⟩
abbrev S4x4x8192x8448 : Shape := ⟨4, ![4, 4, 8192, 8448]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S32768x512 : Shape := ⟨2, ![32768, 512]⟩
abbrev S1024x512 : Shape := ⟨2, ![1024, 512]⟩
abbrev S33792x512 : Shape := ⟨2, ![33792, 512]⟩

abbrev nBuf : Space → Nat
  | .hbm => 74
  | .vmem => 0
  | .smem => 0
  | _ => 0

abbrev bufTy : (tb : Table) → Fin (tcTables nBuf tb) → BufTy
  | .hbm, ⟨0, _⟩ => ⟨S4x8192x4x2x64, .f32⟩
  | .hbm, ⟨1, _⟩ => ⟨S4x256x4x2x64, .f32⟩
  | .hbm, ⟨2, _⟩ => ⟨S4x8192x4x2x64, .f32⟩
  | .hbm, ⟨3, _⟩ => ⟨S4x256x4x2x64, .f32⟩
  | .hbm, ⟨4, _⟩ => ⟨S4x8192x4x128, .f32⟩
  | .hbm, ⟨5, _⟩ => ⟨S4x256x4x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x8448x4x2x64, .f32⟩
  | .hbm, ⟨23, _⟩ => ⟨S4x8448x4x128, .f32⟩
  | .hbm, ⟨24, _⟩ => ⟨S4x4x2x8192x8448, .f32⟩
  | .hbm, ⟨25, _⟩ => ⟨S_, .f32⟩
  | .hbm, ⟨26, _⟩ => ⟨S4x4x2x8192x8448, .f32⟩
  | .hbm, ⟨27, _⟩ => ⟨S4x4x2x8192x8448, .f32⟩
  | .hbm, ⟨28, _⟩ => ⟨S_, .f32⟩
  | .hbm, ⟨29, _⟩ => ⟨S4x4x2x8192, .f32⟩
  | .hbm, ⟨30, _⟩ => ⟨S_, .f32⟩
  | .hbm, ⟨31, _⟩ => ⟨S4x4x2x8192, .f32⟩
  | .hbm, ⟨32, _⟩ => ⟨S4x4x2x8192, .f32⟩
  | .hbm, ⟨33, _⟩ => ⟨S4x4x2x8192x1, .f32⟩
  | .hbm, ⟨34, _⟩ => ⟨S4x4x2x8192x8448, .f32⟩
  | .hbm, ⟨35, _⟩ => ⟨S4x4x2x8192x8448, .f32⟩
  | .hbm, ⟨36, _⟩ => ⟨S4x4x2x8192x8448, .f32⟩
  | .hbm, ⟨37, _⟩ => ⟨S_, .f32⟩
  | .hbm, ⟨38, _⟩ => ⟨S4x4x2x8192, .f32⟩
  | .hbm, ⟨39, _⟩ => ⟨S4x4x2x8192x1, .f32⟩
  | .hbm, ⟨40, _⟩ => ⟨S4x4x2x8192x8448, .f32⟩
  | .hbm, ⟨41, _⟩ => ⟨S4x4x2x8192x8448, .f32⟩
  | .hbm, ⟨42, _⟩ => ⟨S4x4x1x8192x8448, .f32⟩
  | .hbm, ⟨43, _⟩ => ⟨S4x4x8192x8448, .f32⟩
  | .hbm, ⟨44, _⟩ => ⟨S4x4x1x8192x8448, .f32⟩
  | .hbm, ⟨45, _⟩ => ⟨S4x4x8192x8448, .f32⟩
  | .hbm, ⟨46, _⟩ => ⟨S4x4x8192x8448, .f32⟩
  | .hbm, ⟨47, _⟩ => ⟨S4x4x8192x8448, .f32⟩
  | .hbm, ⟨48, _⟩ => ⟨S4x4x8192x8448, .f32⟩
  | .hbm, ⟨49, _⟩ => ⟨S4x4x128x8192, .f32⟩
  | .hbm, ⟨50, _⟩ => ⟨S4x8192x4x128, .f32⟩
  | .hbm, ⟨51, _⟩ => ⟨S4x8192x4x128, .f32⟩
  | .hbm, ⟨52, _⟩ => ⟨S_, .f32⟩
  | .hbm, ⟨53, _⟩ => ⟨S4x8192x4, .f32⟩
  | .hbm, ⟨54, _⟩ => ⟨S4x8192x4x1, .f32⟩
  | .hbm, ⟨55, _⟩ => ⟨S_, .f32⟩
  | .hbm, ⟨56, _⟩ => ⟨S4x8192x4x1, .f32⟩
  | .hbm, ⟨57, _⟩ => ⟨S4x8192x4x1, .f32⟩
  | .hbm, ⟨58, _⟩ => ⟨S_, .f32⟩
  | .hbm, ⟨59, _⟩ => ⟨S4x8192x4x1, .f32⟩
  | .hbm, ⟨60, _⟩ => ⟨S4x8192x4x1, .f32⟩
  | .hbm, ⟨61, _⟩ => ⟨S4x8192x4x1, .f32⟩
  | .hbm, ⟨62, _⟩ => ⟨S4x8192x4x128, .f32⟩
  | .hbm, ⟨63, _⟩ => ⟨S4x8192x4x128, .f32⟩
  | .hbm, ⟨64, _⟩ => ⟨S1x1x1x128, .f32⟩
  | .hbm, ⟨65, _⟩ => ⟨S4x8192x4x128, .f32⟩
  | .hbm, ⟨66, _⟩ => ⟨S4x8192x4x128, .f32⟩
  | .hbm, ⟨67, _⟩ => ⟨S_, .f32⟩
  | .hbm, ⟨68, _⟩ => ⟨S4x8192x4x128, .f32⟩
  | .hbm, ⟨69, _⟩ => ⟨S4x8192x4x128, .f32⟩
  | .hbm, ⟨70, _⟩ => ⟨S32768x512, .f32⟩
  | .hbm, ⟨71, _⟩ => ⟨S_, .f32⟩
  | .hbm, ⟨72, _⟩ => ⟨S1024x512, .f32⟩
  | .hbm, ⟨73, _⟩ => ⟨S33792x512, .f32⟩
  | _, _ => ⟨S4x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]
-- ==== Kernel2.lean ====
abbrev S560 : Shape := ⟨1, ![560]⟩
abbrev S1 : Shape := ⟨1, ![1]⟩
abbrev S1146880x128 : Shape := ⟨2, ![1146880, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S2048x128 : Shape := ⟨2, ![2048, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S256x128 : Shape := ⟨2, ![256, 128]⟩
abbrev S256x1024 : Shape := ⟨2, ![256, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S1146880x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1146880x128, .f32⟩
  | .local _ .vmem, ⟨0, _⟩ => ⟨S2048x128, .f32⟩
  | .local _ .vmem, ⟨1, _⟩ => ⟨S2048x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S2048x128, .f32⟩
  | .local _ .vmem, ⟨11, _⟩ => ⟨S2048x128, .f32⟩
  | .local _ .vmem, ⟨12, _⟩ => ⟨S1024x2048, .bf16⟩
  | .local _ .vmem, ⟨13, _⟩ => ⟨S1024x1024, .bf16⟩
  | .local _ .smem, ⟨0, _⟩ => ⟨S560, .i32⟩
  | .local _ .smem, ⟨1, _⟩ => ⟨S1, .i32⟩
  | _, _ => ⟨S1146880x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![560], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S560.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S560) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S560 : Shape := ⟨1, ![560]⟩
abbrev S1 : Shape := ⟨1, ![1]⟩
abbrev S1146880x128 : Shape := ⟨2, ![1146880, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S560x256x1024 : Shape := ⟨3, ![560, 256, 1024]⟩
abbrev S_ : Shape := ⟨0, ![]⟩
abbrev S560x1 : Shape := ⟨2, ![560, 1]⟩
abbrev S560x1024x2048 : Shape := ⟨3, ![560, 1024, 2048]⟩
abbrev S560x256x2048 : Shape := ⟨3, ![560, 256, 2048]⟩
abbrev S560x1x2048 : Shape := ⟨3, ![560, 1, 2048]⟩
abbrev S560x1024x1024 : Shape := ⟨3, ![560, 1024, 1024]⟩
abbrev S560x1x1024 : Shape := ⟨3, ![560, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S560, .i32⟩
  | .hbm, ⟨1, _⟩ => ⟨S1, .i32⟩
  | .hbm, ⟨2, _⟩ => ⟨S1146880x128, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S560x256x1024, .f32⟩
  | .hbm, ⟨8, _⟩ => ⟨S_, .i32⟩
  | .hbm, ⟨9, _⟩ => ⟨S560, .i32⟩
  | .hbm, ⟨10, _⟩ => ⟨S560, .i1⟩
  | .hbm, ⟨11, _⟩ => ⟨S_, .i32⟩
  | .hbm, ⟨12, _⟩ => ⟨S560, .i32⟩
  | .hbm, ⟨13, _⟩ => ⟨S560, .i32⟩
  | .hbm, ⟨14, _⟩ => ⟨S560, .i32⟩
  | .hbm, ⟨15, _⟩ => ⟨S560x1, .i32⟩
  | .hbm, ⟨16, _⟩ => ⟨S560x1024x2048, .f32⟩
  | .hbm, ⟨17, _⟩ => ⟨S560x256x2048, .f32⟩
  | .hbm, ⟨18, _⟩ => ⟨S_, .i32⟩
  | .hbm, ⟨19, _⟩ => ⟨S560, .i32⟩
  | .hbm, ⟨20, _⟩ => ⟨S560, .i1⟩
  | .hbm, ⟨21, _⟩ => ⟨S_, .i32⟩
  | .hbm, ⟨22, _⟩ => ⟨S560, .i32⟩
  | .hbm, ⟨23, _⟩ => ⟨S560, .i32⟩
  | .hbm, ⟨24, _⟩ => ⟨S560, .i32⟩
  | .hbm, ⟨25, _⟩ => ⟨S560x1, .i32⟩
  | .hbm, ⟨26, _⟩ => ⟨S560x1x2048, .f32⟩
  | .hbm, ⟨27, _⟩ => ⟨S560x256x2048, .f32⟩
  | .hbm, ⟨28, _⟩ => ⟨S560x256x2048, .f32⟩
  | .hbm, ⟨29, _⟩ => ⟨S560x256x1024, .f32⟩
  | .hbm, ⟨30, _⟩ => ⟨S_, .f32⟩
  | .hbm, ⟨31, _⟩ => ⟨S560x256x1024, .f32⟩
  | .hbm, ⟨32, _⟩ => ⟨S560x256x1024, .f32⟩
  | .hbm, ⟨33, _⟩ => ⟨S560x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S560x256x1024, .f32⟩
  | .hbm, ⟨38, _⟩ => ⟨S560x256x1024, .f32⟩
  | .hbm, ⟨39, _⟩ => ⟨S_, .f32⟩
  | .hbm, ⟨40, _⟩ => ⟨S560x256x1024, .f32⟩
  | .hbm, ⟨41, _⟩ => ⟨S560x256x1024, .f32⟩
  | .hbm, ⟨42, _⟩ => ⟨S_, .f32⟩
  | .hbm, ⟨43, _⟩ => ⟨S560x256x1024, .f32⟩
  | .hbm, ⟨44, _⟩ => ⟨S560x256x1024, .f32⟩
  | .hbm, ⟨45, _⟩ => ⟨S560x256x1024, .f32⟩
  | .hbm, ⟨46, _⟩ => ⟨S560x256x1024, .f32⟩
  | .hbm, ⟨47, _⟩ => ⟨S_, .f32⟩
  | .hbm, ⟨48, _⟩ => ⟨S560x256x1024, .f32⟩
  | .hbm, ⟨49, _⟩ => ⟨S560x256x1024, .f32⟩
  | .hbm, ⟨50, _⟩ => ⟨S_, .f32⟩
  | .hbm, ⟨51, _⟩ => ⟨S560x256x1024, .f32⟩
  | .hbm, ⟨52, _⟩ => ⟨S560x256x1024, .f32⟩
  | .hbm, ⟨53, _⟩ => ⟨S560x256x1024, .f32⟩
  | .hbm, ⟨54, _⟩ => ⟨S_, .f32⟩
  | .hbm, ⟨55, _⟩ => ⟨S560x256x1024, .f32⟩
  | .hbm, ⟨56, _⟩ => ⟨S560x256x1024, .f32⟩
  | .hbm, ⟨57, _⟩ => ⟨S560x256x1024, .f32⟩
  | .hbm, ⟨58, _⟩ => ⟨S_, .i32⟩
  | .hbm, ⟨59, _⟩ => ⟨S560, .i32⟩
  | .hbm, ⟨60, _⟩ => ⟨S560, .i1⟩
  | .hbm, ⟨61, _⟩ => ⟨S_, .i32⟩
  | .hbm, ⟨62, _⟩ => ⟨S560, .i32⟩
  | .hbm, ⟨63, _⟩ => ⟨S560, .i32⟩
  | .hbm, ⟨64, _⟩ => ⟨S560, .i32⟩
  | .hbm, ⟨65, _⟩ => ⟨S560x1, .i32⟩
  | .hbm, ⟨66, _⟩ => ⟨S560x1024x1024, .f32⟩
  | .hbm, ⟨67, _⟩ => ⟨S560x256x1024, .f32⟩
  | .hbm, ⟨68, _⟩ => ⟨S_, .i32⟩
  | .hbm, ⟨69, _⟩ => ⟨S560, .i32⟩
  | .hbm, ⟨70, _⟩ => ⟨S560, .i1⟩
  | .hbm, ⟨71, _⟩ => ⟨S_, .i32⟩
  | .hbm, ⟨72, _⟩ => ⟨S560, .i32⟩
  | .hbm, ⟨73, _⟩ => ⟨S560, .i32⟩
  | .hbm, ⟨74, _⟩ => ⟨S560, .i32⟩
  | .hbm, ⟨75, _⟩ => ⟨S560x1, .i32⟩
  | .hbm, ⟨76, _⟩ => ⟨S560x1x1024, .f32⟩
  | .hbm, ⟨77, _⟩ => ⟨S560x256x1024, .f32⟩
  | .hbm, ⟨78, _⟩ => ⟨S560x256x1024, .f32⟩
  | .hbm, ⟨79, _⟩ => ⟨S1146880x128, .f32⟩
  | _, _ => ⟨S560, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Kernel3.lean ====
abbrev S33792x1024 : Shape := ⟨2, ![33792, 1024]⟩
abbrev S1024 : Shape := ⟨1, ![1024]⟩
abbrev S8x1x1024 : Shape := ⟨3, ![8, 1, 1024]⟩
abbrev S1024x2560 : Shape := ⟨2, ![1024, 2560]⟩
abbrev S1x1024 : Shape := ⟨2, ![1, 1024]⟩
abbrev S33792x2560 : Shape := ⟨2, ![33792, 2560]⟩
abbrev S256x1024 : Shape := ⟨2, ![256, 1024]⟩
abbrev S1x1x1024 : Shape := ⟨3, ![1, 1, 1024]⟩
abbrev S256x2560 : Shape := ⟨2, ![256, 2560]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2560, .f32⟩
  | .hbm, ⟨5, _⟩ => ⟨S1024x2560, .bf16⟩
  | .hbm, ⟨6, _⟩ => ⟨S1x1024, .f32⟩
  | .hbm, ⟨7, _⟩ => ⟨S33792x2560, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S256x2560, .f32⟩
  | .local _ .vmem, ⟨9, _⟩ => ⟨S256x2560, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S33792x1024 : Shape := ⟨2, ![33792, 1024]⟩
abbrev S1024 : Shape := ⟨1, ![1024]⟩
abbrev S8x1x1024 : Shape := ⟨3, ![8, 1, 1024]⟩
abbrev S1024x2560 : Shape := ⟨2, ![1024, 2560]⟩
abbrev S32768x1024 : Shape := ⟨2, ![32768, 1024]⟩
abbrev S4x8192x1024 : Shape := ⟨3, ![4, 8192, 1024]⟩
abbrev S1024x1024 : Shape := ⟨2, ![1024, 1024]⟩
abbrev S4x256x1024 : Shape := ⟨3, ![4, 256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x256 : Shape := ⟨2, ![4, 256]⟩
abbrev S4x256x1 : Shape := ⟨3, ![4, 256, 1]⟩
abbrev S4x8192x2560 : Shape := ⟨3, ![4, 8192, 2560]⟩
abbrev S4x256x2560 : Shape := ⟨3, ![4, 256, 2560]⟩
abbrev S32768x2560 : Shape := ⟨2, ![32768, 2560]⟩
abbrev S33792x2560 : Shape := ⟨2, ![33792, 2560]⟩

abbrev nBuf : Space → Nat
  | .hbm => 68
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2560, .f32⟩
  | .hbm, ⟨5, _⟩ => ⟨S32768x1024, .f32⟩
  | .hbm, ⟨6, _⟩ => ⟨S4x8192x1024, .f32⟩
  | .hbm, ⟨7, _⟩ => ⟨S1024x1024, .f32⟩
  | .hbm, ⟨8, _⟩ => ⟨S4x256x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x256x1024, .f32⟩
  | .hbm, ⟨35, _⟩ => ⟨S_, .f32⟩
  | .hbm, ⟨36, _⟩ => ⟨S4x256, .f32⟩
  | .hbm, ⟨37, _⟩ => ⟨S4x256x1, .f32⟩
  | .hbm, ⟨38, _⟩ => ⟨S_, .f32⟩
  | .hbm, ⟨39, _⟩ => ⟨S4x256x1, .f32⟩
  | .hbm, ⟨40, _⟩ => ⟨S4x256x1, .f32⟩
  | .hbm, ⟨41, _⟩ => ⟨S_, .f32⟩
  | .hbm, ⟨42, _⟩ => ⟨S4x256x1, .f32⟩
  | .hbm, ⟨43, _⟩ => ⟨S4x256x1, .f32⟩
  | .hbm, ⟨44, _⟩ => ⟨S4x256x1, .f32⟩
  | .hbm, ⟨45, _⟩ => ⟨S4x256x1024, .f32⟩
  | .hbm, ⟨46, _⟩ => ⟨S4x256x1024, .f32⟩
  | .hbm, ⟨47, _⟩ => ⟨S1x1x1024, .f32⟩
  | .hbm, ⟨48, _⟩ => ⟨S4x256x1024, .f32⟩
  | .hbm, ⟨49, _⟩ => ⟨S4x256x1024, .f32⟩
  | .hbm, ⟨50, _⟩ => ⟨S1x1x1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1x1024, .f32⟩
  | .hbm, ⟨56, _⟩ => ⟨S4x256x1024, .f32⟩
  | .hbm, ⟨57, _⟩ => ⟨S4x256x1024, .f32⟩
  | .hbm, ⟨58, _⟩ => ⟨S1x1x1024, .f32⟩
  | .hbm, ⟨59, _⟩ => ⟨S1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S4x8192x2560, .f32⟩
  | .hbm, ⟨64, _⟩ => ⟨S4x256x2560, .f32⟩
  | .hbm, ⟨65, _⟩ => ⟨S32768x2560, .f32⟩
  | .hbm, ⟨66, _⟩ => ⟨S1024x2560, .f32⟩
  | .hbm, ⟨67, _⟩ => ⟨S33792x2560, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel4.lean ====
abbrev S33792x512 : Shape := ⟨2, ![33792, 512]⟩
abbrev S1024x1024 : Shape := ⟨2, ![1024, 1024]⟩
abbrev S33792x1024 : Shape := ⟨2, ![33792, 1024]⟩
abbrev S8x1x1024 : Shape := ⟨3, ![8, 1, 1024]⟩
abbrev S512x1024 : Shape := ⟨2, ![512, 1024]⟩
abbrev S256x512 : Shape := ⟨2, ![256, 512]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S33792x512, .f32⟩
  | .hbm, ⟨1, _⟩ => ⟨S33792x512, .f32⟩
  | .hbm, ⟨2, _⟩ => ⟨S1024x1024, .f32⟩
  | .hbm, ⟨3, _⟩ => ⟨S33792x1024, .f32⟩
  | .hbm, ⟨4, _⟩ => ⟨S8x1x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S33792x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | _, _ => ⟨S33792x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S33792x512 : Shape := ⟨2, ![33792, 512]⟩
abbrev S1024x1024 : Shape := ⟨2, ![1024, 1024]⟩
abbrev S33792x1024 : Shape := ⟨2, ![33792, 1024]⟩
abbrev S8x1x1024 : Shape := ⟨3, ![8, 1, 1024]⟩
abbrev S32768x1024 : Shape := ⟨2, ![32768, 1024]⟩
abbrev S4x8192x1024 : Shape := ⟨3, ![4, 8192, 1024]⟩
abbrev S4x256x1024 : Shape := ⟨3, ![4, 256, 1024]⟩
abbrev S4x1x1024 : Shape := ⟨3, ![4, 1, 1024]⟩
abbrev S1x1x1024 : Shape := ⟨3, ![1, 1, 1024]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S33792x512, .f32⟩
  | .hbm, ⟨1, _⟩ => ⟨S33792x512, .f32⟩
  | .hbm, ⟨2, _⟩ => ⟨S1024x1024, .f32⟩
  | .hbm, ⟨3, _⟩ => ⟨S33792x1024, .f32⟩
  | .hbm, ⟨4, _⟩ => ⟨S8x1x1024, .f32⟩
  | .hbm, ⟨5, _⟩ => ⟨S32768x1024, .f32⟩
  | .hbm, ⟨6, _⟩ => ⟨S4x8192x1024, .f32⟩
  | .hbm, ⟨7, _⟩ => ⟨S1024x1024, .f32⟩
  | .hbm, ⟨8, _⟩ => ⟨S4x256x1024, .f32⟩
  | .hbm, ⟨9, _⟩ => ⟨S33792x1024, .f32⟩
  | .hbm, ⟨10, _⟩ => ⟨S33792x1024, .f32⟩
  | .hbm, ⟨11, _⟩ => ⟨S32768x1024, .f32⟩
  | .hbm, ⟨12, _⟩ => ⟨S4x8192x1024, .f32⟩
  | .hbm, ⟨13, _⟩ => ⟨S1024x1024, .f32⟩
  | .hbm, ⟨14, _⟩ => ⟨S4x256x1024, .f32⟩
  | .hbm, ⟨15, _⟩ => ⟨S4x1x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S4x256x1024, .f32⟩
  | .hbm, ⟨25, _⟩ => ⟨S32768x1024, .f32⟩
  | .hbm, ⟨26, _⟩ => ⟨S1024x1024, .f32⟩
  | .hbm, ⟨27, _⟩ => ⟨S33792x1024, .f32⟩
  | _, _ => ⟨S33792x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel5.lean ====
abbrev S33792x1024 : Shape := ⟨2, ![33792, 1024]⟩
abbrev S1024 : Shape := ⟨1, ![1024]⟩
abbrev S8x1x1024 : Shape := ⟨3, ![8, 1, 1024]⟩
abbrev S1024x1024 : Shape := ⟨2, ![1024, 1024]⟩
abbrev S1x1024 : Shape := ⟨2, ![1, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S33792x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_3 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S33792x1024 : Shape := ⟨2, ![33792, 1024]⟩
abbrev S1024 : Shape := ⟨1, ![1024]⟩
abbrev S8x1x1024 : Shape := ⟨3, ![8, 1, 1024]⟩
abbrev S1024x1024 : Shape := ⟨2, ![1024, 1024]⟩
abbrev S32768x1024 : Shape := ⟨2, ![32768, 1024]⟩
abbrev S4x8192x1024 : Shape := ⟨3, ![4, 8192, 1024]⟩
abbrev S4x256x1024 : Shape := ⟨3, ![4, 256, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x256 : Shape := ⟨2, ![4, 256]⟩
abbrev S4x256x1 : Shape := ⟨3, ![4, 256, 1]⟩

abbrev nBuf : Space → Nat
  | .hbm => 68
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x1024, .f32⟩
  | .hbm, ⟨5, _⟩ => ⟨S32768x1024, .f32⟩
  | .hbm, ⟨6, _⟩ => ⟨S4x8192x1024, .f32⟩
  | .hbm, ⟨7, _⟩ => ⟨S1024x1024, .f32⟩
  | .hbm, ⟨8, _⟩ => ⟨S4x256x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x8192x1024, .f32⟩
  | .hbm, ⟨30, _⟩ => ⟨S4x8192x1024, .f32⟩
  | .hbm, ⟨31, _⟩ => ⟨S4x1x1024, .f32⟩
  | .hbm, ⟨32, _⟩ => ⟨S4x8192x1024, .f32⟩
  | .hbm, ⟨33, _⟩ => ⟨S4x8192x1024, .f32⟩
  | .hbm, ⟨34, _⟩ => ⟨S4x256x1024, .f32⟩
  | .hbm, ⟨35, _⟩ => ⟨S_, .f32⟩
  | .hbm, ⟨36, _⟩ => ⟨S4x256, .f32⟩
  | .hbm, ⟨37, _⟩ => ⟨S4x256x1, .f32⟩
  | .hbm, ⟨38, _⟩ => ⟨S_, .f32⟩
  | .hbm, ⟨39, _⟩ => ⟨S4x256x1, .f32⟩
  | .hbm, ⟨40, _⟩ => ⟨S4x256x1, .f32⟩
  | .hbm, ⟨41, _⟩ => ⟨S_, .f32⟩
  | .hbm, ⟨42, _⟩ => ⟨S4x256x1, .f32⟩
  | .hbm, ⟨43, _⟩ => ⟨S4x256x1, .f32⟩
  | .hbm, ⟨44, _⟩ => ⟨S4x256x1, .f32⟩
  | .hbm, ⟨45, _⟩ => ⟨S4x256x1024, .f32⟩
  | .hbm, ⟨46, _⟩ => ⟨S4x256x1024, .f32⟩
  | .hbm, ⟨47, _⟩ => ⟨S1x1x1024, .f32⟩
  | .hbm, ⟨48, _⟩ => ⟨S4x256x1024, .f32⟩
  | .hbm, ⟨49, _⟩ => ⟨S4x256x1024, .f32⟩
  | .hbm, ⟨50, _⟩ => ⟨S1x1x1024, .f32⟩
  | .hbm, ⟨51, _⟩ => ⟨S1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1x1024, .f32⟩
  | .hbm, ⟨56, _⟩ => ⟨S4x256x1024, .f32⟩
  | .hbm, ⟨57, _⟩ => ⟨S4x256x1024, .f32⟩
  | .hbm, ⟨58, _⟩ => ⟨S1x1x1024, .f32⟩
  | .hbm, ⟨59, _⟩ => ⟨S1024, .f32⟩
  | .hbm, ⟨60, _⟩ => ⟨S1x1x1024, .f32⟩
  | .hbm, ⟨61, _⟩ => ⟨S4x256x1024, .f32⟩
  | .hbm, ⟨62, _⟩ => ⟨S4x256x1024, .f32⟩
  | .hbm, ⟨63, _⟩ => ⟨S4x8192x1024, .f32⟩
  | .hbm, ⟨64, _⟩ => ⟨S4x256x1024, .f32⟩
  | .hbm, ⟨65, _⟩ => ⟨S32768x1024, .f32⟩
  | .hbm, ⟨66, _⟩ => ⟨S1024x1024, .f32⟩
  | .hbm, ⟨67, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel6.lean ====
abbrev S33792x256 : Shape := ⟨2, ![33792, 256]⟩
abbrev S33792x768 : Shape := ⟨2, ![33792, 768]⟩
abbrev S1024x1024 : Shape := ⟨2, ![1024, 1024]⟩
abbrev S33792x1024 : Shape := ⟨2, ![33792, 1024]⟩
abbrev S8x1x1024 : Shape := ⟨3, ![8, 1, 1024]⟩
abbrev S256x1024 : Shape := ⟨2, ![256, 1024]⟩
abbrev S768x1024 : Shape := ⟨2, ![768, 1024]⟩
abbrev S256x256 : Shape := ⟨2, ![256, 256]⟩
abbrev S256x768 : Shape := ⟨2, ![256, 768]⟩
abbrev S1x1x1024 : Shape := ⟨3, ![1, 1, 1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S33792x256, .f32⟩
  | .hbm, ⟨1, _⟩ => ⟨S33792x768, .f32⟩
  | .hbm, ⟨2, _⟩ => ⟨S1024x1024, .f32⟩
  | .hbm, ⟨3, _⟩ => ⟨S33792x1024, .f32⟩
  | .hbm, ⟨4, _⟩ => ⟨S8x1x1024, .f32⟩
  | .hbm, ⟨5, _⟩ => ⟨S1024x1024, .bf16⟩
  | .hbm, ⟨6, _⟩ => ⟨S256x1024, .bf16⟩
  | .hbm, ⟨7, _⟩ => ⟨S768x1024, .bf16⟩
  | .hbm, ⟨8, _⟩ => ⟨S33792x1024, .f32⟩
  | .local _ .vmem, ⟨0, _⟩ => ⟨S256x256, .f32⟩
  | .local _ .vmem, ⟨1, _⟩ => ⟨S256x256, .f32⟩
  | .local _ .vmem, ⟨2, _⟩ => ⟨S256x768, .f32⟩
  | .local _ .vmem, ⟨3, _⟩ => ⟨S256x768, .f32⟩
  | .local _ .vmem, ⟨4, _⟩ => ⟨S256x1024, .bf16⟩
  | .local _ .vmem, ⟨5, _⟩ => ⟨S768x1024, .bf16⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | _, _ => ⟨S33792x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c128_i32 : BitVec 32 := 128#32
  let v0 : BitVec 1 := Scalar.cmpi .slt arg0 c128_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.select v0 v17 c4_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S33792x256 : Shape := ⟨2, ![33792, 256]⟩
abbrev S33792x768 : Shape := ⟨2, ![33792, 768]⟩
abbrev S1024x1024 : Shape := ⟨2, ![1024, 1024]⟩
abbrev S33792x1024 : Shape := ⟨2, ![33792, 1024]⟩
abbrev S8x1x1024 : Shape := ⟨3, ![8, 1, 1024]⟩
abbrev S32768x1024 : Shape := ⟨2, ![32768, 1024]⟩
abbrev S4x8192x1024 : Shape := ⟨3, ![4, 8192, 1024]⟩
abbrev S4x256x1024 : Shape := ⟨3, ![4, 256, 1024]⟩
abbrev S4x1x1024 : Shape := ⟨3, ![4, 1, 1024]⟩
abbrev S1x1x1024 : Shape := ⟨3, ![1, 1, 1024]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S33792x256, .f32⟩
  | .hbm, ⟨1, _⟩ => ⟨S33792x768, .f32⟩
  | .hbm, ⟨2, _⟩ => ⟨S1024x1024, .f32⟩
  | .hbm, ⟨3, _⟩ => ⟨S33792x1024, .f32⟩
  | .hbm, ⟨4, _⟩ => ⟨S8x1x1024, .f32⟩
  | .hbm, ⟨5, _⟩ => ⟨S32768x1024, .f32⟩
  | .hbm, ⟨6, _⟩ => ⟨S4x8192x1024, .f32⟩
  | .hbm, ⟨7, _⟩ => ⟨S1024x1024, .f32⟩
  | .hbm, ⟨8, _⟩ => ⟨S4x256x1024, .f32⟩
  | .hbm, ⟨9, _⟩ => ⟨S33792x1024, .f32⟩
  | .hbm, ⟨10, _⟩ => ⟨S33792x1024, .f32⟩
  | .hbm, ⟨11, _⟩ => ⟨S32768x1024, .f32⟩
  | .hbm, ⟨12, _⟩ => ⟨S4x8192x1024, .f32⟩
  | .hbm, ⟨13, _⟩ => ⟨S1024x1024, .f32⟩
  | .hbm, ⟨14, _⟩ => ⟨S4x256x1024, .f32⟩
  | .hbm, ⟨15, _⟩ => ⟨S4x1x1024, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S1x1x1024, .f32⟩
  | .hbm, ⟨20, _⟩ => ⟨S1024, .f32⟩
  | .hbm, ⟨21, _⟩ => ⟨S1x1x1024, .f32⟩
  | .hbm, ⟨22, _⟩ => ⟨S4x256x1024, .f32⟩
  | .hbm, ⟨23, _⟩ => ⟨S4x256x1024, .f32⟩
  | .hbm, ⟨24, _⟩ => ⟨S4x256x1024, .f32⟩
  | .hbm, ⟨25, _⟩ => ⟨S32768x1024, .f32⟩
  | .hbm, ⟨26, _⟩ => ⟨S1024x1024, .f32⟩
  | .hbm, ⟨27, _⟩ => ⟨S33792x1024, .f32⟩
  | _, _ => ⟨S33792x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Proof.Softmax.lean ====
/- The running softmax over extended reals: a maximum, a normaliser and a weighted sum kept while the keys are read chunk by
   chunk, against the softmax of all keys at once; and the normalisation of a row of differences of two such averages. -/
module

public import Idealize.ShloMosaic.PureOps.Ideal.Laws
public import Idealize.ShloMosaic.Lib.IdealHost

@[expose] public section

set_option maxRecDepth 16384

noncomputable section

namespace Cert.Softmax

open Idealize.ShloMosaic

/-! ## Sums of extended reals -/

/-- A finite nonnegative factor distributes over a sum. -/
theorem mul_sum_of_nonneg {ι : Type} (c : EReal) (h0 : 0 ≤ c) (ht : c ≠ ⊤) (S : Finset ι) (f : ι → EReal) :
    c * ∑ k ∈ S, f k = ∑ k ∈ S, c * f k := by
  classical
  induction S using Finset.induction_on with
  | empty => simp
  | insert a S ha ih => rw [Finset.sum_insert ha, Finset.sum_insert ha, EReal.left_distrib_of_nonneg_of_ne_top h0 ht, ih]

/-- A sum of real numbers, read among the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- An extended real that is one of the two infinities. -/
def Inf (x : EReal) : Prop := x = ⊤ ∨ x = ⊥

theorem inf_add_left {x : EReal} (h : Inf x) (y : EReal) : Inf (x + y) := by
  rcases h with rfl | rfl
  · induction y using EReal.rec with
    | bot => right; simp
    | coe r => left; simp
    | top => left; simp
  · right; simp

/-- A sum with an infinite summand is infinite. -/
theorem inf_sum {ι : Type} (S : Finset ι) (f : ι → EReal) (k : ι) (hk : k ∈ S) (h : Inf (f k)) : Inf (∑ k ∈ S, f k) := by
  classical
  rw [← Finset.add_sum_erase S f hk]
  exact inf_add_left h _

theorem inf_mul {x : EReal} (h : Inf x) {r : ℝ} (hr : r ≠ 0) : Inf (x * (r : EReal)) := by
  rcases lt_or_gt_of_ne hr with hr | hr
  · rcases h with rfl | rfl
    · right; exact EReal.top_mul_coe_of_neg hr
    · left; exact EReal.bot_mul_coe_of_neg hr
  · rcases h with rfl | rfl
    · left; exact EReal.top_mul_coe_of_pos hr
    · right; exact EReal.bot_mul_coe_of_pos hr

/-! ## The exponential -/

theorem exp_nonneg (x : EReal) : 0 ≤ Ideal.exp x := by
  induction x using EReal.rec with
  | bot => exact le_rfl
  | coe r => exact EReal.coe_nonneg.mpr (Real.exp_pos r).le
  | top => exact le_top

theorem exp_coe (r : ℝ) : Ideal.exp (r : EReal) = (Real.exp r : EReal) := rfl
theorem exp_bot : Ideal.exp ⊥ = 0 := rfl

/-- The exponential of a difference whose subtrahend is the larger, and not `⊥`, is a real number. -/
theorem exp_sub_real {s m : EReal} (h : s ≤ m) (hm : m ≠ ⊥) : ∃ r : ℝ, Ideal.exp (s - m) = (r : EReal) := by
  induction m using EReal.rec with
  | bot => exact absurd rfl hm
  | top => exact ⟨0, by rw [EReal.sub_top, exp_bot]; rfl⟩
  | coe b =>
    induction s using EReal.rec with
    | bot => exact ⟨0, by rw [EReal.bot_sub, exp_bot]; rfl⟩
    | top => exact absurd (top_le_iff.mp h) (EReal.coe_ne_top b)
    | coe a => exact ⟨Real.exp (a - b), by rw [← EReal.coe_sub, exp_coe]⟩

/-- Moving the shift: what was shifted by `m` and is scaled by `exp (m - m')` is shifted by `m'`. -/
theorem exp_shift {s m m' : EReal} (h : s ≤ m) (h' : m ≤ m') (hm : m ≠ ⊥) :
    Ideal.exp (m - m') * Ideal.exp (s - m) = Ideal.exp (s - m') := by
  induction m' using EReal.rec with
  | bot => exact absurd (le_bot_iff.mp h') hm
  | top => rw [EReal.sub_top, EReal.sub_top, exp_bot, zero_mul]
  | coe c =>
    induction m using EReal.rec with
    | bot => exact absurd rfl hm
    | top => exact absurd (top_le_iff.mp h') (EReal.coe_ne_top c)
    | coe b =>
      induction s using EReal.rec with
      | bot => rw [EReal.bot_sub, EReal.bot_sub, exp_bot, mul_zero]
      | top => exact absurd (top_le_iff.mp h) (EReal.coe_ne_top b)
      | coe a =>
        rw [← EReal.coe_sub, ← EReal.coe_sub, ← EReal.coe_sub, exp_coe, exp_coe, exp_coe, ← EReal.coe_mul, ← Real.exp_add]
        congr 2; ring

/-! ## The running softmax -/

/-- The running maximum after the first `N` keys, from the start value `b`. -/
def mx (b : EReal) (s : ℕ → EReal) (N : ℕ) : EReal := max b ((Finset.range N).sup s)
/-- The normaliser after the first `N` keys. -/
def nm (b : EReal) (s : ℕ → EReal) (N : ℕ) : EReal := ∑ k ∈ Finset.range N, Ideal.exp (s k - mx b s N)
/-- The weighted sum of values after the first `N` keys. -/
def ws (b : EReal) (s v : ℕ → EReal) (N : ℕ) : EReal := ∑ k ∈ Finset.range N, Ideal.exp (s k - mx b s N) * v k

theorem sup_range_add (s : ℕ → EReal) (N T : ℕ) :
    (Finset.range (N + T)).sup s = max ((Finset.range N).sup s) ((Finset.range T).sup fun j => s (N + j)) := by
  induction T with
  | zero => simp
  | succ T ih => rw [← add_assoc, Finset.range_add_one, Finset.range_add_one, Finset.sup_insert, Finset.sup_insert, ih]; exact max_left_comm _ _ _

theorem sum_range_add (f : ℕ → EReal) (N T : ℕ) :
    ∑ k ∈ Finset.range (N + T), f k = ∑ k ∈ Finset.range N, f k + ∑ j : Fin T, f (N + j.val) := by
  rw [Finset.sum_range_add, Finset.sum_range (fun j => f (N + j))]

/-- The maximum of a chunk, computed as a fold over its columns. -/
theorem fold_eq_sup (T : ℕ) (g : ℕ → EReal) :
    (Finset.univ : Finset (Fin T)).fold max ⊥ (fun j => g j.val) = (Finset.range T).sup g := by
  rw [show (Finset.range T).sup g = (Finset.univ : Finset (Fin T)).sup (fun j => g j.val) from ?_]
  · rfl
  · apply le_antisymm
    · exact Finset.sup_le fun k hk => Finset.le_sup (f := fun j : Fin T => g j.val) (Finset.mem_univ (⟨k, Finset.mem_range.mp hk⟩ : Fin T))
    · exact Finset.sup_le fun j _ => Finset.le_sup (f := g) (Finset.mem_range.mpr j.isLt)

theorem mx_step (b : EReal) (s : ℕ → EReal) (N T : ℕ) :
    max (mx b s N) ((Finset.range T).sup fun j => s (N + j)) = mx b s (N + T) := by
  unfold mx; rw [sup_range_add, max_assoc]

theorem le_mx (b : EReal) (s : ℕ → EReal) (N k : ℕ) (h : k < N) : s k ≤ mx b s N :=
  (Finset.le_sup (Finset.mem_range.mpr h)).trans (le_max_right _ _)

theorem mx_ne_bot {b : EReal} (hb : b ≠ ⊥) (s : ℕ → EReal) (N : ℕ) : mx b s N ≠ ⊥ :=
  fun h => hb (le_bot_iff.mp (h ▸ le_max_left _ _))

theorem mx_mono (b : EReal) (s : ℕ → EReal) (N T : ℕ) : mx b s N ≤ mx b s (N + T) := by
  rw [← mx_step]; exact le_max_left _ _

/-- The normaliser after one more chunk of `T` keys. -/
theorem nm_step {b : EReal} (hb : b ≠ ⊥) (s : ℕ → EReal) (N T : ℕ) :
    Ideal.exp (mx b s N - mx b s (N + T)) * nm b s N + ∑ j : Fin T, Ideal.exp (s (N + j.val) - mx b s (N + T)) = nm b s (N + T) := by
  obtain ⟨r, hr⟩ := exp_sub_real (mx_mono b s N T) (mx_ne_bot hb s (N + T))
  unfold nm
  rw [sum_range_add, mul_sum_of_nonneg _ (exp_nonneg _) (by rw [hr]; exact EReal.coe_ne_top r)]
  refine congrArg (· + _) (Finset.sum_congr rfl fun k hk => ?_)
  exact exp_shift (le_mx b s N k (Finset.mem_range.mp hk)) (mx_mono b s N T) (mx_ne_bot hb s N)

/-- The weighted sum after one more chunk of `T` keys. -/
theorem ws_step {b : EReal} (hb : b ≠ ⊥) (s v : ℕ → EReal) (N T : ℕ) :
    Ideal.exp (mx b s N - mx b s (N + T)) * ws b s v N + ∑ j : Fin T, Ideal.exp (s (N + j.val) - mx b s (N + T)) * v (N + j.val)
      = ws b s v (N + T) := by
  obtain ⟨r, hr⟩ := exp_sub_real (mx_mono b s N T) (mx_ne_bot hb s (N + T))
  unfold ws
  rw [sum_range_add, mul_sum_of_nonneg _ (exp_nonneg _) (by rw [hr]; exact EReal.coe_ne_top r)]
  refine congrArg (· + _) (Finset.sum_congr rfl fun k hk => ?_)
  rw [← mul_assoc, exp_shift (le_mx b s N k (Finset.mem_range.mp hk)) (mx_mono b s N T) (mx_ne_bot hb s N)]

/-! ## One softmax, against the reference's -/

/-- The reference's weight of key `k` among `N`: the exponential shifted by the largest score, over the sum of them. -/
def wt (s : ℕ → EReal) (N k : ℕ) : EReal :=
  Ideal.div (Ideal.exp (s k - (Finset.range N).sup s)) (∑ j ∈ Finset.range N, Ideal.exp (s j - (Finset.range N).sup s))

theorem div_zero_zero : Ideal.div 0 0 = ⊥ := by unfold Ideal.div; rw [if_pos rfl, if_neg (lt_irrefl _)]

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The running softmax's average and the reference's weights: either the weights are real numbers and the average is the
    values' average by those weights, or every weight is `⊥` and so is the average. -/
theorem average (b : ℝ) (s : ℕ → EReal) (N : ℕ) :
    (∃ r : ℕ → ℝ, (∀ k < N, wt s N k = (r k : EReal))
        ∧ ∀ v : ℕ → ℝ, Ideal.div (ws (b : EReal) s (fun k => (v k : EReal)) N) (nm (b : EReal) s N)
            = ((∑ k ∈ Finset.range N, r k * v k : ℝ) : EReal))
    ∨ ((∀ k < N, wt s N k = ⊥)
        ∧ ∀ v : ℕ → ℝ, Ideal.div (ws (b : EReal) s (fun k => (v k : EReal)) N) (nm (b : EReal) s N) = ⊥) := by
  by_cases hM : (∀ k < N, Ideal.exp (s k - (Finset.range N).sup s) = 0) ∧ ∀ k < N, Ideal.exp (s k - mx (b : EReal) s N) = 0
  · right
    constructor
    · intro k hk
      unfold wt
      rw [hM.1 k hk, Finset.sum_eq_zero fun j hj => hM.1 j (Finset.mem_range.mp hj), div_zero_zero]
    · intro v
      unfold ws nm
      rw [Finset.sum_eq_zero fun j hj => by rw [hM.2 j (Finset.mem_range.mp hj), zero_mul],
        Finset.sum_eq_zero fun j hj => hM.2 j (Finset.mem_range.mp hj), div_zero_zero]
  · left
    -- the largest score is a real number
    obtain ⟨μ, hμ⟩ : ∃ μ : ℝ, (Finset.range N).sup s = (μ : EReal) := by
      generalize h : (Finset.range N).sup s = M
      rcases (show M = ⊥ ∨ (∃ μ : ℝ, M = (μ : EReal)) ∨ M = ⊤ by
        induction M using EReal.rec with
        | bot => exact .inl rfl
        | coe μ => exact .inr (.inl ⟨μ, rfl⟩)
        | top => exact .inr (.inr rfl)) with rfl | ⟨μ, rfl⟩ | rfl
      · refine absurd ⟨fun k hk => ?_, fun k hk => ?_⟩ hM
        · have : s k = ⊥ := le_bot_iff.mp (h ▸ Finset.le_sup (Finset.mem_range.mpr hk))
          rw [this, EReal.bot_sub, exp_bot]
        · have : s k = ⊥ := le_bot_iff.mp (h ▸ Finset.le_sup (Finset.mem_range.mpr hk))
          rw [this, EReal.bot_sub, exp_bot]
      · exact ⟨μ, rfl⟩
      · refine absurd ⟨fun k _ => ?_, fun k _ => ?_⟩ hM
        · rw [h, EReal.sub_top, exp_bot]
        · rw [show mx (b : EReal) s N = ⊤ by unfold mx; rw [h]; exact max_eq_right le_top, EReal.sub_top, exp_bot]
    have hne : N ≠ 0 := by
      rintro rfl
      rw [Finset.range_zero, Finset.sup_empty] at hμ
      exact EReal.coe_ne_bot μ hμ.symm
    obtain ⟨k0, hk0, hs0⟩ := Finset.exists_mem_eq_sup (Finset.range N) (Finset.nonempty_range_iff.mpr hne) s
    have hm : mx (b : EReal) s N = ((max b μ : ℝ) : EReal) := by unfold mx; rw [hμ]; exact (EReal.coe_strictMono.monotone.map_max).symm
    have hle : ∀ k < N, s k ≤ (μ : EReal) := fun k hk => hμ ▸ Finset.le_sup (Finset.mem_range.mpr hk)
    -- the shifted exponentials, as real numbers
    obtain ⟨e, he⟩ : ∃ e : ℕ → ℝ, ∀ k < N, Ideal.exp (s k - (μ : EReal)) = (e k : EReal) :=
      ⟨fun k => (Ideal.exp (s k - (μ : EReal))).toReal, fun k hk => by
        obtain ⟨r, hr⟩ := exp_sub_real (hle k hk) (EReal.coe_ne_bot μ)
        show Ideal.exp (s k - (μ : EReal)) = ((Ideal.exp (s k - (μ : EReal))).toReal : EReal)
        rw [hr, EReal.toReal_coe]⟩
    have he0 : ∀ k < N, 0 ≤ e k := fun k hk => EReal.coe_nonneg.mp (he k hk ▸ exp_nonneg _)
    have he1 : e k0 = 1 := by
      have := he k0 (Finset.mem_range.mp hk0)
      rw [← hs0, hμ, ← EReal.coe_sub, sub_self, exp_coe, Real.exp_zero] at this
      exact (EReal.coe_eq_coe_iff.mp this).symm
    have hL : 0 < ∑ k ∈ Finset.range N, e k :=
      Finset.sum_pos' (fun k hk => he0 k (Finset.mem_range.mp hk)) ⟨k0, hk0, by rw [he1]; exact one_pos⟩
    have hc : Ideal.exp ((μ : EReal) - ((max b μ : ℝ) : EReal)) = (Real.exp (μ - max b μ) : EReal) := by
      rw [← EReal.coe_sub, exp_coe]
    have he' : ∀ k < N, Ideal.exp (s k - mx (b : EReal) s N) = ((Real.exp (μ - max b μ) * e k : ℝ) : EReal) := fun k hk => by
      rw [hm, ← exp_shift (hle k hk) (EReal.coe_le_coe_iff.mpr (le_max_right b μ)) (EReal.coe_ne_bot μ), hc, he k hk, EReal.coe_mul]
    refine ⟨fun k => e k / ∑ j ∈ Finset.range N, e j, fun k hk => ?_, fun v => ?_⟩
    · unfold wt
      rw [hμ, he k hk, Finset.sum_congr rfl fun j hj => he j (Finset.mem_range.mp hj), ← coe_sum, div_real _ _ hL.ne']
    · unfold ws nm
      have hcp := Real.exp_pos (μ - max b μ)
      rw [Finset.sum_congr rfl fun j hj => (congrArg (· * (v j : EReal)) (he' j (Finset.mem_range.mp hj))).trans (EReal.coe_mul _ _).symm,
        Finset.sum_congr rfl fun j hj => he' j (Finset.mem_range.mp hj), ← coe_sum, ← coe_sum, ← Finset.mul_sum,
        div_real _ _ (mul_pos hcp hL).ne']
      congr 1
      rw [Finset.sum_congr rfl fun j _ => mul_assoc (Real.exp (μ - max b μ)) (e j) (v j), ← Finset.mul_sum,
        mul_div_mul_left _ _ hcp.ne', Finset.sum_div]
      exact Finset.sum_congr rfl fun j _ => by ring

/-! ## The difference of two softmaxes, normalised -/

/-- The difference of two running averages against the average by the difference of the two weights: they agree for every
    row of values, or both weights and averages are one infinity `c`, the same for all keys and all values. -/
theorem difference (b lam : ℝ) (s t : ℕ → EReal) (N : ℕ) :
    (∀ v : ℕ → ℝ, Ideal.div (ws b s (fun k => (v k : EReal)) N) (nm b s N) - lam * Ideal.div (ws b t (fun k => (v k : EReal)) N) (nm b t N)
        = ∑ k ∈ Finset.range N, (wt s N k - lam * wt t N k) * (v k : EReal))
    ∨ ∃ c : EReal, Inf c ∧ (∀ k < N, wt s N k - lam * wt t N k = c)
        ∧ ∀ v : ℕ → ℝ, Ideal.div (ws b s (fun k => (v k : EReal)) N) (nm b s N)
            - lam * Ideal.div (ws b t (fun k => (v k : EReal)) N) (nm b t N) = c := by
  have agree : ∀ (r : ℕ → ℝ) (q : ℕ → EReal) (v : ℕ → ℝ) (B : EReal), (∀ k < N, (lam : EReal) * q k = 0) → (lam : EReal) * B = 0 →
      ((∑ k ∈ Finset.range N, r k * v k : ℝ) : EReal) - lam * B = ∑ k ∈ Finset.range N, ((r k : EReal) - lam * q k) * (v k : EReal) := by
    intro r q v B hq hB
    rw [hB, sub_zero, coe_sum]
    exact Finset.sum_congr rfl fun k hk => by rw [hq k (Finset.mem_range.mp hk), sub_zero, EReal.coe_mul]
  rcases average b s N with ⟨r, hr, hA⟩ | ⟨hr, hA⟩
  · rcases average b t N with ⟨q, hq, hB⟩ | ⟨hq, hB⟩
    · left; intro v
      rw [hA v, hB v, ← EReal.coe_mul, ← EReal.coe_sub, Finset.mul_sum, ← Finset.sum_sub_distrib, coe_sum]
      refine Finset.sum_congr rfl fun k hk => ?_
      rw [hr k (Finset.mem_range.mp hk), hq k (Finset.mem_range.mp hk), ← EReal.coe_mul, ← EReal.coe_sub, ← EReal.coe_mul]
      congr 1; ring
    · by_cases h0 : lam = 0
      · left; intro v
        have hz : (lam : EReal) = 0 := by rw [h0]; rfl
        rw [hA v, agree r (wt t N) v _ (fun k _ => by rw [hz, zero_mul]) (by rw [hz, zero_mul])]
        exact Finset.sum_congr rfl fun k hk => by rw [hr k (Finset.mem_range.mp hk)]
      · right
        have hinf : Inf ((lam : EReal) * ⊥) := by rw [mul_comm]; exact inf_mul (.inr rfl) h0
        refine ⟨- ((lam : EReal) * ⊥), ?_, fun k hk => ?_, fun v => ?_⟩
        · rcases hinf with h | h <;> rw [h]
          · right; rfl
          · left; rfl
        · rw [hr k hk, hq k hk, sub_eq_add_neg]
          rcases hinf with h | h <;> rw [h] <;> simp
        · rw [hA v, hB v, sub_eq_add_neg]
          rcases hinf with h | h <;> rw [h] <;> simp
  · right
    refine ⟨⊥, .inr rfl, fun k hk => ?_, fun v => ?_⟩
    · rw [hr k hk, EReal.bot_sub]
    · rw [hA v, EReal.bot_sub]

/-- A row divided by its root mean square. -/
def rms (n e : EReal) {d : ℕ} (o : Fin d → EReal) (j : Fin d) : EReal :=
  o j * Ideal.rsqrt (Ideal.div (∑ k, o k * o k) n + e)

/-- A row with an infinite entry is normalised to zero. -/
theorem rms_of_inf (n : ℝ) (hn : 0 < n) (e : ℝ) {d : ℕ} (o : Fin d → EReal) (k : Fin d) (hk : Inf (o k)) (j : Fin d) :
    rms n e o j = 0 := by
  have hsq : ∀ x : EReal, 0 ≤ x * x := fun x => by
    rcases le_total 0 x with h | h
    · exact mul_nonneg h h
    · exact EReal.mul_nonneg_iff.mpr (.inr ⟨h, h⟩)
  have htop : ∑ k, o k * o k = ⊤ := by
    have h1 : o k * o k = ⊤ := by rcases hk with h | h <;> rw [h] <;> rfl
    refine top_le_iff.mp (h1 ▸ Finset.single_le_sum (f := fun k => o k * o k) (fun i _ => hsq (o i)) (Finset.mem_univ k))
  unfold rms
  have hdiv : Ideal.div ⊤ (n : EReal) = ⊤ := by
    unfold Ideal.div
    rw [if_neg (by exact_mod_cast hn.ne'), ← EReal.coe_inv]
    exact EReal.top_mul_coe_of_pos (inv_pos.mpr hn)
  rw [htop, hdiv, EReal.top_add_coe]
  exact mul_zero _

/-- A row of zeros is normalised to zero. -/
theorem rms_of_zero (n e : EReal) {d : ℕ} (o : Fin d → EReal) (h : ∀ k, o k = 0) (j : Fin d) : rms n e o j = 0 := by
  unfold rms; rw [h j, zero_mul]

/-- The normalised row of differences of running averages is the normalised row of averages by the weights' difference. -/
theorem rms_difference (b lam n : ℝ) (hn : 0 < n) (e : ℝ) (s t : ℕ → EReal) (N : ℕ) {d : ℕ} (v : Fin d → ℕ → ℝ) (j : Fin d) :
    rms n e (fun i => Ideal.div (ws b s (fun k => (v i k : EReal)) N) (nm b s N)
        - lam * Ideal.div (ws b t (fun k => (v i k : EReal)) N) (nm b t N)) j
      = rms n e (fun i => ∑ k ∈ Finset.range N, (wt s N k - lam * wt t N k) * (v i k : EReal)) j := by
  rcases difference b lam s t N with h | ⟨c, hc, hw, hv⟩
  · exact congrArg (fun o => rms n e o j) (funext fun i => h (v i))
  · rw [rms_of_inf n hn e _ j (by rw [hv (v j)]; exact hc) j]
    by_cases hz : ∀ i, ∀ k < N, v i k = 0
    · refine (rms_of_zero n e _ (fun i => Finset.sum_eq_zero fun k hk => ?_) j).symm
      rw [hz i k (Finset.mem_range.mp hk)]; exact mul_zero _
    · push Not at hz
      obtain ⟨i, k, hk, hne⟩ := hz
      refine (rms_of_inf n hn e _ i (inf_sum _ _ k (Finset.mem_range.mpr hk) ?_) j).symm
      rw [hw k hk]
      exact inf_mul hc hne

/-! ## The literals -/

/-- The start value of the running maximum is a real number. -/
theorem start_real : ∃ b : ℝ, Ideal.ofBits .f32 0xFF61B1E6#32 = (b : EReal) := by
  simp only [Ideal.ofBits, Ideal.ieee]
  exact ⟨_, rfl⟩

/-- The normalisation's small addend is a real number. -/
theorem eps_real : ∃ e : ℝ, Ideal.ofBits .f32 0x358637BD#32 = (e : EReal) := by
  simp only [Ideal.ofBits, Ideal.ieee]
  exact ⟨_, rfl⟩

/-- The pattern of the head width. -/
theorem width_real : Ideal.ofBits .f32 0x43000000#32 = ((128 : ℝ) : EReal) := by
  simp [Ideal.ofBits, Ideal.ieee, -EReal.coe_mul]; norm_num

/-- The pattern of the attention's scale. -/
theorem scale_real : Ideal.ofBits .f32 0x3E000000#32 = (((1 : ℝ) / 8 : ℝ) : EReal) := by
  simp [Ideal.ofBits, Ideal.ieee, -EReal.coe_mul]; norm_num

/-- The pattern from which a maximum is taken is the least extended real. -/
theorem low_bot : Ideal.ofBits .f32 0xFF800000#32 = ⊥ := by
  simp [Ideal.ofBits, Ideal.ieee]

end Cert.Softmax
-- ==== Proof.Body.lean ====
/- What one grid point of the attention kernel stores, element by element: the normalised difference of two running
   softmax averages of the value rows it reads. -/
module

public import proofs.«01_k».proof.Proof.Gen.KernelIdeal.Value
public import proofs.«01_k».proof.Proof.Softmax
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen Cert.Softmax Idealize.ShloMosaic Idealize.ShloMosaic.TcCoe Idealize.SL.Sem

/-! ## Scores and values by key number -/

/-- The value the running maximum starts from. -/
abbrev b0 : EReal := Ideal.ofBits .f32 0xFF61B1E6#32

/-- The scores of query row `r` of a block: keys `0 … 255` are the context's, the later ones the sequence's. -/
def score (q : FVec Ideal S1024x128 .bf16) (kc : FVec Ideal S256x128 .bf16) (kl : FVec Ideal S8192x128 .bf16) (r : Fin 1024) (k : ℕ) : EReal :=
  if h : k < 256 then ∑ l : Fin 128, q (ix2 r l) * kc (ix2 (⟨k, h⟩ : Fin 256) l)
  else if h' : k - 256 < 8192 then ∑ l : Fin 128, q (ix2 r l) * kl (ix2 (⟨k - 256, h'⟩ : Fin 8192) l)
  else 0

/-- Column `e` of the value rows, numbered like the keys. -/
def val (vc : FVec Ideal S256x128 .bf16) (vl : FVec Ideal S8192x128 .bf16) (e : Fin 128) (k : ℕ) : EReal :=
  if h : k < 256 then vc (ix2 (⟨k, h⟩ : Fin 256) e)
  else if h' : k - 256 < 8192 then vl (ix2 (⟨k - 256, h'⟩ : Fin 8192) e)
  else 0

/-- A running state holds, at row `r` and for every column, the running softmax over the first `N` keys. -/
def Holds (s : Fin 1024 → ℕ → EReal) (v : Fin 128 → ℕ → EReal) (N : ℕ)
    (m l : FVec Ideal S1024x1 .f32) (a : FVec Ideal S1024x128 .f32) : Prop :=
  ∀ r : Fin 1024, m (ix2 r (0 : Fin 1)) = mx b0 (s r) N ∧ l (ix2 r (0 : Fin 1)) = nm b0 (s r) N
    ∧ ∀ e : Fin 128, a (ix2 r e) = ws b0 (s r) (v e) N

theorem b0_ne : b0 ≠ ⊥ := by obtain ⟨b, hb⟩ := start_real; unfold b0; rw [hb]; exact EReal.coe_ne_bot b

/-- One more chunk: the three updates of the running softmax, read at an element. -/
theorem update {s : ℕ → EReal} {v : Fin 128 → ℕ → EReal} {N T : ℕ} {m l : EReal} {a : Fin 128 → EReal}
    (hm : m = mx b0 s N) (hl : l = nm b0 s N) (ha : ∀ e, a e = ws b0 s (v e) N)
    (c : Fin T → EReal) (hc : ∀ j, c j = s (N + j.val)) (w : Fin T → Fin 128 → EReal) (hw : ∀ j e, w j e = v e (N + j.val)) :
    max m ((Finset.univ : Finset (Fin T)).fold max (Ideal.ofBits .f32 0xFF800000#32) c) = mx b0 s (N + T)
    ∧ Ideal.exp (m - mx b0 s (N + T)) * l + ∑ j, Ideal.exp (c j - mx b0 s (N + T)) = nm b0 s (N + T)
    ∧ ∀ e, Ideal.exp (m - mx b0 s (N + T)) * a e + ∑ j, Ideal.exp (c j - mx b0 s (N + T)) * w j e = ws b0 s (v e) (N + T) := by
  refine ⟨?_, ?_, fun e => ?_⟩
  · rw [low_bot, funext hc, fold_eq_sup T fun j => s (N + j), hm, mx_step]
  · rw [hm, hl, ← nm_step b0_ne s N T]
    exact congrArg _ (Finset.sum_congr rfl fun j _ => by rw [hc j])
  · rw [hm, ha e, ← ws_step b0_ne s (v e) N T]
    exact congrArg _ (Finset.sum_congr rfl fun j _ => by rw [hc j, hw j e])

/-! ## The chunks -/

/-- The context chunk's update from a state over no keys. -/
theorem context_step (q : FVec Ideal S1024x128 .bf16) (kc vc : FVec Ideal S256x128 .bf16) (kl vl : FVec Ideal S8192x128 .bf16)
    (m l : FVec Ideal S1024x1 .f32) (a : FVec Ideal S1024x128 .f32) (h : Holds (score q kc kl) (val vc vl) 0 m l a) :
    Holds (score q kc kl) (val vc vl) 256 (k0_pay18 (F := Ideal) q m kc) (k0_pay21 (F := Ideal) q m l kc)
      (k0_pay22 (F := Ideal) q m a kc vc) := by
  intro r
  obtain ⟨hm, hl, ha⟩ := h r
  obtain ⟨u, u', u''⟩ := update hm hl ha (T := 256) (fun j => ∑ x : Fin 128, q (ix2 r x) * kc (ix2 j x))
    (fun j => by unfold score; rw [dif_pos (by omega)]; simp only [Nat.zero_add])
    (fun j e => vc (ix2 j e)) (fun j e => by unfold val; rw [dif_pos (by omega)]; simp only [Nat.zero_add])
  rw [Nat.zero_add] at u u' u''
  have hp : k0_pay18 (F := Ideal) q m kc (ix2 r (0 : Fin 1)) = mx b0 (score q kc kl r) 256 := by
    rw [← u]; pointwise [k0_pay18, k0_pay17]
  refine ⟨hp, ?_, fun e => ?_⟩
  · rw [← u', ← hp]; pointwise [k0_pay21, k0_pay20, k0_pay17, k0_pay19]
  · rw [← u'' e, ← hp]; pointwise [k0_pay22, k0_pay20, k0_pay17, k0_pay19]

/-- The offset of trip `k`'s load. -/
theorem offset (k : Fin k0_t1_loop.trips) :
    BitVec.toNat (Scalar.indexCast (Scalar.muli (Scf.iv 0#32 1#32 k.val) 512#32)) = 512 * k.val :=
  (by decide +kernel : ∀ k : Fin 16, BitVec.toNat (Scalar.indexCast (Scalar.muli (Scf.iv 0#32 1#32 k.val) 512#32)) = 512 * k.val)
    ⟨k.val, Nat.lt_of_lt_of_le k.isLt k0_t1_abs.2.1⟩

/-- A sequence chunk's update: the chunk's key rows `kb` and value rows `vb` are the 512 rows from row `512 n` on. -/
theorem chunk_step (q : FVec Ideal S1024x128 .bf16) (kc vc : FVec Ideal S256x128 .bf16) (kl vl : FVec Ideal S8192x128 .bf16)
    (m l : FVec Ideal S1024x1 .f32) (a : FVec Ideal S1024x128 .f32) (n : ℕ) (hn : n < 16) (kb vb : FVec Ideal S512x128 .bf16)
    (hk : ∀ (j : Fin 512) (x : Fin 128), kb (ix2 j x) = kl (ix2 (⟨512 * n + j.val, by omega⟩ : Fin 8192) x))
    (hv : ∀ (j : Fin 512) (x : Fin 128), vb (ix2 j x) = vl (ix2 (⟨512 * n + j.val, by omega⟩ : Fin 8192) x))
    (h : Holds (score q kc kl) (val vc vl) (256 + 512 * n) m l a) :
    Holds (score q kc kl) (val vc vl) (256 + 512 * (n + 1)) (k0_pay26 (F := Ideal) q m kb) (k0_pay29 (F := Ideal) q m l kb)
      (k0_pay30 (F := Ideal) q m a kb vb) := by
  intro r
  obtain ⟨hm, hl, ha⟩ := h r
  have e : ∀ j : Fin 512, 256 + 512 * n + j.val - 256 = 512 * n + j.val := fun j => by omega
  obtain ⟨u, u', u''⟩ := update hm hl ha (T := 512) (fun j => ∑ x : Fin 128, q (ix2 r x) * kb (ix2 j x))
    (fun j => by
      unfold score
      rw [dif_neg (by omega), dif_pos (by omega)]
      refine Finset.sum_congr rfl fun x _ => ?_
      rw [hk j x]; simp only [e j])
    (fun j e => vb (ix2 j e)) (fun j x => by
      unfold val
      rw [dif_neg (by omega), dif_pos (by omega), hv j x]; simp only [e j])
  rw [show 256 + 512 * (n + 1) = 256 + 512 * n + 512 by omega]
  have hp : k0_pay26 (F := Ideal) q m kb (ix2 r (0 : Fin 1)) = mx b0 (score q kc kl r) (256 + 512 * n + 512) := by
    rw [← u]; pointwise [k0_pay26, k0_pay25, k0_pay23]
  refine ⟨hp, ?_, fun e => ?_⟩
  · rw [← u', ← hp]; pointwise [k0_pay29, k0_pay28, k0_pay25, k0_pay23, k0_pay27]
  · rw [← u'' e, ← hp]; pointwise [k0_pay30, k0_pay28, k0_pay25, k0_pay23, k0_pay24, k0_pay27]

/-! ## The trips -/

section
variable {F : FTy → Type} [FloatOps F]

/-- What one trip of the loop yields, from the chunk of key and value rows it loads. -/
theorem trip_eq (𝒱 : Variants) (c : Dev nD) (bd : Option 𝒱.V) (i : grid0.Coords) (arg3 : Memref sig .tc .smem S1 .f32) (harg3 : arg3.IsWhole) (arg4 : Memref sig .tc .vmem S1024x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x128 .f32) (harg9 : arg9.IsWhole) (arg10 : Memref sig .tc .vmem S1024x128 .f32) (harg10 : arg10.IsWhole)
    (v6 v9 : FVec F S1024x128 .bf16) (v13 v14 : FVec F S1024x1 .f32) (v15 : FVec F S1024x128 .f32) (v17 v19 : FVec F S256x128 .bf16)
    (v23 v32 : FVec F S1024x1 .f32) (v37 : FVec F S1024x128 .f32) (x4 x5 : Vec F S8192x128 .bf16) (k : Fin k0_t1_loop.trips) :
    ∃ kb vb : FVec F S512x128 .bf16,
      (∀ (j : Fin 512) (x : Fin 128) (h : 512 * k.val + j.val < 8192), kb (ix2 j x) = x4 (ix2 (⟨512 * k.val + j.val, h⟩ : Fin 8192) x))
      ∧ (∀ (j : Fin 512) (x : Fin 128) (h : 512 * k.val + j.val < 8192), vb (ix2 j x) = x5 (ix2 (⟨512 * k.val + j.val, h⟩ : Fin 8192) x))
      ∧ ∀ acc, tripR_k0_t1 (F := F) 𝒱 c bd i arg3 harg3 arg4 harg4 arg5 harg5 arg6 harg6 arg7 harg7 arg8 harg8 arg9 harg9 arg10 harg10 v6 v9 v13 v14 v15 v17 v19 v23 v32 v37 (harg7.unread x4) (harg8.unread x5) k acc
        = (k0_pay26 v6 acc.1 kb, k0_pay29 v6 acc.1 acc.2.1 kb, k0_pay30 v6 acc.1 acc.2.2.1 kb vb,
            k0_pay26 v9 acc.2.2.2.1 kb, k0_pay29 v9 acc.2.2.2.1 acc.2.2.2.2.1 kb, k0_pay30 v9 acc.2.2.2.1 acc.2.2.2.2.2 kb vb) := by
  unfold tripR_k0_t1 trip_k0_t1
  dsimp only
  sl_unfold_words
  simp only [View.readAt_eq_ld, harg7.read_unread, harg8.read_unread]
  refine ⟨_, _, ?_, ?_, fun acc => rfl⟩
  · intro j x h
    pointwise
    simp only [offset k]
  · intro j x h
    pointwise
    simp only [offset k]

/-- The stored block: the final payload over the state after sixteen trips. -/
theorem out_eq (c : Dev nD) (i : grid0.Coords) (arg3 : Memref sig .tc .smem S1 .f32) (harg3 : arg3.IsWhole) (arg4 : Memref sig .tc .vmem S1024x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x128 .f32) (harg9 : arg9.IsWhole) (arg10 : Memref sig .tc .vmem S1024x128 .f32) (harg10 : arg10.IsWhole)
    (x0 : Vec F S1 .f32) (x1 : Vec F S1024x128 .bf16) (x2 x3 : Vec F S256x128 .bf16) (x4 x5 : Vec F S8192x128 .bf16) (x6 : Vec F S1x128 .f32) :
    let S := st_k0_t1 (F := F) Variants.none c none i arg3 harg3 arg4 harg4 arg5 harg5 arg6 harg6 arg7 harg7 arg8 harg8 arg9 harg9 arg10 harg10 (k0_pay3 x1) (k0_pay4 x1) k0_pay6 k0_pay7 k0_pay8 (k0_pay9 x2) (k0_pay10 x3)
      (k0_pay12 x1 x2) (k0_pay15 x1 x2) (k0_pay16 x1 x2 x3) (harg7.unread x4) (harg8.unread x5)
      (k0_pay12 x1 x2, k0_pay15 x1 x2, k0_pay16 x1 x2 x3, k0_pay18 (k0_pay4 x1) k0_pay6 (k0_pay9 x2),
        k0_pay21 (k0_pay4 x1) k0_pay6 k0_pay7 (k0_pay9 x2), k0_pay22 (k0_pay4 x1) k0_pay6 k0_pay8 (k0_pay9 x2) (k0_pay10 x3)) 16
    out0_A_7 c i arg3 harg3 arg4 harg4 arg5 harg5 arg6 harg6 arg7 harg7 arg8 harg8 arg9 harg9 arg10 harg10 x0 x1 x2 x3 x4 x5 x6
      = k0_pay37 S.2.1 S.2.2.1 S.2.2.2.2.1 S.2.2.2.2.2 (x0 (ix1 (0 : Fin 1))) x6 := by
  intro S
  frame_out
  rw [show Scf.trips (0#32) (Scalar.addi 0#32 16#32) 1#32 = 16 by decide +kernel]
  refine congrArg (fun z => k0_pay37 S.2.1 S.2.2.1 S.2.2.2.2.1 S.2.2.2.2.2 z x6) (congrArg x0 (funext fun a => Fin.ext ?_))
  match a with
  | ⟨0, _⟩ => rfl

end

/-- The state before the first chunk, over no keys. -/
theorem start (s : Fin 1024 → ℕ → EReal) (v : Fin 128 → ℕ → EReal) :
    Holds s v 0 (k0_pay6 (F := Ideal)) (k0_pay7 (F := Ideal)) (k0_pay8 (F := Ideal)) := by
  intro r
  refine ⟨?_, ?_, fun e => ?_⟩
  · unfold mx; rw [Finset.range_zero, Finset.sup_empty, max_bot_right]; pointwise [k0_pay6]
  · unfold nm; rw [Finset.range_zero, Finset.sum_empty]; pointwise [k0_pay7]
  · unfold ws; rw [Finset.range_zero, Finset.sum_empty]; pointwise [k0_pay8]

/-- After `n` trips both halves' states are the running softmax over the context and the first `512 n` rows. -/
theorem state (c : Dev nD) (i : grid0.Coords) (arg3 : Memref sig .tc .smem S1 .f32) (harg3 : arg3.IsWhole) (arg4 : Memref sig .tc .vmem S1024x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x128 .f32) (harg9 : arg9.IsWhole) (arg10 : Memref sig .tc .vmem S1024x128 .f32) (harg10 : arg10.IsWhole)
    (x1 : Vec Ideal S1024x128 .bf16) (x2 x3 : Vec Ideal S256x128 .bf16) (x4 x5 : Vec Ideal S8192x128 .bf16) (n : ℕ) (hn : n ≤ 16) :
    let S := st_k0_t1 (F := Ideal) Variants.none c none i arg3 harg3 arg4 harg4 arg5 harg5 arg6 harg6 arg7 harg7 arg8 harg8 arg9 harg9 arg10 harg10 (k0_pay3 x1) (k0_pay4 x1) k0_pay6 k0_pay7 k0_pay8 (k0_pay9 x2) (k0_pay10 x3)
      (k0_pay12 x1 x2) (k0_pay15 x1 x2) (k0_pay16 x1 x2 x3) (harg7.unread x4) (harg8.unread x5)
      (k0_pay12 x1 x2, k0_pay15 x1 x2, k0_pay16 x1 x2 x3, k0_pay18 (k0_pay4 x1) k0_pay6 (k0_pay9 x2),
        k0_pay21 (k0_pay4 x1) k0_pay6 k0_pay7 (k0_pay9 x2), k0_pay22 (k0_pay4 x1) k0_pay6 k0_pay8 (k0_pay9 x2) (k0_pay10 x3)) n
    Holds (score (k0_pay3 (F := Ideal) x1) x2 x4) (val x3 x5) (256 + 512 * n) S.1 S.2.1 S.2.2.1
      ∧ Holds (score (k0_pay4 (F := Ideal) x1) x2 x4) (val x3 x5) (256 + 512 * n) S.2.2.2.1 S.2.2.2.2.1 S.2.2.2.2.2 := by
  have h9 : k0_pay9 (F := Ideal) x2 = x2 := by funext j; pointwise [k0_pay9]
  have h10 : k0_pay10 (F := Ideal) x3 = x3 := by funext j; pointwise [k0_pay10]
  induction n with
  | zero =>
    intro S
    refine ⟨?_, ?_⟩
    · have h := context_step (k0_pay3 (F := Ideal) x1) x2 x3 x4 x5 _ _ _ (start _ _)
      rw [← h9, ← h10] at h ⊢
      exact h
    · have h := context_step (k0_pay4 (F := Ideal) x1) x2 x3 x4 x5 _ _ _ (start _ _)
      rw [← h9, ← h10] at h ⊢
      exact h
  | succ n ih =>
    have hk : n < k0_t1_loop.trips := by
      have : k0_t1_loop.trips = 16 := by decide +kernel
      omega
    obtain ⟨i1, i2⟩ := ih (by omega)
    intro S
    have e := st_k0_t1_succ (F := Ideal) Variants.none c none i arg3 harg3 arg4 harg4 arg5 harg5 arg6 harg6 arg7 harg7 arg8 harg8 arg9 harg9 arg10 harg10 (k0_pay3 x1) (k0_pay4 x1) k0_pay6 k0_pay7 k0_pay8 (k0_pay9 x2) (k0_pay10 x3)
      (k0_pay12 x1 x2) (k0_pay15 x1 x2) (k0_pay16 x1 x2 x3) (harg7.unread x4) (harg8.unread x5)
      (k0_pay12 x1 x2, k0_pay15 x1 x2, k0_pay16 x1 x2 x3, k0_pay18 (k0_pay4 x1) k0_pay6 (k0_pay9 x2),
        k0_pay21 (k0_pay4 x1) k0_pay6 k0_pay7 (k0_pay9 x2), k0_pay22 (k0_pay4 x1) k0_pay6 k0_pay8 (k0_pay9 x2) (k0_pay10 x3)) ⟨n, hk⟩
    obtain ⟨kb, vb, h1, h2, h3⟩ := trip_eq (F := Ideal) Variants.none c none i arg3 harg3 arg4 harg4 arg5 harg5 arg6 harg6 arg7 harg7 arg8 harg8 arg9 harg9 arg10 harg10 (k0_pay3 x1) (k0_pay4 x1) k0_pay6 k0_pay7 k0_pay8 (k0_pay9 x2)
      (k0_pay10 x3) (k0_pay12 x1 x2) (k0_pay15 x1 x2) (k0_pay16 x1 x2 x3) x4 x5 ⟨n, hk⟩
    rw [h3] at e
    dsimp only [S]
    dsimp only at e
    rw [e]
    exact ⟨chunk_step _ x2 x3 x4 x5 _ _ _ n (by omega) kb vb (fun j x => h1 j x _) (fun j x => h2 j x _) i1,
      chunk_step _ x2 x3 x4 x5 _ _ _ n (by omega) kb vb (fun j x => h1 j x _) (fun j x => h2 j x _) i2⟩

/-! ## The block -/

/-- One element of the stored block. -/
theorem block (c : Dev nD) (i : grid0.Coords) (arg3 : Memref sig .tc .smem S1 .f32) (harg3 : arg3.IsWhole) (arg4 : Memref sig .tc .vmem S1024x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x128 .f32) (harg9 : arg9.IsWhole) (arg10 : Memref sig .tc .vmem S1024x128 .f32) (harg10 : arg10.IsWhole)
    (x0 : Vec Ideal S1 .f32) (x1 : Vec Ideal S1024x128 .bf16) (x2 x3 : Vec Ideal S256x128 .bf16) (x4 x5 : Vec Ideal S8192x128 .bf16)
    (x6 : Vec Ideal S1x128 .f32) (r : Fin 1024) (e : Fin 128) :
    out0_A_7 (F := Ideal) c i arg3 harg3 arg4 harg4 arg5 harg5 arg6 harg6 arg7 harg7 arg8 harg8 arg9 harg9 arg10 harg10 x0 x1 x2 x3 x4 x5 x6 (ix2 r e)
      = rms (Ideal.ofBits .f32 0x43000000#32) (Ideal.ofBits .f32 0x358637BD#32)
          (fun i => Ideal.div (ws b0 (score (k0_pay3 (F := Ideal) x1) x2 x4 r) (val x3 x5 i) 8448) (nm b0 (score (k0_pay3 (F := Ideal) x1) x2 x4 r) 8448)
            - x0 (ix1 (0 : Fin 1)) * Ideal.div (ws b0 (score (k0_pay4 (F := Ideal) x1) x2 x4 r) (val x3 x5 i) 8448)
                (nm b0 (score (k0_pay4 (F := Ideal) x1) x2 x4 r) 8448)) e
          * x6 (ix2 (0 : Fin 1) e) * Ideal.ofBits .f32 0x3F24FD5C#32 := by
  rw [out_eq]
  obtain ⟨h1, h2⟩ := state c i arg3 harg3 arg4 harg4 arg5 harg5 arg6 harg6 arg7 harg7 arg8 harg8 arg9 harg9 arg10 harg10 x1 x2 x3 x4 x5 16 le_rfl
  generalize st_k0_t1 (F := Ideal) Variants.none c none i arg3 harg3 arg4 harg4 arg5 harg5 arg6 harg6 arg7 harg7 arg8 harg8 arg9 harg9 arg10 harg10 (k0_pay3 x1) (k0_pay4 x1) k0_pay6 k0_pay7 k0_pay8 (k0_pay9 x2) (k0_pay10 x3)
      (k0_pay12 x1 x2) (k0_pay15 x1 x2) (k0_pay16 x1 x2 x3) (harg7.unread x4) (harg8.unread x5)
      (k0_pay12 x1 x2, k0_pay15 x1 x2, k0_pay16 x1 x2 x3, k0_pay18 (k0_pay4 x1) k0_pay6 (k0_pay9 x2),
        k0_pay21 (k0_pay4 x1) k0_pay6 k0_pay7 (k0_pay9 x2), k0_pay22 (k0_pay4 x1) k0_pay6 k0_pay8 (k0_pay9 x2) (k0_pay10 x3)) 16 = S at h1 h2 ⊢
  obtain ⟨-, l1, a1⟩ := h1 r
  obtain ⟨-, l2, a2⟩ := h2 r
  rw [show 256 + 512 * 16 = 8448 from rfl] at l1 a1 l2 a2
  unfold rms
  simp only [← l1, ← l2, ← a1, ← a2]
  pointwise [k0_pay37]

end Cert.KernelIdeal.Body
-- ==== Proof.Blocks.lean ====
/- The blocks a grid point of the attention kernel reads, as entries of the program's arguments, and with them every
   entry of the latent rows of its result. -/
module

public import proofs.«01_k».proof.Proof.Body
public import Idealize.ShloMosaic.Lib.Claim

@[expose] public section

set_option maxRecDepth 16384

noncomputable section

namespace Cert.KernelIdeal.Blocks

open Cert.KernelIdeal Cert.KernelIdeal.Gen Cert.KernelIdeal.Body Cert.Softmax Idealize.ShloMosaic Idealize.ShloMosaic.TcCoe Idealize.SL.Sem
open Idealize.ShloMosaic.Pipeline (Dat)

/-! ## The laid-out rows -/

/-- A latent row of queries or keys: batch `b`'s row `q` is row `8192 b + q`, head `h`'s half `j` its columns from `128 h + 64 j` on. -/
theorem rows_lat5 (a0 : S4x8192x4x2x64.Idx → EReal) (a1 : S4x256x4x2x64.Idx → EReal) (sc cc) (hc) (b : Fin 4) (q : Fin 8192) (h : Fin 4)
    (j : Fin 2) (d : Fin 64) (i : S33792x512.Idx) (h0 : (i 0).val = b.val * 8192 + q.val) (h1 : (i 1).val = h.val * 128 + j.val * 64 + d.val) :
    concatenate S33792x512 0 [⟨S32768x512, shapeCast S32768x512 a0 sc⟩, ⟨S1024x512, shapeCast S1024x512 a1 cc⟩] hc i = a0 (ix5 b q h j d) := by
  rw [concatenate_pair_apply_left 0 _ _ hc i rfl (ix2 (⟨b.val * 8192 + q.val, by omega⟩ : Fin 32768) (⟨h.val * 128 + j.val * 64 + d.val, by omega⟩ : Fin 512))]
  · refine shapeCast_apply _ _ _ _ ?_
    rw [Shape.rowMajor_val_five, Shape.rowMajor_val_two]
    show ((((b.val * 8192 + q.val) * 4 + h.val) * 2 + j.val) * 64 + d.val) = (b.val * 8192 + q.val) * 512 + (h.val * 128 + j.val * 64 + d.val)
    omega
  · intro a
    match a with
    | ⟨0, _⟩ => exact h0.symm
    | ⟨1, _⟩ => exact h1.symm

/-- A context row of keys: batch `b`'s row `k` is row `32768 + 256 b + k`. -/
theorem rows_ctx5 (a0 : S4x8192x4x2x64.Idx → EReal) (a1 : S4x256x4x2x64.Idx → EReal) (sc cc) (hc) (b : Fin 4) (q : Fin 256) (h : Fin 4)
    (j : Fin 2) (d : Fin 64) (i : S33792x512.Idx) (h0 : (i 0).val = 32768 + b.val * 256 + q.val) (h1 : (i 1).val = h.val * 128 + j.val * 64 + d.val) :
    concatenate S33792x512 0 [⟨S32768x512, shapeCast S32768x512 a0 sc⟩, ⟨S1024x512, shapeCast S1024x512 a1 cc⟩] hc i = a1 (ix5 b q h j d) := by
  rw [concatenate_pair_apply_right 0 _ _ hc i rfl rfl (ix2 (⟨b.val * 256 + q.val, by omega⟩ : Fin 1024) (⟨h.val * 128 + j.val * 64 + d.val, by omega⟩ : Fin 512))]
  · refine shapeCast_apply _ _ _ _ ?_
    rw [Shape.rowMajor_val_five, Shape.rowMajor_val_two]
    show ((((b.val * 256 + q.val) * 4 + h.val) * 2 + j.val) * 64 + d.val) = (b.val * 256 + q.val) * 512 + (h.val * 128 + j.val * 64 + d.val)
    omega
  · intro a ha
    match a with
    | ⟨0, _⟩ => exact absurd rfl ha
    | ⟨1, _⟩ => exact h1.symm
  · show b.val * 256 + q.val + 32768 = (i 0).val
    omega

/-- A latent row of values: head `h`'s columns are those from `128 h` on. -/
theorem rows_lat4 (a0 : S4x8192x4x128.Idx → EReal) (a1 : S4x256x4x128.Idx → EReal) (sc cc) (hc) (b : Fin 4) (q : Fin 8192) (h : Fin 4)
    (e : Fin 128) (i : S33792x512.Idx) (h0 : (i 0).val = b.val * 8192 + q.val) (h1 : (i 1).val = h.val * 128 + e.val) :
    concatenate S33792x512 0 [⟨S32768x512, shapeCast S32768x512 a0 sc⟩, ⟨S1024x512, shapeCast S1024x512 a1 cc⟩] hc i = a0 (ix4 b q h e) := by
  rw [concatenate_pair_apply_left 0 _ _ hc i rfl (ix2 (⟨b.val * 8192 + q.val, by omega⟩ : Fin 32768) (⟨h.val * 128 + e.val, by omega⟩ : Fin 512))]
  · refine shapeCast_apply _ _ _ _ ?_
    rw [Shape.rowMajor_val_four, Shape.rowMajor_val_two]
    show ((b.val * 8192 + q.val) * 4 + h.val) * 128 + e.val = (b.val * 8192 + q.val) * 512 + (h.val * 128 + e.val)
    omega
  · intro a
    match a with
    | ⟨0, _⟩ => exact h0.symm
    | ⟨1, _⟩ => exact h1.symm

/-- A context row of values. -/
theorem rows_ctx4 (a0 : S4x8192x4x128.Idx → EReal) (a1 : S4x256x4x128.Idx → EReal) (sc cc) (hc) (b : Fin 4) (q : Fin 256) (h : Fin 4)
    (e : Fin 128) (i : S33792x512.Idx) (h0 : (i 0).val = 32768 + b.val * 256 + q.val) (h1 : (i 1).val = h.val * 128 + e.val) :
    concatenate S33792x512 0 [⟨S32768x512, shapeCast S32768x512 a0 sc⟩, ⟨S1024x512, shapeCast S1024x512 a1 cc⟩] hc i = a1 (ix4 b q h e) := by
  rw [concatenate_pair_apply_right 0 _ _ hc i rfl rfl (ix2 (⟨b.val * 256 + q.val, by omega⟩ : Fin 1024) (⟨h.val * 128 + e.val, by omega⟩ : Fin 512))]
  · refine shapeCast_apply _ _ _ _ ?_
    rw [Shape.rowMajor_val_four, Shape.rowMajor_val_two]
    show ((b.val * 256 + q.val) * 4 + h.val) * 128 + e.val = (b.val * 256 + q.val) * 512 + (h.val * 128 + e.val)
    omega
  · intro a ha
    match a with
    | ⟨0, _⟩ => exact absurd rfl ha
    | ⟨1, _⟩ => exact h1.symm
  · show b.val * 256 + q.val + 32768 = (i 0).val
    omega

/-! ## Scores and values over the arguments -/

/-- The scale of the scores. -/
abbrev scale : EReal := Ideal.ofBits .f32 0x3E000000#32

/-- The scaled score of latent query `q` of batch `b` against key `k`, in half `j` of head `h`. -/
def sc (q : S4x8192x4x2x64.Idx → EReal) (kl : S4x8192x4x2x64.Idx → EReal) (kc : S4x256x4x2x64.Idx → EReal)
    (b : Fin 4) (h : Fin 4) (r : Fin 8192) (j : Fin 2) (k : ℕ) : EReal :=
  if hk : k < 256 then (∑ d : Fin 64, q (ix5 b r h j d) * kc (ix5 b (⟨k, hk⟩ : Fin 256) h j d)) * scale
  else if hk' : k - 256 < 8192 then (∑ d : Fin 64, q (ix5 b r h j d) * kl (ix5 b (⟨k - 256, hk'⟩ : Fin 8192) h j d)) * scale
  else 0

/-- Column `e` of head `h`'s values of batch `b`, numbered like the keys. -/
def vals (vl : S4x8192x4x128.Idx → EReal) (vc : S4x256x4x128.Idx → EReal) (b : Fin 4) (h : Fin 4) (e : Fin 128) (k : ℕ) : EReal :=
  if hk : k < 256 then vc (ix4 b (⟨k, hk⟩ : Fin 256) h e)
  else if hk' : k - 256 < 8192 then vl (ix4 b (⟨k - 256, hk'⟩ : Fin 8192) h e)
  else 0

/-- Lambda, from its four vectors. -/
def lam (q1 k1 q2 k2 : S64.Idx → EReal) : EReal :=
  Ideal.exp (∑ x : Fin 64, q1 (ix1 x) * k1 (ix1 x)) - Ideal.exp (∑ x : Fin 64, q2 (ix1 x) * k2 (ix1 x)) + Ideal.ofBits .f32 0x3EB60549#32

/-- A sum over 128 lanes, the two halves of 64 apart. -/
theorem sum_halves (f : Fin 128 → EReal) :
    ∑ l : Fin 128, f l = ∑ d : Fin 64, f ⟨d.val, by omega⟩ + ∑ d : Fin 64, f ⟨64 + d.val, by omega⟩ :=
  Fin.sum_univ_add (a := 64) (b := 64) f

theorem lane_lo : ∀ d : Fin 64, IntOp.cmpi .slt (BitVec.ofNat 32 d.val) 64#32 = 1#1 ∧ IntOp.cmpi .sge (BitVec.ofNat 32 d.val) 64#32 = 0#1 := by
  decide +kernel
theorem lane_hi : ∀ d : Fin 64, IntOp.cmpi .slt (BitVec.ofNat 32 (64 + d.val)) 64#32 = 0#1 ∧ IntOp.cmpi .sge (BitVec.ofNat 32 (64 + d.val)) 64#32 = 1#1 := by
  decide +kernel

/-- The first half's queries: lanes below 64 kept, the others zero. -/
theorem first_half (x : Vec Ideal S1024x128 .bf16) (r : Fin 1024) (d : Fin 64) :
    k0_pay3 (F := Ideal) x (ix2 r (⟨d.val, by omega⟩ : Fin 128)) = x (ix2 r (⟨d.val, by omega⟩ : Fin 128))
    ∧ k0_pay3 (F := Ideal) x (ix2 r (⟨64 + d.val, by omega⟩ : Fin 128)) = 0 := by
  constructor
  · pointwise [k0_pay3, k0_pay1, k0_pay2, (lane_lo d).1]; try rfl
  · pointwise [k0_pay3, k0_pay1, k0_pay2, (lane_hi d).1]; try rfl

/-- The second half's queries: lanes from 64 on kept, the others zero. -/
theorem second_half (x : Vec Ideal S1024x128 .bf16) (r : Fin 1024) (d : Fin 64) :
    k0_pay4 (F := Ideal) x (ix2 r (⟨d.val, by omega⟩ : Fin 128)) = 0
    ∧ k0_pay4 (F := Ideal) x (ix2 r (⟨64 + d.val, by omega⟩ : Fin 128)) = x (ix2 r (⟨64 + d.val, by omega⟩ : Fin 128)) := by
  constructor
  · pointwise [k0_pay4, k0_pay1, k0_pay2, (lane_lo d).2]; try rfl
  · pointwise [k0_pay4, k0_pay1, k0_pay2, (lane_hi d).2]; try rfl

/-- A scale on the left factors of a sum of products comes out of it. -/
theorem scaled (f g : Fin 64 → EReal) : ∑ d, f d * scale * g d = (∑ d, f d * g d) * scale := by
  have h0 : (0 : EReal) ≤ scale := by unfold scale; rw [scale_real]; exact_mod_cast (by norm_num : (0 : ℝ) ≤ 1 / 8)
  have ht : scale ≠ ⊤ := by unfold scale; rw [scale_real]; exact EReal.coe_ne_top _
  rw [mul_comm, mul_sum_of_nonneg scale h0 ht]
  exact Finset.sum_congr rfl fun d _ => by rw [mul_comm (f d), mul_assoc]

/-! ## What the region finds in its operands -/

section
variable (m : (ℓ : Loc nD τ sig) → Buf (Elt Ideal) ℓ) (c : Dev nD)

abbrev Q : S4x8192x4x2x64.Idx → EReal := m ((c : Thread nD τ).loc main_arg0)
abbrev KL : S4x8192x4x2x64.Idx → EReal := m ((c : Thread nD τ).loc main_arg2)
abbrev KC : S4x256x4x2x64.Idx → EReal := m ((c : Thread nD τ).loc main_arg3)
abbrev VL : S4x8192x4x128.Idx → EReal := m ((c : Thread nD τ).loc main_arg4)
abbrev VC : S4x256x4x128.Idx → EReal := m ((c : Thread nD τ).loc main_arg5)
abbrev LAM : EReal := lam (m ((c : Thread nD τ).loc main_arg6)) (m ((c : Thread nD τ).loc main_arg7)) (m ((c : Thread nD τ).loc main_arg8)) (m ((c : Thread nD τ).loc main_arg9))
abbrev GN : S128.Idx → EReal := m ((c : Thread nD τ).loc main_arg10)

theorem entry_q (i : S33792x512.Idx) (b : Fin 4) (q : Fin 8192) (h : Fin 4) (j : Fin 2) (d : Fin 64)
    (h0 : (i 0).val = b.val * 8192 + q.val) (h1 : (i 1).val = h.val * 128 + j.val * 64 + d.val) :
    V m c main_v5 i = Q m c (ix5 b q h j d) * scale := by
  rw [← rows_lat5 (Q m c) (m ((c : Thread nD τ).loc main_arg1)) shapeCasts_S4x8192x4x2x64_S32768x512 shapeCasts_S4x256x4x2x64_S1024x512
    concatenates_S32768x512_S1024x512_S33792x512_d0 b q h j d i h0 h1]
  entry_read
  rfl

theorem entry_kl (i : S33792x512.Idx) (b : Fin 4) (q : Fin 8192) (h : Fin 4) (j : Fin 2) (d : Fin 64)
    (h0 : (i 0).val = b.val * 8192 + q.val) (h1 : (i 1).val = h.val * 128 + j.val * 64 + d.val) :
    V m c main_v9 i = KL m c (ix5 b q h j d) := by
  rw [← rows_lat5 (KL m c) (KC m c) shapeCasts_S4x8192x4x2x64_S32768x512 shapeCasts_S4x256x4x2x64_S1024x512
    concatenates_S32768x512_S1024x512_S33792x512_d0 b q h j d i h0 h1]
  entry_read
  rfl

theorem entry_kc (i : S33792x512.Idx) (b : Fin 4) (q : Fin 256) (h : Fin 4) (j : Fin 2) (d : Fin 64)
    (h0 : (i 0).val = 32768 + b.val * 256 + q.val) (h1 : (i 1).val = h.val * 128 + j.val * 64 + d.val) :
    V m c main_v9 i = KC m c (ix5 b q h j d) := by
  rw [← rows_ctx5 (KL m c) (KC m c) shapeCasts_S4x8192x4x2x64_S32768x512 shapeCasts_S4x256x4x2x64_S1024x512
    concatenates_S32768x512_S1024x512_S33792x512_d0 b q h j d i h0 h1]
  entry_read
  rfl

theorem entry_vl (i : S33792x512.Idx) (b : Fin 4) (q : Fin 8192) (h : Fin 4) (e : Fin 128)
    (h0 : (i 0).val = b.val * 8192 + q.val) (h1 : (i 1).val = h.val * 128 + e.val) :
    V m c main_v13 i = VL m c (ix4 b q h e) := by
  rw [← rows_lat4 (VL m c) (VC m c) shapeCasts_S4x8192x4x128_S32768x512 shapeCasts_S4x256x4x128_S1024x512
    concatenates_S32768x512_S1024x512_S33792x512_d0 b q h e i h0 h1]
  entry_read
  rfl

theorem entry_vc (i : S33792x512.Idx) (b : Fin 4) (q : Fin 256) (h : Fin 4) (e : Fin 128)
    (h0 : (i 0).val = 32768 + b.val * 256 + q.val) (h1 : (i 1).val = h.val * 128 + e.val) :
    V m c main_v13 i = VC m c (ix4 b q h e) := by
  rw [← rows_ctx4 (VL m c) (VC m c) shapeCasts_S4x8192x4x128_S32768x512 shapeCasts_S4x256x4x128_S1024x512
    concatenates_S32768x512_S1024x512_S33792x512_d0 b q h e i h0 h1]
  entry_read
  rfl

theorem entry_lam (i : S1.Idx) : V m c main_v22 i = LAM m c := by
  entry_read
  pointwise
  rfl

theorem entry_g (e : Fin 128) : V m c main_v23 (ix2 (0 : Fin 1) e) = GN m c (ix1 e) := by
  entry_read
  pointwise
  try rfl

/-! ## The blocks -/

/-- The index maps: point `t` is query tile `t % 8` of head `t / 8 % 4` of batch `t / 32`. -/
theorem idx : ∀ t : Fin cfg0.N,
    (win0_1.index t 0 = t.val / 32 * 8 + t.val % 8 ∧ win0_1.index t 1 = t.val / 8 % 4) ∧
    (win0_2.index t 0 = t.val / 32 + 128 ∧ win0_2.index t 1 = t.val / 8 % 4) ∧
    (win0_3.index t 0 = t.val / 32 + 128 ∧ win0_3.index t 1 = t.val / 8 % 4) ∧
    (win0_4.index t 0 = t.val / 32 ∧ win0_4.index t 1 = t.val / 8 % 4) ∧
    (win0_5.index t 0 = t.val / 32 ∧ win0_5.index t 1 = t.val / 8 % 4) ∧
    (win0_6.index t 0 = 0 ∧ win0_6.index t 1 = 0) ∧
    (win0_7.index t 0 = t.val / 32 * 8 + t.val % 8 ∧ win0_7.index t 1 = t.val / 8 % 4) :=
  (by decide +kernel : ∀ t : Fin grid0.N,
    (win0_1.index t 0 = t.val / 32 * 8 + t.val % 8 ∧ win0_1.index t 1 = t.val / 8 % 4) ∧
    (win0_2.index t 0 = t.val / 32 + 128 ∧ win0_2.index t 1 = t.val / 8 % 4) ∧
    (win0_3.index t 0 = t.val / 32 + 128 ∧ win0_3.index t 1 = t.val / 8 % 4) ∧
    (win0_4.index t 0 = t.val / 32 ∧ win0_4.index t 1 = t.val / 8 % 4) ∧
    (win0_5.index t 0 = t.val / 32 ∧ win0_5.index t 1 = t.val / 8 % 4) ∧
    (win0_6.index t 0 = 0 ∧ win0_6.index t 1 = 0) ∧
    (win0_7.index t 0 = t.val / 32 * 8 + t.val % 8 ∧ win0_7.index t 1 = t.val / 8 % 4))

/-- The grid point of batch `b`, head `h`, query tile `i`. -/
def pt (b h : Fin 4) (i : Fin 8) : Fin cfg0.N := ⟨b.val * 32 + h.val * 8 + i.val, by have : cfg0.N = 128 := N_0; omega⟩

variable (b h : Fin 4) (i : Fin 8)

theorem pt_idx :
    (win0_1.index (pt b h i) 0 = b.val * 8 + i.val ∧ win0_1.index (pt b h i) 1 = h.val) ∧
    (win0_2.index (pt b h i) 0 = b.val + 128 ∧ win0_2.index (pt b h i) 1 = h.val) ∧
    (win0_3.index (pt b h i) 0 = b.val + 128 ∧ win0_3.index (pt b h i) 1 = h.val) ∧
    (win0_4.index (pt b h i) 0 = b.val ∧ win0_4.index (pt b h i) 1 = h.val) ∧
    (win0_5.index (pt b h i) 0 = b.val ∧ win0_5.index (pt b h i) 1 = h.val) ∧
    (win0_6.index (pt b h i) 0 = 0 ∧ win0_6.index (pt b h i) 1 = 0) ∧
    (win0_7.index (pt b h i) 0 = b.val * 8 + i.val ∧ win0_7.index (pt b h i) 1 = h.val) := by
  have e := idx (pt b h i)
  have e1 : (pt b h i).val / 32 = b.val := by unfold pt; dsimp only; omega
  have e2 : (pt b h i).val / 8 % 4 = h.val := by unfold pt; dsimp only; omega
  have e3 : (pt b h i).val % 8 = i.val := by unfold pt; dsimp only; omega
  rw [e1, e2, e3] at e
  exact e

theorem blk_q (r : Fin 1024) (j : Fin 2) (d : Fin 64) :
    iblk m c 1 (pt b h i) (ix2 r (⟨j.val * 64 + d.val, by omega⟩ : Fin 128)) = Q m c (ix5 b (⟨i.val * 1024 + r.val, by omega⟩ : Fin 8192) h j d) * scale := by
  refine entry_q m c _ b _ h j d ?_ ?_
  · blk_simp [pt_idx b h i]; try ((try dsimp only); omega)
  · blk_simp [pt_idx b h i]; try ((try dsimp only); omega)

theorem blk_kc (k : Fin 256) (j : Fin 2) (d : Fin 64) :
    iblk m c 2 (pt b h i) (ix2 k (⟨j.val * 64 + d.val, by omega⟩ : Fin 128)) = KC m c (ix5 b k h j d) := by
  refine entry_kc m c _ b _ h j d ?_ ?_
  · blk_simp [pt_idx b h i]; try ((try dsimp only); omega)
  · blk_simp [pt_idx b h i]; try ((try dsimp only); omega)

theorem blk_vc (k : Fin 256) (e : Fin 128) : iblk m c 3 (pt b h i) (ix2 k e) = VC m c (ix4 b k h e) := by
  refine entry_vc m c _ b _ h e ?_ ?_
  · blk_simp [pt_idx b h i]; try ((try dsimp only); omega)
  · blk_simp [pt_idx b h i]; try ((try dsimp only); omega)

theorem blk_kl (k : Fin 8192) (j : Fin 2) (d : Fin 64) :
    X0_4 m c (pt b h i) (ix2 k (⟨j.val * 64 + d.val, by omega⟩ : Fin 128)) = KL m c (ix5 b k h j d) := by
  unfold X0_4 Pipeline.Window.fill
  rw [dif_pos (moved0_4 _ _)]
  refine entry_kl m c _ b _ h j d ?_ ?_
  · blk_simp [pt_idx b h i]; try ((try dsimp only); omega)
  · blk_simp [pt_idx b h i]; try ((try dsimp only); omega)

theorem blk_vl (k : Fin 8192) (e : Fin 128) : X0_5 m c (pt b h i) (ix2 k e) = VL m c (ix4 b k h e) := by
  unfold X0_5 Pipeline.Window.fill
  rw [dif_pos (moved0_5 _ _)]
  refine entry_vl m c _ b _ h e ?_ ?_
  · blk_simp [pt_idx b h i]; try ((try dsimp only); omega)
  · blk_simp [pt_idx b h i]; try ((try dsimp only); omega)

theorem blk_lam : iblk m c 0 (pt b h i) (ix1 (0 : Fin 1)) = LAM m c := entry_lam m c _

theorem blk_g (e : Fin 128) : iblk m c 6 (pt b h i) (ix2 (0 : Fin 1) e) = GN m c (ix1 e) := by
  rw [← entry_g m c e]
  blk_ext [iblk, pt_idx b h i]

/-- The first half's scores. -/
theorem score_first (r : Fin 1024) :
    score (k0_pay3 (F := Ideal) (iblk m c 1 (pt b h i))) (iblk m c 2 (pt b h i)) (X0_4 m c (pt b h i)) r
      = sc (Q m c) (KL m c) (KC m c) b h (⟨i.val * 1024 + r.val, by omega⟩ : Fin 8192) 0 := by
  funext k
  unfold score sc
  by_cases h1 : k < 256
  · rw [dif_pos h1, dif_pos h1, sum_halves, ← scaled]
    simp only [(first_half _ r _).1, (first_half _ r _).2, zero_mul, Finset.sum_const_zero, add_zero]
    refine Finset.sum_congr rfl fun d _ => ?_
    have e1 := blk_q m c b h i r 0 d
    have e2 := blk_kc m c b h i ⟨k, h1⟩ 0 d
    simp only [Fin.val_zero, zero_mul, zero_add] at e1 e2
    rw [e1, e2]
  · rw [dif_neg h1, dif_neg h1]
    by_cases h2 : k - 256 < 8192
    · rw [dif_pos h2, dif_pos h2, sum_halves, ← scaled]
      simp only [(first_half _ r _).1, (first_half _ r _).2, zero_mul, Finset.sum_const_zero, add_zero]
      refine Finset.sum_congr rfl fun d _ => ?_
      have e1 := blk_q m c b h i r 0 d
      have e2 := blk_kl m c b h i ⟨k - 256, h2⟩ 0 d
      simp only [Fin.val_zero, zero_mul, zero_add] at e1 e2
      rw [e1, e2]
    · rw [dif_neg h2, dif_neg h2]

/-- The second half's scores. -/
theorem score_second (r : Fin 1024) :
    score (k0_pay4 (F := Ideal) (iblk m c 1 (pt b h i))) (iblk m c 2 (pt b h i)) (X0_4 m c (pt b h i)) r
      = sc (Q m c) (KL m c) (KC m c) b h (⟨i.val * 1024 + r.val, by omega⟩ : Fin 8192) 1 := by
  funext k
  unfold score sc
  by_cases h1 : k < 256
  · rw [dif_pos h1, dif_pos h1, sum_halves, ← scaled]
    simp only [(second_half _ r _).1, (second_half _ r _).2, zero_mul, Finset.sum_const_zero, zero_add]
    refine Finset.sum_congr rfl fun d _ => ?_
    have e1 := blk_q m c b h i r 1 d
    have e2 := blk_kc m c b h i ⟨k, h1⟩ 1 d
    simp only [Fin.val_one, one_mul] at e1 e2
    rw [e1, e2]
  · rw [dif_neg h1, dif_neg h1]
    by_cases h2 : k - 256 < 8192
    · rw [dif_pos h2, dif_pos h2, sum_halves, ← scaled]
      simp only [(second_half _ r _).1, (second_half _ r _).2, zero_mul, Finset.sum_const_zero, zero_add]
      refine Finset.sum_congr rfl fun d _ => ?_
      have e1 := blk_q m c b h i r 1 d
      have e2 := blk_kl m c b h i ⟨k - 256, h2⟩ 1 d
      simp only [Fin.val_one, one_mul] at e1 e2
      rw [e1, e2]
    · rw [dif_neg h2, dif_neg h2]

/-- The values. -/
theorem val_eq : val (iblk m c 3 (pt b h i)) (X0_5 m c (pt b h i)) = vals (VL m c) (VC m c) b h := by
  funext e k
  unfold val vals
  by_cases h1 : k < 256
  · rw [dif_pos h1, dif_pos h1, blk_vc]
  · rw [dif_neg h1, dif_neg h1]
    by_cases h2 : k - 256 < 8192
    · rw [dif_pos h2, dif_pos h2, blk_vl]
    · rw [dif_neg h2, dif_neg h2]

/-- Every entry of the latent rows of the result: the normalised difference of the two halves' running averages. -/
theorem result (q : Fin 8192) (e : Fin 128) (x : S33792x512.Idx) (h0 : (x 0).val = b.val * 8192 + q.val) (h1 : (x 1).val = h.val * 128 + e.val) :
    (dats m 0 c).arrAt 7 cfg0.N x
      = rms (Ideal.ofBits .f32 0x43000000#32) (Ideal.ofBits .f32 0x358637BD#32)
          (fun e' => Ideal.div (ws b0 (sc (Q m c) (KL m c) (KC m c) b h q 0) (vals (VL m c) (VC m c) b h e') 8448)
              (nm b0 (sc (Q m c) (KL m c) (KC m c) b h q 0) 8448)
            - LAM m c * Ideal.div (ws b0 (sc (Q m c) (KL m c) (KC m c) b h q 1) (vals (VL m c) (VC m c) b h e') 8448)
                (nm b0 (sc (Q m c) (KL m c) (KC m c) b h q 1) 8448)) e
          * GN m c (ix1 e) * Ideal.ofBits .f32 0x3F24FD5C#32 := by
  have hi : q.val / 1024 < 8 := by omega
  have hr : q.val % 1024 < 1024 := by omega
  have hq : (⟨(⟨q.val / 1024, hi⟩ : Fin 8).val * 1024 + (⟨q.val % 1024, hr⟩ : Fin 1024).val, by omega⟩ : Fin 8192) = q :=
    Fin.ext (by dsimp only; omega)
  have hb := congrFun (Value.blocks7 m c (pt b h ⟨q.val / 1024, hi⟩) (flush0_7 _)) (ix2 (⟨q.val % 1024, hr⟩ : Fin 1024) e)
  rw [Value.flushed7_A] at hb
  have hx : ((cfg0.win 7).blk (pt b h ⟨q.val / 1024, hi⟩)).view.emb (ix2 (⟨q.val % 1024, hr⟩ : Fin 1024) e) = x := by
    funext a
    refine Fin.ext ?_
    match a with
    | ⟨0, _⟩ => refine Eq.trans ?_ h0.symm; blk_simp [pt_idx b h ⟨q.val / 1024, hi⟩]; try ((try dsimp only); omega)
    | ⟨1, _⟩ => refine Eq.trans ?_ h1.symm; blk_simp [pt_idx b h ⟨q.val / 1024, hi⟩]; try ((try dsimp only); omega)
  rw [← hx]
  refine Eq.trans hb ?_
  have hblk := block c (grid0.coords (pt b h ⟨q.val / 1024, hi⟩)) (ms0_0 (pt b h ⟨q.val / 1024, hi⟩)) (hs0_0 _) (ms0_1 (pt b h ⟨q.val / 1024, hi⟩)) (hs0_1 _)
    (ms0_2 (pt b h ⟨q.val / 1024, hi⟩)) (hs0_2 _) (ms0_3 (pt b h ⟨q.val / 1024, hi⟩)) (hs0_3 _) (ms0_4 (pt b h ⟨q.val / 1024, hi⟩)) (hs0_4 _)
    (ms0_5 (pt b h ⟨q.val / 1024, hi⟩)) (hs0_5 _) (ms0_6 (pt b h ⟨q.val / 1024, hi⟩)) (hs0_6 _) (ms0_7 (pt b h ⟨q.val / 1024, hi⟩)) (hs0_7 _)
    (iblk m c 0 (pt b h ⟨q.val / 1024, hi⟩)) (iblk m c 1 (pt b h ⟨q.val / 1024, hi⟩)) (iblk m c 2 (pt b h ⟨q.val / 1024, hi⟩))
    (iblk m c 3 (pt b h ⟨q.val / 1024, hi⟩)) (X0_4 m c (pt b h ⟨q.val / 1024, hi⟩)) (X0_5 m c (pt b h ⟨q.val / 1024, hi⟩))
    (iblk m c 6 (pt b h ⟨q.val / 1024, hi⟩)) ⟨q.val % 1024, hr⟩ e
  refine Eq.trans ?_ (hblk.trans ?_)
  · rfl
  · rw [score_first, score_second, val_eq, blk_lam, blk_g, hq]

end

end Cert.KernelIdeal.Blocks
-- ==== Proof.Rows.lean ====
/- The reference's result, entry by entry: the normalised sum of the value rows weighted by the difference of two softmaxes. -/
module

public import proofs.«01_k».proof.Proof.Gen.ReferenceIdeal.Read
public import proofs.«01_k».proof.Proof.Blocks

@[expose] public section

set_option maxRecDepth 16384

noncomputable section

namespace Cert.ReferenceIdeal.Rows

open Cert.ReferenceIdeal Cert.ReferenceIdeal.Gen Cert.ReferenceIdeal.Read Cert.Softmax Idealize.ShloMosaic Idealize.ShloMosaic.TcCoe Idealize.SL.Sem
open Cert.KernelIdeal.Blocks (sc vals lam scale)

/-- Two rank-5 indices with the same coordinates. -/
theorem eq5 {d : Fin 5 → ℕ} (i j : (⟨5, d⟩ : Shape).Idx) (h0 : (i 0).val = (j 0).val) (h1 : (i 1).val = (j 1).val) (h2 : (i 2).val = (j 2).val)
    (h3 : (i 3).val = (j 3).val) (h4 : (i 4).val = (j 4).val) : i = j := funext fun a => Fin.ext (by
  match a with
  | ⟨0, _⟩ => exact h0
  | ⟨1, _⟩ => exact h1
  | ⟨2, _⟩ => exact h2
  | ⟨3, _⟩ => exact h3
  | ⟨4, _⟩ => exact h4)

/-- Two rank-4 indices with the same coordinates. -/
theorem eq4 {d : Fin 4 → ℕ} (i j : (⟨4, d⟩ : Shape).Idx) (h0 : (i 0).val = (j 0).val) (h1 : (i 1).val = (j 1).val) (h2 : (i 2).val = (j 2).val)
    (h3 : (i 3).val = (j 3).val) : i = j := funext fun a => Fin.ext (by
  match a with
  | ⟨0, _⟩ => exact h0
  | ⟨1, _⟩ => exact h1
  | ⟨2, _⟩ => exact h2
  | ⟨3, _⟩ => exact h3)

variable (q kl : S4x8192x4x2x64.Idx → EReal) (kc : S4x256x4x2x64.Idx → EReal) (vl : S4x8192x4x128.Idx → EReal) (vc : S4x256x4x128.Idx → EReal)
  (l6 l7 l8 l9 : S64.Idx → EReal) (g : S128.Idx → EReal)

theorem zero_word : Ideal.ofBits .f32 0x00000000#32 = (0 : EReal) := by pointwise

/-! ## The softmax -/

/-- The scores. -/
theorem score (b : Fin 4) (h : Fin 4) (j : Fin 2) (r : Fin 8192) (k : Fin 8448) :
    val_main_v12 (F := Ideal) q kl kc (ix5 b h j r k) = sc q kl kc b h r j k.val := by
  pointwise [val_main_v12, val_main_v11, val_main_cst_2, val_main_v10, val_main_v8]
  unfold sc
  by_cases hk : k.val < 256
  · rw [dif_pos hk]
    refine congrArg (· * scale) (Finset.sum_congr rfl fun d _ => ?_)
    rw [dif_pos hk]
  · rw [dif_neg hk, dif_pos (by omega)]
    refine congrArg (· * scale) (Finset.sum_congr rfl fun d _ => ?_)
    rw [dif_neg hk]

/-- The largest score of a row. -/
theorem top (b : Fin 4) (h : Fin 4) (j : Fin 2) (r : Fin 8192) :
    val_main_v15 (F := Ideal) q kl kc (ix4 b h j r) = (Finset.range 8448).sup (sc q kl kc b h r j) := by
  rw [val_main_v15_apply, val_main_v14_apply, val_main_cst_4_apply]
  have e : val_main_v13 (F := Ideal) q kl kc (ix4 b h j r) = (Finset.range 8448).sup (sc q kl kc b h r j) := by
    unfold val_main_v13
    rw [Host.reduce_eq_fold_single _ _ _ reducesTo_S4x4x2x8192x8448_S4x4x2x8192_d4 (by decide)]
    rw [← fold_eq_sup 8448 (sc q kl kc b h r j)]
    have hf : ∀ k : Fin 8448, val_main_v12 (F := Ideal) q kl kc
        ((by decide : Shape.Reduces S4x4x2x8192x8448 [4] S4x4x2x8192).lift (ix4 b h j r) k) = sc q kl kc b h r j k.val := fun k => by
      rw [← score]
      exact congrArg _ (eq5 _ _ rfl rfl rfl rfl rfl)
    rw [← low_bot, ← funext hf]
    rfl
  rw [e]
  show max (Ideal.ofBits .f32 0xFF800000#32) _ = _
  rw [low_bot, max_bot_left]

/-- An exponential of a score less the row's largest. -/
theorem expo (b : Fin 4) (h : Fin 4) (j : Fin 2) (r : Fin 8192) (k : Fin 8448) :
    val_main_v19 (F := Ideal) q kl kc (ix5 b h j r k)
      = Ideal.exp (sc q kl kc b h r j k.val - (Finset.range 8448).sup (sc q kl kc b h r j)) := by
  rw [val_main_v19_apply, val_main_v18_apply, val_main_v17_apply, val_main_v16_apply, score, ← top q kl kc b h j r]
  exact congrArg (fun x => Ideal.exp (sc q kl kc b h r j k.val - val_main_v15 (F := Ideal) q kl kc x)) (eq4 _ _ rfl rfl rfl rfl)

/-- A softmax weight. -/
theorem weight (b : Fin 4) (h : Fin 4) (j : Fin 2) (r : Fin 8192) (k : Fin 8448) :
    val_main_v23 (F := Ideal) q kl kc (ix5 b h j r k) = wt (sc q kl kc b h r j) 8448 k.val := by
  rw [val_main_v23_apply, val_main_v22_apply, val_main_v21_apply, val_main_v20_apply, expo]
  unfold wt
  rw [Finset.sum_range]
  have hz : val_main_cst_5 (F := Ideal) (Shape.Idx.first h_S_) = (0 : EReal) := zero_word
  rw [hz, zero_add]
  have hs : ∀ k' : Fin 8448, val_main_v19 (F := Ideal) q kl kc (idx_main_v20 (idx_main_v21 (idx_main_v22 (ix5 b h j r k))) k')
      = Ideal.exp (sc q kl kc b h r j k'.val - (Finset.range 8448).sup (sc q kl kc b h r j)) := fun k' => by
    rw [← expo]
    exact congrArg _ (eq5 _ _ rfl rfl rfl rfl rfl)
  rw [Finset.sum_congr rfl fun k' _ => hs k']
  rfl

/-- Lambda. -/
theorem lambda (i : S_.Idx) : val_main_v7 (F := Ideal) l6 l7 l8 l9 i = lam l6 l7 l8 l9 := by
  pointwise [val_main_v7, val_main_v6, val_main_v5, val_main_v4, val_main_v3, val_main_v2, val_main_v1, val_main_v0, val_main_cst, val_main_cst_0, val_main_cst_1]
  rfl

/-- The difference of the two softmaxes' weights. -/
theorem diff (b : Fin 4) (h : Fin 4) (r : Fin 8192) (k : Fin 8448) :
    val_main_v30 (F := Ideal) q kl kc l6 l7 l8 l9 (ix4 b h r k)
      = wt (sc q kl kc b h r 0) 8448 k.val - lam l6 l7 l8 l9 * wt (sc q kl kc b h r 1) 8448 k.val := by
  rw [val_main_v30_apply, val_main_v29_apply, val_main_v28_apply, lambda]
  have e0 : val_main_v25 (F := Ideal) q kl kc (ix4 b h r k) = wt (sc q kl kc b h r 0) 8448 k.val := by
    unfold val_main_v25
    rw [shapeCast_apply _ _ _ (ix5 b h (0 : Fin 1) r k) (by
      rw [Shape.rowMajor_val_five, Shape.rowMajor_val_four]
      show ((((b.val * 4 + h.val) * 1 + 0) * 8192 + r.val) * 8448 + k.val) = ((b.val * 4 + h.val) * 8192 + r.val) * 8448 + k.val
      omega), val_main_v24_apply, ← weight]
    exact congrArg _ (eq5 _ _ rfl rfl rfl rfl rfl)
  have e1 : val_main_v27 (F := Ideal) q kl kc (ix4 b h r k) = wt (sc q kl kc b h r 1) 8448 k.val := by
    unfold val_main_v27
    rw [shapeCast_apply _ _ _ (ix5 b h (0 : Fin 1) r k) (by
      rw [Shape.rowMajor_val_five, Shape.rowMajor_val_four]
      show ((((b.val * 4 + h.val) * 1 + 0) * 8192 + r.val) * 8448 + k.val) = ((b.val * 4 + h.val) * 8192 + r.val) * 8448 + k.val
      omega), val_main_v26_apply, ← weight]
    exact congrArg _ (eq5 _ _ rfl rfl rfl rfl rfl)
  rw [e0, e1]
  rfl

/-! ## The output -/

/-- The values. -/
theorem value (b : Fin 4) (k : Fin 8448) (h : Fin 4) (e : Fin 128) :
    val_main_v9 (F := Ideal) vl vc (ix4 b k h e) = vals vl vc b h e k.val := by
  pointwise [val_main_v9]
  unfold vals
  by_cases hk : k.val < 256
  · rw [dif_pos hk, dif_pos hk]
  · rw [dif_neg hk, dif_neg hk, dif_pos (by omega)]

/-- The weighted sum of the values, before its normalisation. -/
abbrev out (b h : Fin 4) (r : Fin 8192) (e : Fin 128) : EReal :=
  ∑ k ∈ Finset.range 8448, (wt (sc q kl kc b h r 0) 8448 k - lam l6 l7 l8 l9 * wt (sc q kl kc b h r 1) 8448 k) * vals vl vc b h e k

theorem mixed (b : Fin 4) (r : Fin 8192) (h : Fin 4) (e : Fin 128) :
    val_main_v32 (F := Ideal) q kl kc vl vc l6 l7 l8 l9 (ix4 b r h e) = out q kl kc vl vc l6 l7 l8 l9 b h r e := by
  rw [val_main_v32_apply, val_main_v31_apply]
  unfold out
  rw [Finset.sum_range]
  refine Finset.sum_congr rfl fun k _ => ?_
  rw [mul_comm, ← value, ← diff]
  exact congrArg₂ (fun x y => val_main_v30 (F := Ideal) q kl kc l6 l7 l8 l9 x * val_main_v9 (F := Ideal) vl vc y) (eq4 _ _ rfl rfl rfl rfl) (eq4 _ _ rfl rfl rfl rfl)

/-- The normalised and scaled output. -/
theorem normed (b : Fin 4) (r : Fin 8192) (h : Fin 4) (e : Fin 128) :
    val_main_v47 (F := Ideal) q kl kc vl vc l6 l7 l8 l9 g (ix4 b r h e)
      = rms (Ideal.ofBits .f32 0x43000000#32) (Ideal.ofBits .f32 0x358637BD#32) (out q kl kc vl vc l6 l7 l8 l9 b h r) e
        * g (ix1 e) * Ideal.ofBits .f32 0x3F24FD5C#32 := by
  rw [val_main_v47_apply, val_main_v46_apply, val_main_cst_9_apply, val_main_v45_apply, val_main_v44_apply, val_main_v43_apply,
    val_main_v42_apply, val_main_v41_apply, val_main_v40_apply, val_main_v39_apply, val_main_v38_apply, val_main_cst_8_apply,
    val_main_v37_apply, val_main_v36_apply, val_main_cst_7_apply, val_main_v35_apply, val_main_v34_apply, mixed]
  have hz : val_main_cst_6 (F := Ideal) (Shape.Idx.first h_S_) = (0 : EReal) := zero_word
  rw [hz, zero_add]
  have hs : ∀ k : Fin 128, val_main_v33 (F := Ideal) q kl kc vl vc l6 l7 l8 l9 (idx_main_v34 (idx_main_v35 (idx_main_v41 (ix4 b r h e))) k)
      = out q kl kc vl vc l6 l7 l8 l9 b h r k * out q kl kc vl vc l6 l7 l8 l9 b h r k := fun k => by
    rw [val_main_v33_apply, ← mixed]
    exact congrArg (fun x => val_main_v32 (F := Ideal) q kl kc vl vc l6 l7 l8 l9 x * val_main_v32 (F := Ideal) q kl kc vl vc l6 l7 l8 l9 x) (eq4 _ _ rfl rfl rfl rfl)
  rw [Finset.sum_congr rfl fun k _ => hs k]
  have hg : g (idx_main_v43 (idx_main_v44 (ix4 b r h e))) = g (ix1 e) := congrArg g (funext fun a => Fin.ext (by
    match a with
    | ⟨0, _⟩ => rfl))
  rw [hg]
  rfl

/-- The result at an entry of a latent row. -/
theorem result (b : Fin 4) (r : Fin 8192) (h : Fin 4) (e : Fin 128) (x : S33792x512.Idx) (h0 : (x 0).val = b.val * 8192 + r.val)
    (h1 : (x 1).val = h.val * 128 + e.val) :
    val_main_v50 (F := Ideal) q kl kc vl vc l6 l7 l8 l9 g x
      = rms (Ideal.ofBits .f32 0x43000000#32) (Ideal.ofBits .f32 0x358637BD#32) (out q kl kc vl vc l6 l7 l8 l9 b h r) e
        * g (ix1 e) * Ideal.ofBits .f32 0x3F24FD5C#32 := by
  rw [← normed]
  unfold val_main_v50 val_main_v48
  have hx : ∀ a : Fin 2, ((ix2 (⟨b.val * 8192 + r.val, by omega⟩ : Fin 32768) (⟨h.val * 128 + e.val, by omega⟩ : Fin 512) : S32768x512.Idx) a).val
      = (x a).val := fun a => by
    match a with
    | ⟨0, _⟩ => exact h0.symm
    | ⟨1, _⟩ => exact h1.symm
  refine (concatenate_pair_apply_left (s₁ := S32768x512) (s₂ := S1024x512) 0 _ _ concatenates_S32768x512_S1024x512_S33792x512_d0 x rfl
    (ix2 (⟨b.val * 8192 + r.val, by omega⟩ : Fin 32768) (⟨h.val * 128 + e.val, by omega⟩ : Fin 512)) hx).trans ?_
  refine shapeCast_apply _ _ _ _ ?_
  rw [Shape.rowMajor_val_four, Shape.rowMajor_val_two]
  show ((b.val * 8192 + r.val) * 4 + h.val) * 128 + e.val = (b.val * 8192 + r.val) * 512 + (h.val * 128 + e.val)
  omega

end Cert.ReferenceIdeal.Rows
-- ==== Proof.Claims.lean ====
/- The claims of the latent attention: what the precondition and the mask say, and the two results equal on the latent rows. -/
module

public import proofs.«01_k».proof.Defs
public import proofs.«01_k».proof.Proof.Gen.Kernel.Frame
public import proofs.«01_k».proof.Proof.Gen.ReferenceIdeal.Run
public import proofs.«01_k».proof.Proof.Gen.Pre_values_finite
public import proofs.«01_k».proof.Proof.Gen.On_latent_rows
public import proofs.«01_k».proof.Proof.Rows
public import Idealize.ShloMosaic.Lib.Quiescent
public import Idealize.ShloMosaic.Lib.Affine

@[expose] public section

set_option maxRecDepth 16384

noncomputable section

namespace Cert.Attention

open Cert.Softmax Idealize.ShloMosaic Idealize.ShloMosaic.TcCoe Idealize.SL.Sem
open Cert.KernelIdeal.Blocks (sc vals lam scale)

/-! ## The precondition: the values and the lambda vectors are real numbers -/

/-- An extended real whose absolute value is below infinity is a real number. -/
theorem real_of_abs (x : EReal) (h : FloatOps.cmpf (F := Ideal) (φ := .f32) .olt (FloatOps.hostAbsf (F := Ideal) (φ := .f32) x) (Ideal.ofBits .f32 0x7F800000#32) = 1#1) :
    ∃ y : ℝ, x = (y : EReal) := by
  have ht : Ideal.ofBits .f32 0x7F800000#32 = (⊤ : EReal) := by simp [Ideal.ofBits, Ideal.ieee]
  rw [ht] at h
  have h' : BitVec.ofBool (decide (max x (-x) < (⊤ : EReal))) = 1#1 := h
  induction x using EReal.rec with
  | bot => simp at h'
  | top => simp at h'
  | coe y => exact ⟨y, rfl⟩

variable (q kl : KernelIdeal.S4x8192x4x2x64.Idx → EReal) (kc : KernelIdeal.S4x256x4x2x64.Idx → EReal) (vl : KernelIdeal.S4x8192x4x128.Idx → EReal)
  (vc : KernelIdeal.S4x256x4x128.Idx → EReal) (l6 l7 l8 l9 : KernelIdeal.S64.Idx → EReal) (g : KernelIdeal.S128.Idx → EReal)

/-- Real value rows give real values at every key. -/
theorem vals_real (hl : ∀ i, ∃ y : ℝ, vl i = (y : EReal)) (hc : ∀ i, ∃ y : ℝ, vc i = (y : EReal)) (b h : Fin 4) (e : Fin 128) (k : ℕ) :
    ∃ y : ℝ, vals vl vc b h e k = (y : EReal) := by
  unfold vals
  split_ifs
  · exact hc _
  · exact hl _
  · exact ⟨0, rfl⟩

/-- The exponential of the inner product of two real vectors is real. -/
theorem exp_dot_real (x y : KernelIdeal.S64.Idx → EReal) (hx : ∀ i, ∃ a : ℝ, x i = (a : EReal)) (hy : ∀ i, ∃ a : ℝ, y i = (a : EReal)) :
    ∃ a : ℝ, Ideal.exp (∑ i : Fin 64, x (ix1 i) * y (ix1 i)) = (a : EReal) := by
  choose u hu using hx
  choose w hw using hy
  have e : (∑ i : Fin 64, x (ix1 i) * y (ix1 i)) = ((∑ i : Fin 64, u (ix1 i) * w (ix1 i) : ℝ) : EReal) := by
    rw [coe_sum]
    exact Finset.sum_congr rfl fun i _ => by rw [hu, hw, EReal.coe_mul]
  rw [e]
  exact ⟨_, rfl⟩

/-- Lambda is real when its four vectors are. -/
theorem lam_real (h6 : ∀ i, ∃ a : ℝ, l6 i = (a : EReal)) (h7 : ∀ i, ∃ a : ℝ, l7 i = (a : EReal)) (h8 : ∀ i, ∃ a : ℝ, l8 i = (a : EReal))
    (h9 : ∀ i, ∃ a : ℝ, l9 i = (a : EReal)) : ∃ a : ℝ, lam l6 l7 l8 l9 = (a : EReal) := by
  obtain ⟨a, ha⟩ := exp_dot_real l6 l7 h6 h7
  obtain ⟨b, hb⟩ := exp_dot_real l8 l9 h8 h9
  have hc : ∃ c : ℝ, Ideal.ofBits .f32 0x3EB60549#32 = (c : EReal) := by
    simp only [Ideal.ofBits, Ideal.ieee]
    exact ⟨_, rfl⟩
  obtain ⟨c, hc⟩ := hc
  unfold lam
  rw [ha, hb, hc]
  exact ⟨a - b + c, by push_cast; rfl⟩

/-- With real values and a real lambda, the running softmax's normalised difference is the plain softmaxes'. -/
theorem same (hl : ∀ i, ∃ y : ℝ, vl i = (y : EReal)) (hc : ∀ i, ∃ y : ℝ, vc i = (y : EReal)) (hm : ∃ a : ℝ, lam l6 l7 l8 l9 = (a : EReal))
    (b h : Fin 4) (r : Fin 8192) (e : Fin 128) :
    rms (Ideal.ofBits .f32 0x43000000#32) (Ideal.ofBits .f32 0x358637BD#32)
        (fun e' => Ideal.div (ws Cert.KernelIdeal.Body.b0 (sc q kl kc b h r 0) (vals vl vc b h e') 8448) (nm Cert.KernelIdeal.Body.b0 (sc q kl kc b h r 0) 8448)
          - lam l6 l7 l8 l9 * Ideal.div (ws Cert.KernelIdeal.Body.b0 (sc q kl kc b h r 1) (vals vl vc b h e') 8448) (nm Cert.KernelIdeal.Body.b0 (sc q kl kc b h r 1) 8448)) e
      = rms (Ideal.ofBits .f32 0x43000000#32) (Ideal.ofBits .f32 0x358637BD#32) (ReferenceIdeal.Rows.out q kl kc vl vc l6 l7 l8 l9 b h r) e := by
  obtain ⟨w, hw⟩ := start_real
  obtain ⟨p, hp⟩ := eps_real
  obtain ⟨a, ha⟩ := hm
  choose v hv using fun (e : Fin 128) (k : ℕ) => vals_real vl vc hl hc b h e k
  have hv' : ∀ e', vals vl vc b h e' = fun k => ((v e' k : ℝ) : EReal) := fun e' => funext (hv e')
  unfold ReferenceIdeal.Rows.out
  simp only [hv', ha]
  rw [show Cert.KernelIdeal.Body.b0 = ((w : ℝ) : EReal) from hw, width_real, hp]
  exact rms_difference w a 128 (by norm_num) p _ _ 8448 v e

/-! ## The mask -/

/-- The mask is set at an entry only if its row is a latent row. -/
theorem mask (x0 x2 : FVec Ideal On_latent_rows.S4x8192x4x2x64 .f32) (x1 x3 : FVec Ideal On_latent_rows.S4x256x4x2x64 .f32) (x4 : FVec Ideal On_latent_rows.S4x8192x4x128 .f32)
    (x5 : FVec Ideal On_latent_rows.S4x256x4x128 .f32) (x6 x7 x8 x9 : FVec Ideal On_latent_rows.S64 .f32) (x10 : FVec Ideal On_latent_rows.S128 .f32)
    (i : On_latent_rows.S33792x512.Idx)
    (h : letI := On_latent_rows.Gen.facts; On_latent_rows.fn (F := Ideal) x0 x1 x2 x3 x4 x5 x6 x7 x8 x9 x10 i = 1#1) : (i 0).val < 32768 := by
  have h' : IntOp.cmpi .slt (BitVec.ofNat 32 (i 0).val) 32768#32 = 1#1 := h
  rw [IntOp.cmpi_slt] at h'
  have hi : (i 0).val < 33792 := (i 0).isLt
  have e1 : (BitVec.ofNat 32 (i 0).val).toInt = ((i 0).val : ℤ) := by
    rw [BitVec.toInt_ofNat', Int.bmod_eq_of_le] <;> omega
  rw [e1, show (32768#32).toInt = (32768 : ℤ) from by decide] at h'
  omega

/-! ## The claims -/

/-- The kernel's and the reference's results are equal at every entry of a latent row, when the values and the lambda vectors are real. -/
theorem entries (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (hpre : letI := Pre_values_finite.Gen.facts; Pre_KernelIdeal_values_finite m) (c : Dev KernelIdeal.nD)
    (a0 : m' ((c.tc : Thread ReferenceIdeal.nD ReferenceIdeal.τ).loc ReferenceIdeal.main_arg0) = m ((c.tc : Thread KernelIdeal.nD KernelIdeal.τ).loc KernelIdeal.main_arg0))
    (a2 : m' ((c.tc : Thread ReferenceIdeal.nD ReferenceIdeal.τ).loc ReferenceIdeal.main_arg2) = m ((c.tc : Thread KernelIdeal.nD KernelIdeal.τ).loc KernelIdeal.main_arg2))
    (a3 : m' ((c.tc : Thread ReferenceIdeal.nD ReferenceIdeal.τ).loc ReferenceIdeal.main_arg3) = m ((c.tc : Thread KernelIdeal.nD KernelIdeal.τ).loc KernelIdeal.main_arg3))
    (a4 : m' ((c.tc : Thread ReferenceIdeal.nD ReferenceIdeal.τ).loc ReferenceIdeal.main_arg4) = m ((c.tc : Thread KernelIdeal.nD KernelIdeal.τ).loc KernelIdeal.main_arg4))
    (a5 : m' ((c.tc : Thread ReferenceIdeal.nD ReferenceIdeal.τ).loc ReferenceIdeal.main_arg5) = m ((c.tc : Thread KernelIdeal.nD KernelIdeal.τ).loc KernelIdeal.main_arg5))
    (a6 : m' ((c.tc : Thread ReferenceIdeal.nD ReferenceIdeal.τ).loc ReferenceIdeal.main_arg6) = m ((c.tc : Thread KernelIdeal.nD KernelIdeal.τ).loc KernelIdeal.main_arg6))
    (a7 : m' ((c.tc : Thread ReferenceIdeal.nD ReferenceIdeal.τ).loc ReferenceIdeal.main_arg7) = m ((c.tc : Thread KernelIdeal.nD KernelIdeal.τ).loc KernelIdeal.main_arg7))
    (a8 : m' ((c.tc : Thread ReferenceIdeal.nD ReferenceIdeal.τ).loc ReferenceIdeal.main_arg8) = m ((c.tc : Thread KernelIdeal.nD KernelIdeal.τ).loc KernelIdeal.main_arg8))
    (a9 : m' ((c.tc : Thread ReferenceIdeal.nD ReferenceIdeal.τ).loc ReferenceIdeal.main_arg9) = m ((c.tc : Thread KernelIdeal.nD KernelIdeal.τ).loc KernelIdeal.main_arg9))
    (a10 : m' ((c.tc : Thread ReferenceIdeal.nD ReferenceIdeal.τ).loc ReferenceIdeal.main_arg10) = m ((c.tc : Thread KernelIdeal.nD KernelIdeal.τ).loc KernelIdeal.main_arg10))
    (i : KernelIdeal.S33792x512.Idx) (hi : (i 0).val < 32768) :
    (ReferenceIdeal.Value.res_main_v50 m' c : KernelIdeal.S33792x512.Idx → EReal) i = (KernelIdeal.Gen.dats m 0 c).arrAt 7 KernelIdeal.cfg0.N i := by
  have hj : (i 1).val < 512 := (i 1).isLt
  have h0 : (i 0).val = (⟨(i 0).val / 8192, by omega⟩ : Fin 4).val * 8192 + (⟨(i 0).val % 8192, by omega⟩ : Fin 8192).val := by
    show (i 0).val = (i 0).val / 8192 * 8192 + (i 0).val % 8192
    omega
  have h1 : (i 1).val = (⟨(i 1).val / 128, by omega⟩ : Fin 4).val * 128 + (⟨(i 1).val % 128, by omega⟩ : Fin 128).val := by
    show (i 1).val = (i 1).val / 128 * 128 + (i 1).val % 128
    omega
  obtain ⟨p4, p5, p6, p7, p8, p9⟩ := hpre c
  have r4 := fun j => real_of_abs _ (congrFun p4 j)
  have r5 := fun j => real_of_abs _ (congrFun p5 j)
  have r6 := fun j => real_of_abs _ (congrFun p6 j)
  have r7 := fun j => real_of_abs _ (congrFun p7 j)
  have r8 := fun j => real_of_abs _ (congrFun p8 j)
  have r9 := fun j => real_of_abs _ (congrFun p9 j)
  rw [ReferenceIdeal.Read.val_main_v50_eq, a0, a2, a3, a4, a5, a6, a7, a8, a9, a10]
  refine (ReferenceIdeal.Rows.result _ _ _ _ _ _ _ _ _ _ _ _ _ _ i h0 h1).trans ?_
  refine Eq.trans ?_ (KernelIdeal.Blocks.result m c _ _ _ _ i h0 h1).symm
  exact congrArg (fun t => t * KernelIdeal.Blocks.GN m c (ix1 (⟨(i 1).val % 128, by omega⟩ : Fin 128)) * Ideal.ofBits .f32 0x3F24FD5C#32)
    (same _ _ _ _ _ _ _ _ _ r4 r5 (lam_real _ _ _ _ r6 r7 r8 r9) _ _ _ _).symm

/-- The algebraic claim: on the latent rows both programs end with the same result. -/
theorem algebraic : Cert.algebraic_KernelIdeal_ReferenceIdeal_on_latent_rows_pre_values_finite (hKernelIdeal := Cert.KernelIdeal.Gen.facts)
    (hReferenceIdeal := Cert.ReferenceIdeal.Gen.facts) (hPre_values_finite := Cert.Pre_values_finite.Gen.facts) (hOn_latent_rows := Cert.On_latent_rows.Gen.facts) := by
  intro m ρ m' ρ' hpre hargs
  refine ⟨fun c => (KernelIdeal.Gen.dats m 0 c).arrAt 7 KernelIdeal.cfg0.N, ?_, ?_⟩
  · exact (θ_run KernelIdeal.defs _ _).mono (fun _ h c => ⟨fun i _ => congrFun (h c).1 i, (h c).2⟩) (KernelIdeal.Value.run_blocks m ρ)
  · refine (θ_run ReferenceIdeal.defs _ _).mono (fun _ h c => ⟨fun i hi => (congrFun (h c).1 i).trans ?_, (h c).2⟩) (ReferenceIdeal.Value.run m' ρ')
    obtain ⟨a0, -, a2, a3, a4, a5, a6, a7, a8, a9, a10⟩ := hargs c
    exact entries m m' hpre c a0 a2 a3 a4 a5 a6 a7 a8 a9 a10 i (mask _ _ _ _ _ _ _ _ _ _ _ i hi)

/-- The reference's program keeps its arguments and leaves no counter raised. -/
theorem reference_frame : Cert.quiescent_ReferenceIdeal (hReferenceIdeal := Cert.ReferenceIdeal.Gen.facts) := fun m ρ _ =>
  (θ_run ReferenceIdeal.defs _ _).mono (fun r h => ⟨fun c => (h c).2, Idealize.ShloMosaic.sem_eq_zero_of_no_sems (by decide) r.2⟩) (ReferenceIdeal.Value.run m ρ)

end Cert.Attention
-- ==== Proof.ExpertsRun.lean ====
/- The body of the experts' kernel run once per way its two conditions go, on staging buffers at any contents: what it
   leaves in the output's buffer and in the two buffers that keep the weights rounded. -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables, and the two buffers of rounded weights, whole. -/
abbrev tb0 : Memref sig .tc .smem S560 .i32 := Memref.whole main_arg0
abbrev tb1 : Memref sig .tc .smem S1 .i32 := Memref.whole main_arg1
abbrev sc0 : Memref sig .tc .vmem S1024x2048 .bf16 := Memref.whole cc0_scratch0
abbrev sc1 : Memref sig .tc .vmem S1024x1024 .bf16 := Memref.whole cc0_scratch1

/-- The words the body reads of the tables at a point: its block's expert, the expert of the block before, the number of used blocks. -/
abbrev wordHere (i : grid0.Coords) (T0 : S560.Idx → Elt F .i32) : Elt F .i32 :=
  View.readAt (Elt F) tb0.view (Rect.unit (s := S560) (k0_off1 i) S1.size (k0_off1_inb i)).toLoadRect T0 (Shape.Idx.first (numel1_S1.symm ▸ Nat.one_pos))
abbrev wordBefore (i : grid0.Coords) (T0 : S560.Idx → Elt F .i32) : Elt F .i32 :=
  View.readAt (Elt F) tb0.view (Rect.unit (s := S560) (k0_off2 i) S1.size (k0_off2_inb i)).toLoadRect T0 (Shape.Idx.first (numel1_S1.symm ▸ Nat.one_pos))
abbrev wordUsed (T1 : S1.Idx → Elt F .i32) : Elt F .i32 :=
  View.readAt (Elt F) tb1.view (Rect.unit (s := S1) ![0] S1.size inb_S1_S1_0).toLoadRect T1 (Shape.Idx.first (numel1_S1.symm ▸ Nat.one_pos))

/-- The condition under which the body rounds the weights anew: its expert is a new one, and its block is used. -/
abbrev newExpert (i : grid0.Coords) (T0 : S560.Idx → Elt F .i32) (T1 : S1.Idx → Elt F .i32) : BitVec 1 :=
  Scalar.cmpi .ne (Scalar.extui (Scalar.andi (Scalar.ori (Scalar.cmpi .eq (BitVec.ofNat 32 (i 0).val) 0#32) (Scalar.cmpi .ne (wordHere i T0) (wordBefore i T0)))
    (Scalar.cmpi .slt (BitVec.ofNat 32 (i 0).val) (wordUsed T1)))) 0#32

section
variable (c : Dev nD) (i : grid0.Coords)
  (arg3 : Memref sig .tc .vmem S2048x128 .f32) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S2048x128 .f32) (harg8 : arg8.IsWhole)
  (T0 : S560.Idx → Elt F .i32) (T1 : S1.Idx → Elt F .i32)
  (x0 : S2048x128.Idx → Elt F .f32) (x1 : S1x1024x2048.Idx → Elt F .f32) (x2 : S1x1x2048.Idx → Elt F .f32) (x3 : S1x1024x1024.Idx → Elt F .f32) (x4 : S1x1x1024.Idx → Elt F .f32)

/-- What the body holds of its inputs and of the tables, and never changes. -/
abbrev inputs : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tb0.view.loc (c : Thread nD τ) ↦{fullShare.right} T0)
    ∗ (tb1.view.loc (c : Thread nD τ) ↦{fullShare.right} T1))

set_option backward.proofsInPublic true in
set_option maxHeartbeats 8000000 in
/-- A new expert's block: the weights are rounded into the two buffers, then the output is stored, whatever the three held. -/
noncomputable def runNew (h1 : newExpert i T0 T1 = 1#1) (h2 : k0_cond2 i (wordUsed T1) = 1#1) :
    Σ' (out : List (View.Piece (Elt F) S2048x128 .f32)) (s0 : Buf (Elt F) ((c : Thread nD τ).loc cc0_scratch0)), { s1 : Buf (Elt F) ((c : Thread nD τ).loc cc0_scratch1) //
      ∀ (a0 : Buf (Elt F) ((c : Thread nD τ).loc cc0_scratch0)) (a1 : Buf (Elt F) ((c : Thread nD τ).loc cc0_scratch1)) (K : PUnit → sProp 𝕄),
        iprop(inputs c arg3 arg4 arg5 arg6 arg7 T0 T1 x0 x1 x2 x3 x4
          ∗ (∃ d, owns (c : Thread nD τ) arg8 fullShare d)
          ∗ (sc0.view.loc (c : Thread nD τ) ↦{fullShare} a0)
          ∗ (sc1.view.loc (c : Thread nD τ) ↦{fullShare} a1)
          ∗ (iprop(inputs c arg3 arg4 arg5 arg6 arg7 T0 T1 x0 x1 x2 x3 x4
              ∗ (∃ f, arg8.view.loc (c : Thread nD τ) ↦[arg8.view.set]{fullShare} arg8.view.writes (Elt F) f out)
              ∗ (sc0.view.loc (c : Thread nD τ) ↦{fullShare} s0)
              ∗ (sc1.view.loc (c : Thread nD τ) ↦{fullShare} s1)) -∗ K ⟨⟩))
          ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K } :=
  ⟨_, _, _, fun a0 a1 K => by
    unfold owns
    rw [cc0_moe_experts_eq_skeleton]; unfold cc0_moe_experts_skel
    iintro ⟨⟨H0, H1, H2, H3, H4, HT0, HT1⟩, ⟨%d5, %f5, -, HO5⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = Scalar.cmpi = _; exact h1) | (guard_target = k0_cond2 _ _ = _; exact h2))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option backward.proofsInPublic true in
set_option maxHeartbeats 8000000 in
/-- A further block of an expert: the output is stored, computed from the rounded weights found, which stay. -/
noncomputable def runSame (a0 : Buf (Elt F) ((c : Thread nD τ).loc cc0_scratch0)) (a1 : Buf (Elt F) ((c : Thread nD τ).loc cc0_scratch1))
    (h1 : ¬ newExpert i T0 T1 = 1#1) (h2 : k0_cond2 i (wordUsed T1) = 1#1) :
    { out : List (View.Piece (Elt F) S2048x128 .f32) //
      ∀ (K : PUnit → sProp 𝕄),
        iprop(inputs c arg3 arg4 arg5 arg6 arg7 T0 T1 x0 x1 x2 x3 x4
          ∗ (∃ d, owns (c : Thread nD τ) arg8 fullShare d)
          ∗ (sc0.view.loc (c : Thread nD τ) ↦{fullShare} a0)
          ∗ (sc1.view.loc (c : Thread nD τ) ↦{fullShare} a1)
          ∗ (iprop(inputs c arg3 arg4 arg5 arg6 arg7 T0 T1 x0 x1 x2 x3 x4
              ∗ (∃ f, arg8.view.loc (c : Thread nD τ) ↦[arg8.view.set]{fullShare} arg8.view.writes (Elt F) f out)
              ∗ (sc0.view.loc (c : Thread nD τ) ↦{fullShare} a0)
              ∗ (sc1.view.loc (c : Thread nD τ) ↦{fullShare} a1)) -∗ K ⟨⟩))
          ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K } :=
  ⟨_, fun K => by
    unfold owns
    rw [cc0_moe_experts_eq_skeleton]; unfold cc0_moe_experts_skel
    iintro ⟨⟨H0, H1, H2, H3, H4, HT0, HT1⟩, ⟨%d5, %f5, -, HO5⟩, HS0, HS1, Hk⟩
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = ¬(Scalar.cmpi = _); exact h1) | (guard_target = k0_cond2 _ _ = _; exact h2))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]; · iexists _; iexact HO5
    isplitl [HS0]; · iexact HS0
    iexact HS1⟩

set_option maxHeartbeats 8000000 in
/-- A block that is not used: the body changes nothing. -/
theorem runIdle (a0 : Buf (Elt F) ((c : Thread nD τ).loc cc0_scratch0)) (a1 : Buf (Elt F) ((c : Thread nD τ).loc cc0_scratch1))
    (h1 : ¬ newExpert i T0 T1 = 1#1) (h2 : ¬ k0_cond2 i (wordUsed T1) = 1#1) (y : S2048x128.Idx → Elt F .f32) (K : PUnit → sProp 𝕄) :
    iprop(inputs c arg3 arg4 arg5 arg6 arg7 T0 T1 x0 x1 x2 x3 x4
      ∗ owns (c : Thread nD τ) arg8 fullShare y
      ∗ (sc0.view.loc (c : Thread nD τ) ↦{fullShare} a0)
      ∗ (sc1.view.loc (c : Thread nD τ) ↦{fullShare} a1)
      ∗ (iprop(inputs c arg3 arg4 arg5 arg6 arg7 T0 T1 x0 x1 x2 x3 x4
          ∗ owns (c : Thread nD τ) arg8 fullShare y
          ∗ (sc0.view.loc (c : Thread nD τ) ↦{fullShare} a0)
          ∗ (sc1.view.loc (c : Thread nD τ) ↦{fullShare} a1)) -∗ K ⟨⟩))
      ⊢ wp frame (wpE (defs₀ (F := F)) Variants.none c none) Set.univ (cc0_moe_experts i tb0 (Memref.isWhole_whole _) tb1 (Memref.isWhole_whole _) arg3 harg3 arg4 harg4 arg5 harg5 arg6 harg6 arg7 harg7 arg8 harg8 sc0 (Memref.isWhole_whole _) sc1 (Memref.isWhole_whole _)) K := by
    unfold owns
    rw [cc0_moe_experts_eq_skeleton]; unfold cc0_moe_experts_skel
    iintro ⟨⟨H0, H1, H2, H3, H4, HT0, HT1⟩, ⟨%f5, %hf5, HO5⟩, HS0, HS1, Hk⟩
    obtain rfl := harg8.eq_unread hf5
    have hS0 : sc0.IsWhole := Memref.isWhole_whole _
    have hS1 : sc1.IsWhole := Memref.isWhole_whole _
    have hT0 : tb0.IsWhole := Memref.isWhole_whole _
    have hT1 : tb1.IsWhole := Memref.isWhole_whole _
    sl_exec! (disch := first | (guard_target = ¬(Scalar.cmpi = _); exact h1) | (guard_target = ¬(k0_cond2 _ _ = _); exact h2))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    isplitl [HO5]
    · iexists _; isplitr; · ipureintro; exact harg8.read_unread _
      iexact HO5
    isplitl [HS0]; · iexact HS0
    iexact HS1
end

end Cert.Kernel2Ideal.Experts

end
-- ==== Proof.ExpertsBlock.lean ====
/- What one used block of the experts' kernel stores, as one function of the block's tokens, its expert's rounded weights and its
   expert's biases: the eight strided stores of the body write that function's rows, on either path. -/
module

public import proofs.«01_k».proof.Proof.ExpertsRun
public import Idealize.ShloMosaic.Lib.VecWindow
public import Idealize.ShloMosaic.Lib.Pipeline.Value

@[expose] public section

set_option maxRecDepth 16384

noncomputable section

namespace Cert.Kernel2Ideal.Experts

open Cert.Kernel2Ideal Cert.Kernel2Ideal.Gen
open Idealize.ShloMosaic
open Idealize.ShloMosaic.TcCoe

variable {F : FTy → Type} [FloatOps F]

/-- A two-axis offset of zeros. -/
theorem z2 : (![0, 0] : Fin 2 → ℕ) = fun _ => 0 := by funext a; fin_cases a <;> rfl

/-- Every eighth row of a block's window, from row `j`: columns `128 j` to `128 j + 127` of its tokens. -/
def stripe (x0 : S2048x128.Idx → Elt F .f32) (j : Fin 8) : S256x128.Idx → Elt F .f32 :=
  fun x => x0 (fun | ⟨0, _⟩ => (⟨8 * (x 0).val + j.val, by have h : (x 0).val < 256 := (x 0).isLt; show _ < 2048; omega⟩ : Fin 2048)
                   | ⟨1, _⟩ => (⟨(x 1).val, (x 1).isLt⟩ : Fin 128))

/-- The hidden activations of a block. -/
def blockAct (x0 : S2048x128.Idx → Elt F .f32) (w1 : S1024x2048.Idx → Elt F .bf16) (x2 : S1x1x2048.Idx → Elt F .f32) : FVec F S256x1024 .bf16 :=
  k0_pay12 (stripe x0 0) (stripe x0 1) (stripe x0 2) (stripe x0 3) (stripe x0 4) (stripe x0 5) (stripe x0 6) (stripe x0 7) w1 x2

/-- Where row `r`, lane `l` of a block's window sits in the block's result: token `r / 8`, column `128 (r % 8) + l`. -/
def tokenAt (y : S2048x128.Idx) : S256x1024.Idx
  | ⟨0, _⟩ => (⟨(y 0).val / 8, by have h : (y 0).val < 2048 := (y 0).isLt; show _ < 256; omega⟩ : Fin 256)
  | ⟨1, _⟩ => (⟨128 * ((y 0).val % 8) + (y 1).val, by have h : (y 1).val < 128 := (y 1).isLt; show _ < 1024; omega⟩ : Fin 1024)

/-- The block's result, laid out as its window. -/
def blockOut (x0 : S2048x128.Idx → Elt F .f32) (w1 : S1024x2048.Idx → Elt F .bf16) (x2 : S1x1x2048.Idx → Elt F .f32)
    (w2 : S1024x1024.Idx → Elt F .bf16) (x4 : S1x1x1024.Idx → Elt F .f32) : S2048x128.Idx → Elt F .f32 :=
  fun y => k0_pay3 (blockAct x0 w1 x2) w2 x4 (tokenAt y)

/-- Rows `j, j + 8, …` of a window. -/
abbrev rowsAt (j : ℕ) (h : ∀ a, S256x128.size a = 0 ∨ (![j, 0] : Fin 2 → ℕ) a + (![8, 1] : Fin 2 → ℕ) a * (S256x128.size a - 1) < S2048x128.size a) : Rect S2048x128 :=
  ⟨(⟨![j, 0], S256x128.size, ![8, 1], h⟩ : LoadRect S2048x128), spos_8_1⟩

/-- The eight stores of a block, the last first. -/
def stores (A : FVec F S256x1024 .bf16) (w2 : S1024x1024.Idx → Elt F .bf16) (x4 : S1x1x1024.Idx → Elt F .f32) : List (View.Piece (Elt F) S2048x128 .f32) :=
  [⟨rowsAt 7 inb_S2048x128_S256x128_7_0_s_8_1, k0_pay11 A w2 x4⟩, ⟨rowsAt 6 inb_S2048x128_S256x128_6_0_s_8_1, k0_pay10 A w2 x4⟩,
   ⟨rowsAt 5 inb_S2048x128_S256x128_5_0_s_8_1, k0_pay9 A w2 x4⟩, ⟨rowsAt 4 inb_S2048x128_S256x128_4_0_s_8_1, k0_pay8 A w2 x4⟩,
   ⟨rowsAt 3 inb_S2048x128_S256x128_3_0_s_8_1, k0_pay7 A w2 x4⟩, ⟨rowsAt 2 inb_S2048x128_S256x128_2_0_s_8_1, k0_pay6 A w2 x4⟩,
   ⟨rowsAt 1 inb_S2048x128_S256x128_1_0_s_8_1, k0_pay5 A w2 x4⟩, ⟨rowsAt 0 inb_S2048x128_S256x128_0_0_s_8_1, k0_pay4 A w2 x4⟩]

/-- A strided load of a window reads its stripe. -/
theorem load_stripe {v : Memref sig .tc .vmem S2048x128 .f32} (x0 : S2048x128.Idx → Elt F .f32) (j : Fin 8) (n : ℕ) (hn : j.val = n)
    (h : ∀ a, S256x128.size a = 0 ∨ (![n, 0] : Fin 2 → ℕ) a + (![8, 1] : Fin 2 → ℕ) a * (S256x128.size a - 1) < S2048x128.size a) :
    v.view.readAt (Elt F) (⟨![n, 0], S256x128.size, ![8, 1], h⟩ : LoadRect S2048x128) (v.view.rep x0) = stripe x0 j := by
  subst hn
  rw [View.readAt_rep]
  funext x
  refine congrArg x0 (funext fun a => Fin.ext ?_)
  fin_cases a
  · show j.val + 8 * (x 0).val = 8 * (x 0).val + j.val; omega
  · show 0 + 1 * (x 1).val = (x 1).val; omega

/-- A slice of 128 columns of the result is what its rows of the window hold. -/
theorem slice_at {α : Type} (Y : S256x1024.Idx → α) (j : ℕ) (hj : j < 8) (o : ℕ) (ho : o = 128 * j) (hs : S256x1024.Slices ![0, o] S256x128) (h) (x : S256x128.Idx) :
    extractStridedSlice S256x128 ![0, o] Y hs x = Y (tokenAt ((rowsAt j h).emb x)) := by
  have h0 : (x 0).val < 256 := (x 0).isLt
  have h1 : (x 1).val < 128 := (x 1).isLt
  rw [extractStridedSlice_apply ![0, o] Y hs x (tokenAt ((rowsAt j h).emb x))]
  intro a; fin_cases a
  · show (j + 8 * (x 0).val) / 8 = 0 + (x 0).val; omega
  · show 128 * ((j + 8 * (x 0).val) % 8) + (0 + 1 * (x 1).val) = o + (x 1).val; omega

/-- The eight stores leave the block's result, whatever the window held. -/
theorem read_stores (v : View sig .tc .vmem S2048x128 .f32) (f : v.ty.Contents (Elt F)) (A : FVec F S256x1024 .bf16)
    (w2 : S1024x1024.Idx → Elt F .bf16) (x4 : S1x1x1024.Idx → Elt F .f32) :
    v.read (Elt F) (v.writes (Elt F) f (stores A w2 x4)) = fun y => k0_pay3 A w2 x4 (tokenAt y) := by
  funext y
  refine View.read_writes_apply_of_pieces v f (fun y => k0_pay3 A w2 x4 (tokenAt y)) _ ?_ y ?_
  · intro p hp x
    simp only [stores, List.mem_cons, List.not_mem_nil, or_false] at hp
    rcases hp with rfl | rfl | rfl | rfl | rfl | rfl | rfl | rfl
    · exact slice_at (k0_pay3 A w2 x4) 7 (by decide) 896 rfl slices_S256x1024_o0_896_S256x128 inb_S2048x128_S256x128_7_0_s_8_1 x
    · exact slice_at (k0_pay3 A w2 x4) 6 (by decide) 768 rfl slices_S256x1024_o0_768_S256x128 inb_S2048x128_S256x128_6_0_s_8_1 x
    · exact slice_at (k0_pay3 A w2 x4) 5 (by decide) 640 rfl slices_S256x1024_o0_640_S256x128 inb_S2048x128_S256x128_5_0_s_8_1 x
    · exact slice_at (k0_pay3 A w2 x4) 4 (by decide) 512 rfl slices_S256x1024_o0_512_S256x128 inb_S2048x128_S256x128_4_0_s_8_1 x
    · exact slice_at (k0_pay3 A w2 x4) 3 (by decide) 384 rfl slices_S256x1024_o0_384_S256x128 inb_S2048x128_S256x128_3_0_s_8_1 x
    · exact slice_at (k0_pay3 A w2 x4) 2 (by decide) 256 rfl slices_S256x1024_o0_256_S256x128 inb_S2048x128_S256x128_2_0_s_8_1 x
    · exact slice_at (k0_pay3 A w2 x4) 1 (by decide) 128 rfl slices_S256x1024_o0_128_S256x128 inb_S2048x128_S256x128_1_0_s_8_1 x
    · exact slice_at (k0_pay3 A w2 x4) 0 (by decide) 0 rfl slices_S256x1024_o0_0_S256x128 inb_S2048x128_S256x128_0_0_s_8_1 x
  · have h0 : (y 0).val < 2048 := (y 0).isLt
    have key : ∀ (j : ℕ) (h), (y 0).val % 8 = j → y ∈ (rowsAt j h).set := by
      intro j h hj
      have e : (rowsAt j h).emb (fun | ⟨0, _⟩ => (⟨(y 0).val / 8, by show _ < 256; omega⟩ : Fin 256) | ⟨1, _⟩ => (⟨(y 1).val, (y 1).isLt⟩ : Fin 128)) = y := by
        funext a; refine Fin.ext ?_; fin_cases a
        · show j + 8 * ((y 0).val / 8) = (y 0).val; omega
        · show 0 + 1 * (y 1).val = (y 1).val; omega
      rw [← e, ← Rect.map_emb_univ]
      exact Finset.mem_map_of_mem _ (Finset.mem_univ _)
    have hm : (y 0).val % 8 = 0 ∨ (y 0).val % 8 = 1 ∨ (y 0).val % 8 = 2 ∨ (y 0).val % 8 = 3 ∨ (y 0).val % 8 = 4 ∨ (y 0).val % 8 = 5
      ∨ (y 0).val % 8 = 6 ∨ (y 0).val % 8 = 7 := by omega
    unfold stores
    rcases hm with hj | hj | hj | hj | hj | hj | hj | hj
    · exact ⟨⟨rowsAt 0 inb_S2048x128_S256x128_0_0_s_8_1, k0_pay4 A w2 x4⟩, by simp only [List.mem_cons, true_or, or_true], key 0 inb_S2048x128_S256x128_0_0_s_8_1 hj⟩
    · exact ⟨⟨rowsAt 1 inb_S2048x128_S256x128_1_0_s_8_1, k0_pay5 A w2 x4⟩, by simp only [List.mem_cons, true_or, or_true], key 1 inb_S2048x128_S256x128_1_0_s_8_1 hj⟩
    · exact ⟨⟨rowsAt 2 inb_S2048x128_S256x128_2_0_s_8_1, k0_pay6 A w2 x4⟩, by simp only [List.mem_cons, true_or, or_true], key 2 inb_S2048x128_S256x128_2_0_s_8_1 hj⟩
    · exact ⟨⟨rowsAt 3 inb_S2048x128_S256x128_3_0_s_8_1, k0_pay7 A w2 x4⟩, by simp only [List.mem_cons, true_or, or_true], key 3 inb_S2048x128_S256x128_3_0_s_8_1 hj⟩
    · exact ⟨⟨rowsAt 4 inb_S2048x128_S256x128_4_0_s_8_1, k0_pay8 A w2 x4⟩, by simp only [List.mem_cons, true_or, or_true], key 4 inb_S2048x128_S256x128_4_0_s_8_1 hj⟩
    · exact ⟨⟨rowsAt 5 inb_S2048x128_S256x128_5_0_s_8_1, k0_pay9 A w2 x4⟩, by simp only [List.mem_cons, true_or, or_true], key 5 inb_S2048x128_S256x128_5_0_s_8_1 hj⟩
    · exact ⟨⟨rowsAt 6 inb_S2048x128_S256x128_6_0_s_8_1, k0_pay10 A w2 x4⟩, by simp only [List.mem_cons, true_or, or_true], key 6 inb_S2048x128_S256x128_6_0_s_8_1 hj⟩
    · exact ⟨⟨rowsAt 7 inb_S2048x128_S256x128_7_0_s_8_1, k0_pay11 A w2 x4⟩, by simp only [List.mem_cons, true_or, or_true], key 7 inb_S2048x128_S256x128_7_0_s_8_1 hj⟩

section
variable (c : Dev nD) (i : grid0.Coords)
  (arg3 : Memref sig .tc .vmem S2048x128 .f32) (harg3 : arg3.IsWhole) (arg4 : Memref sig .tc .vmem S1x1024x2048 .f32) (harg4 : arg4.IsWhole)
  (arg5 : Memref sig .tc .vmem S1x1x2048 .f32) (harg5 : arg5.IsWhole) (arg6 : Memref sig .tc .vmem S1x1024x1024 .f32) (harg6 : arg6.IsWhole)
  (arg7 : Memref sig .tc .vmem S1x1x1024 .f32) (harg7 : arg7.IsWhole) (arg8 : Memref sig .tc .vmem S2048x128 .f32) (harg8 : arg8.IsWhole)
  (T0 : S560.Idx → Elt F .i32) (T1 : S1.Idx → Elt F .i32)
  (x0 : S2048x128.Idx → Elt F .f32) (x1 : S1x1024x2048.Idx → Elt F .f32) (x2 : S1x1x2048.Idx → Elt F .f32) (x3 : S1x1024x1024.Idx → Elt F .f32) (x4 : S1x1x1024.Idx → Elt F .f32)

/-- A further block of an expert stores the result computed from the rounded weights it finds. -/
theorem read_runSame (a0 : Buf (Elt F) ((c : Thread nD τ).loc cc0_scratch0)) (a1 : Buf (Elt F) ((c : Thread nD τ).loc cc0_scratch1)) (h1) (h2)
    (v : View sig .tc .vmem S2048x128 .f32) (f : v.ty.Contents (Elt F)) :
    v.read (Elt F) (v.writes (Elt F) f (runSame c i arg3 harg3 arg4 harg4 arg5 harg5 arg6 harg6 arg7 harg7 arg8 harg8 T0 T1 x0 x1 x2 x3 x4 a0 a1 h1 h2).1)
      = blockOut x0 a0 x2 a1 x4 := by
  have e : (runSame c i arg3 harg3 arg4 harg4 arg5 harg5 arg6 harg6 arg7 harg7 arg8 harg8 T0 T1 x0 x1 x2 x3 x4 a0 a1 h1 h2).1
      = stores (runSame.sl.r_3 c arg3 arg5 x0 x2 a0)
          (View.readAt (Elt F) sc1.view (Rect.unit ![0, 0] S1024x1024.size inb_S1024x1024_S1024x1024_0_0).toLoadRect a1)
          (View.readAt (Elt F) arg7.view (Rect.unit ![0, 0, 0] S1x1x1024.size inb_S1x1x1024_S1x1x1024_0_0_0).toLoadRect (arg7.view.rep x4)) := rfl
  rw [e, read_stores]
  unfold runSame.sl.r_3
  rw [View.readAt_rep_full]
  rw [show View.readAt (Elt F) sc1.view (Rect.unit ![0, 0] S1024x1024.size inb_S1024x1024_S1024x1024_0_0).toLoadRect a1 = a1 from
      Memref.readAt_unit_zero (Elt F) cc0_scratch1 (by funext a; fin_cases a <;> rfl) _ a1,
    show View.readAt (Elt F) sc0.view (Rect.unit ![0, 0] S1024x2048.size inb_S1024x2048_S1024x2048_0_0).toLoadRect a0 = a0 from
      Memref.readAt_unit_zero (Elt F) cc0_scratch0 (by funext a; fin_cases a <;> rfl) _ a0]
  rw [View.readAt_rep_full]
  rw [load_stripe (v := arg3) x0 0 0 rfl, load_stripe (v := arg3) x0 1 1 rfl, load_stripe (v := arg3) x0 2 2 rfl, load_stripe (v := arg3) x0 3 3 rfl,
    load_stripe (v := arg3) x0 4 4 rfl, load_stripe (v := arg3) x0 5 5 rfl, load_stripe (v := arg3) x0 6 6 rfl, load_stripe (v := arg3) x0 7 7 rfl]
  rfl

/-- A new expert's block leaves its weights rounded in the first buffer, -/
theorem runNew_s0 (h1) (h2) :
    (runNew c i arg3 harg3 arg4 harg4 arg5 harg5 arg6 harg6 arg7 harg7 arg8 harg8 T0 T1 x0 x1 x2 x3 x4 h1 h2).2.1 = k0_pay1 x1 := by
  unfold runNew; dsimp only
  unfold runNew.sl.HS0_1
  rw [View.readAt_rep_full]
  rw [View.writes_cons, View.writes_nil]
  exact Memref.write_access_unit_zero_univ (Elt F) cc0_scratch0 z2 inb_S1024x2048_S1024x2048_0_0 (View.whole cc0_scratch0).junk (k0_pay1 x1)

/-- and in the second, -/
theorem runNew_s1 (h1) (h2) :
    (runNew c i arg3 harg3 arg4 harg4 arg5 harg5 arg6 harg6 arg7 harg7 arg8 harg8 T0 T1 x0 x1 x2 x3 x4 h1 h2).2.2.1 = k0_pay2 x3 := by
  unfold runNew; dsimp only
  unfold runNew.sl.HS1_1
  rw [View.readAt_rep_full]
  rw [View.writes_cons, View.writes_nil]
  exact Memref.write_access_unit_zero_univ (Elt F) cc0_scratch1 z2 inb_S1024x1024_S1024x1024_0_0 (View.whole cc0_scratch1).junk (k0_pay2 x3)

/-- and stores the result computed from them. -/
theorem read_runNew (h1) (h2) (v : View sig .tc .vmem S2048x128 .f32) (f : v.ty.Contents (Elt F)) :
    v.read (Elt F) (v.writes (Elt F) f (runNew c i arg3 harg3 arg4 harg4 arg5 harg5 arg6 harg6 arg7 harg7 arg8 harg8 T0 T1 x0 x1 x2 x3 x4 h1 h2).1)
      = blockOut x0 (k0_pay1 x1) x2 (k0_pay2 x3) x4 := by
  have e : (runNew c i arg3 harg3 arg4 harg4 arg5 harg5 arg6 harg6 arg7 harg7 arg8 harg8 T0 T1 x0 x1 x2 x3 x4 h1 h2).1
      = stores (runNew.sl.r_3 arg3 arg4 arg5 x0 x1 x2) (runNew.sl.v50 arg6 x3)
          (View.readAt (Elt F) arg7.view (Rect.unit ![0, 0, 0] S1x1x1024.size inb_S1x1x1024_S1x1x1024_0_0_0).toLoadRect (arg7.view.rep x4)) := by
    unfold runNew stores; with_reducible rfl
  have e0 := runNew_s0 c i arg3 harg3 arg4 harg4 arg5 harg5 arg6 harg6 arg7 harg7 arg8 harg8 T0 T1 x0 x1 x2 x3 x4 h1 h2
  have e1 := runNew_s1 c i arg3 harg3 arg4 harg4 arg5 harg5 arg6 harg6 arg7 harg7 arg8 harg8 T0 T1 x0 x1 x2 x3 x4 h1 h2
  unfold runNew at e0 e1
  dsimp only at e0 e1
  have r0 : runNew.sl.v28 arg4 x1 = k0_pay1 x1 := by
    unfold runNew.sl.v28 View.readCov
    exact (Memref.readAt_unit_zero (Elt F) cc0_scratch0 z2 _ _).trans e0
  have r1 : runNew.sl.v50 arg6 x3 = k0_pay2 x3 := by
    unfold runNew.sl.v50 View.readCov
    exact (Memref.readAt_unit_zero (Elt F) cc0_scratch1 z2 _ _).trans e1
  rw [e, read_stores]
  unfold runNew.sl.r_3
  rw [View.readAt_rep_full, r0, r1, View.readAt_rep_full]
  rw [load_stripe (v := arg3) x0 0 0 rfl, load_stripe (v := arg3) x0 1 1 rfl, load_stripe (v := arg3) x0 2 2 rfl, load_stripe (v := arg3) x0 3 3 rfl,
    load_stripe (v := arg3) x0 4 4 rfl, load_stripe (v := arg3) x0 5 5 rfl, load_stripe (v := arg3) x0 6 6 rfl, load_stripe (v := arg3) x0 7 7 rfl]
  rfl
end

end Cert.Kernel2Ideal.Experts

end
-- ==== Proof.ExpertsTables.lean ====
/- What the experts' kernel reads of its two tables — each block's expert and the number of used blocks — at tables that name
   experts in range and at least one used block: the body's two conditions and the index maps in plain terms, and the pipeline
   at such tables: every block lies inside its array, and the output's window is written back once per used block. -/
module

public import proofs.«01_k».proof.Proof.ExpertsBlock

@[expose] public section

set_option maxRecDepth 16384

noncomputable section

namespace Cert.Kernel2Ideal.Experts

open Cert.Kernel2Ideal Cert.Kernel2Ideal.Gen
open Idealize.ShloMosaic
open Idealize.ShloMosaic.TcCoe
open Idealize.ShloMosaic.Pipeline (Dat Cfg Window)

variable {F : FTy → Type} [FloatOps F]

/-- Entry `n` of the table of experts. -/
def entry (n : ℕ) (h : n < 560) : S560.Idx | ⟨0, _⟩ => (⟨n, h⟩ : Fin 560)
/-- The one entry of the table of used blocks. -/
def only : S1.Idx | ⟨0, _⟩ => (⟨0, Nat.one_pos⟩ : Fin 1)

theorem eq_entry (x : S560.Idx) (n : ℕ) (h : n < 560) (hx : (x 0).val = n) : x = entry n h := by
  funext a; fin_cases a; exact Fin.ext hx
theorem eq_only (x : S1.Idx) : x = only := by
  funext a; fin_cases a; exact Fin.ext (by have h : (x 0).val < 1 := (x 0).isLt; show (x 0).val = 0; omega)

variable (T0 : S560.Idx → BitVec 32) (T1 : S1.Idx → BitVec 32)

/-- The tables' condition: every block's expert is one of the 32, and at least one block is used. -/
structure Routed : Prop where
  expert : ∀ x, (T0 x).toNat < 32
  used : 1 ≤ (T1 only).toInt

/-- The number of used blocks. -/
def nUsed : ℕ := (T1 only).toInt.toNat

theorem toInt_small (n : ℕ) (h : n < 560) : (BitVec.ofNat 32 n).toInt = n := by
  rw [BitVec.toInt_ofNat']
  exact Int.bmod_eq_of_le (by omega) (by omega)

theorem wordUsed_eq : wordUsed (F := F) T1 = T1 only := congrArg T1 (eq_only _)
theorem wordHere_eq (i : grid0.Coords) : wordHere (F := F) i T0 = T0 (entry (i 0).val (i 0).isLt) := by
  have h : (i 0).val < 560 := (i 0).isLt
  refine congrArg T0 (eq_entry _ _ _ ?_)
  show (BitVec.ofNat 32 (i 0).val).toNat + 1 * 0 = _
  rw [BitVec.toNat_ofNat]; omega
theorem wordBefore_eq (i : grid0.Coords) : wordBefore (F := F) i T0 = T0 (entry ((i 0).val - 1) (by have h : (i 0).val < 560 := (i 0).isLt; omega)) := by
  have h : (i 0).val < 560 := (i 0).isLt
  refine congrArg T0 (eq_entry _ _ _ ?_)
  show (Scalar.maxsi (Scalar.subi (BitVec.ofNat 32 (i 0).val) 1#32) 0#32).toNat + 1 * 0 = _
  generalize (i 0).val = n at h
  revert n; decide +kernel

theorem one_word (b : BitVec 1) : (Scalar.cmpi .ne (Scalar.extui b) 0#32 = 1#1) ↔ b = 1#1 := by revert b; decide
theorem andi_one (a b : BitVec 1) : Scalar.andi a b = 1#1 ↔ a = 1#1 ∧ b = 1#1 := by revert a b; decide
theorem ori_one (a b : BitVec 1) : Scalar.ori a b = 1#1 ↔ a = 1#1 ∨ b = 1#1 := by revert a b; decide

/-- A block is used exactly if its number is below the number of used blocks. -/
theorem used_iff (i : grid0.Coords) (h : Routed T0 T1) : k0_cond2 i (T1 only) = 1#1 ↔ (i 0).val < nUsed T1 := by
  unfold k0_cond2
  have hi : (i 0).val < 560 := (i 0).isLt
  have hu := h.used
  rw [one_word]
  show IntOp.cmpi .slt _ _ = 1#1 ↔ _
  rw [IntOp.cmpi_slt, toInt_small _ hi]
  unfold nUsed; omega

/-- The weights are rounded anew exactly at a used block that is the first or whose expert differs from the block before's. -/
theorem newExpert_iff (i : grid0.Coords) (h : Routed T0 T1) : newExpert (F := F) i T0 T1 = 1#1 ↔
    ((i 0).val = 0 ∨ T0 (entry (i 0).val (i 0).isLt) ≠ T0 (entry ((i 0).val - 1) (by have h : (i 0).val < 560 := (i 0).isLt; omega))) ∧ (i 0).val < nUsed T1 := by
  have hi : (i 0).val < 560 := (i 0).isLt
  unfold newExpert
  rw [wordHere_eq, wordBefore_eq, wordUsed_eq, one_word, andi_one, ori_one]
  have e : Scalar.cmpi .slt (BitVec.ofNat 32 (i 0).val) (T1 only) = 1#1 ↔ (i 0).val < nUsed T1 := by
    have hu := h.used
    show IntOp.cmpi .slt _ _ = 1#1 ↔ _
    rw [IntOp.cmpi_slt, toInt_small _ hi]
    unfold nUsed; omega
  rw [e]
  refine and_congr_left fun _ => or_congr ?_ ?_
  · generalize (i 0).val = n at hi
    revert n; decide +kernel
  · generalize T0 (entry (i 0).val (i 0).isLt) = a
    generalize T0 (entry ((i 0).val - 1) _) = b
    show BitVec.ofBool (a != b) = 1#1 ↔ _
    by_cases hab : a = b
    · simp [hab]
    · rw [show (a != b) = true from bne_iff_ne.2 hab]
      exact iff_of_true rfl hab

/-- The tables, as the pipeline holds them. -/
def tabs : pre0.Contents (Elt F) := fun | ⟨0, _⟩ => T0 | ⟨1, _⟩ => T1 | ⟨_ + 2, h⟩ => absurd h (by simp)

/-- The tokens' and the output's block at a point: the point's own, the last used one's past it. -/
theorem rows_at (h : Routed T0 T1) (i : grid0.Coords) : cc0_transform_5 inb_S1_S1_0 numel1_S1 (tabs (F := F) T0 T1) i = ![min (i 0).val (nUsed T1 - 1), 0] := by
  have hi : (i 0).val < 560 := (i 0).isLt
  have hu := h.used
  have e : (tabs (F := F) T0 T1).at 1 (Rect.unit (s := S1) ![0] S1.size inb_S1_S1_0) numel1_S1 = T1 only := congrArg T1 (eq_only _)
  unfold cc0_transform_5
  rw [e]
  dsimp only
  congr 1
  show (IntOp.minsi (BitVec.ofNat 32 (i 0).val) (T1 only - 1#32)).toNat = _
  have e1 : (T1 only - 1#32).toInt = (T1 only).toInt - 1 := by
    rw [BitVec.toInt_sub]
    have : (T1 only).toInt < 2 ^ 31 := BitVec.toInt_lt
    exact Int.bmod_eq_of_le (by simp; omega) (by simp; omega)
  have e2 : (T1 only - 1#32).toNat = nUsed T1 - 1 := by
    have h3 : (T1 only - 1#32).toInt = ((T1 only - 1#32).toNat : ℤ) := BitVec.toInt_eq_toNat_of_lt (by
      have := BitVec.toInt_eq_toNat_cond (T1 only - 1#32)
      split at this <;> omega)
    unfold nUsed; omega
  unfold IntOp.minsi
  rw [BitVec.slt_eq_decide, e1, toInt_small _ hi]
  unfold nUsed at e2 ⊢
  split
  · rename_i hh; simp at hh; rw [BitVec.toNat_ofNat]; omega
  · rename_i hh; simp at hh; rw [e2]; omega

theorem rows_at0 (h : Routed T0 T1) (i : grid0.Coords) : cc0_transform_0 inb_S1_S1_0 numel1_S1 (tabs (F := F) T0 T1) i = ![min (i 0).val (nUsed T1 - 1), 0] :=
  rows_at (F := F) T0 T1 h i

/-- The weights' and biases' block at a point: the block's expert's. -/
theorem expert_at (i : grid0.Coords) : cc0_transform_1 k0_off1_inb numel1_S1 (tabs (F := F) T0 T1) i = ![(T0 (entry (i 0).val (i 0).isLt)).toNat, 0, 0] := by
  have e : (tabs (F := F) T0 T1).at 0 (Rect.unit (s := S560) ![(Scalar.indexCast (BitVec.ofNat 32 (i 0).val)).toNat] S1.size (k0_off1_inb i)) numel1_S1
      = T0 (entry (i 0).val (i 0).isLt) := (wordHere_eq (F := F) T0 i)
  exact congrArg (fun w : BitVec 32 => (![w.toNat, 0, 0] : Fin 3 → ℕ)) e

/-- Every block of every window lies inside its array. -/
theorem blocks_ok (h : Routed T0 T1) : ok0 (tabs (F := F) T0 T1) := by
  have hr : ∀ i : grid0.Coords, ∀ a, ((![min (i 0).val (nUsed T1 - 1), 0] : Fin 2 → ℕ) a + 1) * S2048x128.size a ≤ S1146880x128.size a := by
    intro i a
    have hi : (i 0).val < 560 := (i 0).isLt
    fin_cases a
    · show (min (i 0).val (nUsed T1 - 1) + 1) * 2048 ≤ 1146880; omega
    · show (0 + 1) * 128 ≤ 128; omega
  have he := h.expert
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · rw [rows_at0 T0 T1 h]; exact hr i a
  · have e := expert_at (F := F) T0 T1 i
    rw [e]
    have := he (entry (i 0).val (i 0).isLt)
    fin_cases a
    · show ((T0 (entry (i 0).val (i 0).isLt)).toNat + 1) * 1 ≤ 32; omega
    · show (0 + 1) * 1024 ≤ 1024; omega
    · show (0 + 1) * 2048 ≤ 2048; omega
  · have e : cc0_transform_2 k0_off1_inb numel1_S1 (tabs (F := F) T0 T1) i = _ := expert_at (F := F) T0 T1 i
    rw [e]
    have := he (entry (i 0).val (i 0).isLt)
    fin_cases a
    · show ((T0 (entry (i 0).val (i 0).isLt)).toNat + 1) * 1 ≤ 32; omega
    · show (0 + 1) * 1 ≤ 1; omega
    · show (0 + 1) * 2048 ≤ 2048; omega
  · have e : cc0_transform_3 k0_off1_inb numel1_S1 (tabs (F := F) T0 T1) i = _ := expert_at (F := F) T0 T1 i
    rw [e]
    have := he (entry (i 0).val (i 0).isLt)
    fin_cases a
    · show ((T0 (entry (i 0).val (i 0).isLt)).toNat + 1) * 1 ≤ 32; omega
    · show (0 + 1) * 1024 ≤ 1024; omega
    · show (0 + 1) * 1024 ≤ 1024; omega
  · have e : cc0_transform_4 k0_off1_inb numel1_S1 (tabs (F := F) T0 T1) i = _ := expert_at (F := F) T0 T1 i
    rw [e]
    have := he (entry (i 0).val (i 0).isLt)
    fin_cases a
    · show ((T0 (entry (i 0).val (i 0).isLt)).toNat + 1) * 1 ≤ 32; omega
    · show (0 + 1) * 1 ≤ 1; omega
    · show (0 + 1) * 1024 ≤ 1024; omega
  · rw [rows_at T0 T1 h]; exact hr i a

section
variable (h : Routed T0 T1)

/-- The admissible contents of the tables, and the pipeline at them. -/
def adm : (pcfg0 (F := F)).Adm := ⟨tabs T0 T1, blocks_ok T0 T1 h⟩
abbrev cfgA : Pipeline.Cfg sig Λ₀ := cfg0 (F := F) (adm T0 T1 h)
abbrev pcs : Fin 1 → Pipeline.Cfg sig Λ₀ := Pipeline.pin (pcfgs (F := F)) fun _ => adm T0 T1 h

theorem points : (cfgA (F := F) T0 T1 h).N = 560 := rfl

/-- A point's coordinate is its number. -/
theorem coord (t : Fin (cfgA (F := F) T0 T1 h).N) : (((cfgA (F := F) T0 T1 h).grid.coords t) 0).val = t.val := by
  have ht : t.val < 560 := t.isLt
  show t.val / 1 % 560 = t.val
  omega

/-- The output's window is idle exactly at the blocks that are not used. -/
theorem idle_iff (t : Fin (cfgA (F := F) T0 T1 h).N) : (cfgA (F := F) T0 T1 h).idle (5 : Fin 6) ((cfgA (F := F) T0 T1 h).grid.coords t) = decide (nUsed T1 ≤ t.val) := by
  have e : (tabs (F := F) T0 T1).atD 1 ![0] = T1 only := by
    refine (dif_pos ?_).trans (congrArg T1 (eq_only _))
    intro a; fin_cases a; show 0 + 1 ≤ 1; omega
  show (!(k0_cond2 ((cfgA (F := F) T0 T1 h).grid.coords t) ((tabs (F := F) T0 T1).atD 1 ![0]) == 1#1)) = _
  rw [e]
  have := used_iff T0 T1 ((cfgA (F := F) T0 T1 h).grid.coords t) h
  rw [coord (F := F) T0 T1 h t] at this
  rw [Bool.eq_iff_iff]
  simp only [Bool.not_eq_true', beq_eq_false_iff_ne, decide_eq_true_eq, ne_eq]
  exact (not_congr this).trans not_lt

/-- The output's block is written back at every used block but the last, and at the grid's last point. -/
theorem flush_iff (t : Fin (cfgA (F := F) T0 T1 h).N) : ((cfgA (F := F) T0 T1 h).win (5 : Fin 6)).flush t = decide (t.val + 1 = 560 ∨ t.val + 1 < nUsed T1) := by
  have hu := h.used
  have hx : ∀ s : Fin (cfgA (F := F) T0 T1 h).N, ((cfgA (F := F) T0 T1 h).win (5 : Fin 6)).index s = ![min s.val (nUsed T1 - 1), 0] := by
    intro s
    have := rows_at (F := F) T0 T1 h ((cfgA (F := F) T0 T1 h).grid.coords s)
    rw [coord (F := F) T0 T1 h s] at this
    exact this
  have hN : ∀ s : Fin (cfgA (F := F) T0 T1 h).N, s.val < 560 := fun s => s.isLt
  unfold Pipeline.Window.flush
  rw [show ((cfgA (F := F) T0 T1 h).win (5 : Fin 6)).isOut = true from rfl, Bool.true_and]
  rw [Bool.eq_iff_iff]
  simp only [Bool.or_eq_true, decide_eq_true_eq, hx]
  have h2 : (1 : ℕ) ≤ nUsed T1 := by unfold nUsed; omega
  constructor
  · rintro (h1 | ⟨h1, h3⟩)
    · exact .inl h1
    · refine .inr ?_
      by_contra hc
      refine h3 ?_
      congr 1
      show min (t.val + 1) (nUsed T1 - 1) = min t.val (nUsed T1 - 1)
      omega
  · rintro (h1 | h1)
    · exact .inl h1
    · by_cases h4 : t.val + 1 = 560
      · exact .inl h4
      · refine .inr ⟨by have := hN t; show t.val + 1 < 560; omega, fun h3 => ?_⟩
        have := congrFun h3 0
        have h5 : min (t.val + 1) (nUsed T1 - 1) = min t.val (nUsed T1 - 1) := this
        omega

/-- Nothing of the output's buffer is pending before a used block; something is before a later one. -/
theorem fresh_iff (n : ℕ) (hn : n < 560) : (cfgA (F := F) T0 T1 h).fresh (5 : Fin 6) n = decide (n < nUsed T1) := by
  have hu := h.used
  have h2 : (1 : ℕ) ≤ nUsed T1 := by unfold nUsed; omega
  induction n with
  | zero => rw [Pipeline.Cfg.fresh_zero]; simp; omega
  | succ n ih =>
    have hn' : n < (cfgA (F := F) T0 T1 h).N := by show n < 560; omega
    rw [Pipeline.Cfg.fresh_succ _ _ n hn', ih (by omega), flush_iff (F := F) T0 T1 h ⟨n, hn'⟩, idle_iff (F := F) T0 T1 h ⟨n, hn'⟩]
    rw [Bool.eq_iff_iff]
    simp only [Bool.or_eq_true, Bool.and_eq_true, decide_eq_true_eq]
    omega
end

end Cert.Kernel2Ideal.Experts

end
-- ==== Proof.ExpertsFrame.lean ====
/- The experts' kernel at any tables in range: what each window's buffer and the two buffers of rounded weights hold before and after
   every block, the body's obligation by the way its conditions go, the launch, and the frame. -/
module

public import proofs.«01_k».proof.Proof.ExpertsTables
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

variable (T0 : S560.Idx → BitVec 32) (T1 : S1.Idx → BitVec 32) (h : Routed T0 T1)
variable (m : (ℓ : Loc nD τ sig) → Buf (Elt F) ℓ) (ρ : Dev nD → PrngReg)

/-- The memory's tables are the ones the pipeline is stated at. -/
def Holds : Prop := ∀ c : Dev nD, m ((c : Thread nD τ).loc main_arg0) = T0 ∧ m ((c : Thread nD τ).loc main_arg1) = T1

abbrev Pt := Fin (cfgA (F := F) T0 T1 h).N
abbrev crd (t : Pt (F := F) T0 T1 h) : grid0.Coords := (cfgA (F := F) T0 T1 h).grid.coords t

/-- Each window's staging buffer at a point, and that it is a whole buffer. -/
abbrev ms0 (t : Pt (F := F) T0 T1 h) : Memref sig .tc .vmem S2048x128 .f32 := spec0_0.stage ((cfgA (F := F) T0 T1 h).slots t (0 : Fin 6))
abbrev hs0 (t : Pt (F := F) T0 T1 h) : (ms0 T0 T1 h t).IsWhole := hstage0_0 (((cfgA (F := F) T0 T1 h).slots t (0 : Fin 6)).cast nbuf0_0)
abbrev ms1 (t : Pt (F := F) T0 T1 h) : Memref sig .tc .vmem S1x1024x2048 .f32 := spec0_1.stage ((cfgA (F := F) T0 T1 h).slots t (1 : Fin 6))
abbrev hs1 (t : Pt (F := F) T0 T1 h) : (ms1 T0 T1 h t).IsWhole := hstage0_1 (((cfgA (F := F) T0 T1 h).slots t (1 : Fin 6)).cast nbuf0_1)
abbrev ms2 (t : Pt (F := F) T0 T1 h) : Memref sig .tc .vmem S1x1x2048 .f32 := spec0_2.stage ((cfgA (F := F) T0 T1 h).slots t (2 : Fin 6))
abbrev hs2 (t : Pt (F := F) T0 T1 h) : (ms2 T0 T1 h t).IsWhole := hstage0_2 (((cfgA (F := F) T0 T1 h).slots t (2 : Fin 6)).cast nbuf0_2)
abbrev ms3 (t : Pt (F := F) T0 T1 h) : Memref sig .tc .vmem S1x1024x1024 .f32 := spec0_3.stage ((cfgA (F := F) T0 T1 h).slots t (3 : Fin 6))
abbrev hs3 (t : Pt (F := F) T0 T1 h) : (ms3 T0 T1 h t).IsWhole := hstage0_3 (((cfgA (F := F) T0 T1 h).slots t (3 : Fin 6)).cast nbuf0_3)
abbrev ms4 (t : Pt (F := F) T0 T1 h) : Memref sig .tc .vmem S1x1x1024 .f32 := spec0_4.stage ((cfgA (F := F) T0 T1 h).slots t (4 : Fin 6))
abbrev hs4 (t : Pt (F := F) T0 T1 h) : (ms4 T0 T1 h t).IsWhole := hstage0_4 (((cfgA (F := F) T0 T1 h).slots t (4 : Fin 6)).cast nbuf0_4)
abbrev ms5 (t : Pt (F := F) T0 T1 h) : Memref sig .tc .vmem S2048x128 .f32 := spec0_5.stage ((cfgA (F := F) T0 T1 h).slots t (5 : Fin 6))
abbrev hs5 (t : Pt (F := F) T0 T1 h) : (ms5 T0 T1 h t).IsWhole := hstage0_5 (((cfgA (F := F) T0 T1 h).slots t (5 : Fin 6)).cast nbuf0_5)

/-- Window `w`'s block at point `t`, read off its array at launch. -/
def iblk (c : Dev nD) (w : Fin (cfgA (F := F) T0 T1 h).W) (t : Pt (F := F) T0 T1 h) : (((cfgA (F := F) T0 T1 h).win w).xblock (crd T0 T1 h t)).Idx → Elt F ((cfgA (F := F) T0 T1 h).win w).elt :=
  (((cfgA (F := F) T0 T1 h).win w).blk t).view.read (Elt F) ((s₀ m ρ).mem (((cfgA (F := F) T0 T1 h).win w).arr.view.loc (c : Thread nD τ)))

theorem expert_pt (t : Pt (F := F) T0 T1 h) :
    cc0_transform_1 k0_off1_inb numel1_S1 (tabs (F := F) T0 T1) (crd T0 T1 h t) = ![(T0 (entry t.val t.isLt)).toNat, 0, 0] := by
  rw [expert_at (F := F) T0 T1 (crd T0 T1 h t)]; congr 3; exact eq_entry _ _ _ (coord (F := F) T0 T1 h t)

/-- The tokens at a point: its own block's, the last used block's past it. -/
theorem iblk0_apply (c : Dev nD) (t : Pt (F := F) T0 T1 h) (x : S2048x128.Idx) :
    iblk T0 T1 h m ρ c (0 : Fin 6) t x = m ((c : Thread nD τ).loc main_arg2)
      (fun | ⟨0, _⟩ => (⟨min t.val (nUsed T1 - 1) * 2048 + (x 0).val, by
              have h0 : (x 0).val < 2048 := (x 0).isLt
              have ht : t.val < 560 := t.isLt
              show _ < 1146880; omega⟩ : Fin 1146880) | ⟨1, _⟩ => (⟨(x 1).val, (x 1).isLt⟩ : Fin 128)) := by
  have e1 : cc0_transform_0 inb_S1_S1_0 numel1_S1 (tabs (F := F) T0 T1) (crd T0 T1 h t) = ![min t.val (nUsed T1 - 1), 0] := by
    rw [rows_at0 (F := F) T0 T1 h (crd T0 T1 h t), coord (F := F) T0 T1 h t]
  refine congrArg (m ((c : Thread nD τ).loc main_arg2)) (funext fun a => Fin.ext ?_)
  fin_cases a
  · show cc0_transform_0 inb_S1_S1_0 numel1_S1 (tabs (F := F) T0 T1) (crd T0 T1 h t) 0 * 2048 + 1 * (x 0).val = min t.val (nUsed T1 - 1) * 2048 + (x 0).val
    rw [e1]; show min t.val (nUsed T1 - 1) * 2048 + 1 * (x 0).val = _; omega
  · show cc0_transform_0 inb_S1_S1_0 numel1_S1 (tabs (F := F) T0 T1) (crd T0 T1 h t) 1 * 128 + 1 * (x 1).val = (x 1).val
    rw [e1]; show 0 * 128 + 1 * (x 1).val = _; omega

/-- The first layer's weights at a point: its expert's. -/
theorem iblk1_apply (c : Dev nD) (t : Pt (F := F) T0 T1 h) (x : S1x1024x2048.Idx) :
    iblk T0 T1 h m ρ c (1 : Fin 6) t x = m ((c : Thread nD τ).loc main_arg3)
      (fun | ⟨0, _⟩ => (⟨(T0 (entry t.val t.isLt)).toNat, h.expert _⟩ : Fin 32) | ⟨1, _⟩ => (⟨(x 1).val, (x 1).isLt⟩ : Fin 1024) | ⟨2, _⟩ => (⟨(x 2).val, (x 2).isLt⟩ : Fin 2048)) := by
  have h0 : (x 0).val < 1 := (x 0).isLt
  have e1 : cc0_transform_1 k0_off1_inb numel1_S1 (tabs (F := F) T0 T1) (crd T0 T1 h t) = ![(T0 (entry t.val t.isLt)).toNat, 0, 0] :=
    expert_pt T0 T1 h t
  refine congrArg (m ((c : Thread nD τ).loc main_arg3)) (funext fun a => Fin.ext ?_)
  fin_cases a
  · show cc0_transform_1 k0_off1_inb numel1_S1 (tabs (F := F) T0 T1) (crd T0 T1 h t) 0 * 1 + 1 * (x 0).val = (T0 (entry t.val t.isLt)).toNat
    rw [e1]; show (T0 (entry t.val t.isLt)).toNat * 1 + 1 * (x 0).val = _; omega
  · show cc0_transform_1 k0_off1_inb numel1_S1 (tabs (F := F) T0 T1) (crd T0 T1 h t) 1 * 1024 + 1 * (x 1).val = (x 1).val
    rw [e1]; show 0 * 1024 + 1 * (x 1).val = _; omega
  · show cc0_transform_1 k0_off1_inb numel1_S1 (tabs (F := F) T0 T1) (crd T0 T1 h t) 2 * 2048 + 1 * (x 2).val = (x 2).val
    rw [e1]; show 0 * 2048 + 1 * (x 2).val = _; omega

/-- The first layer's bias at a point: its expert's. -/
theorem iblk2_apply (c : Dev nD) (t : Pt (F := F) T0 T1 h) (x : S1x1x2048.Idx) :
    iblk T0 T1 h m ρ c (2 : Fin 6) t x = m ((c : Thread nD τ).loc main_arg4)
      (fun | ⟨0, _⟩ => (⟨(T0 (entry t.val t.isLt)).toNat, h.expert _⟩ : Fin 32) | ⟨1, _⟩ => (⟨(x 1).val, (x 1).isLt⟩ : Fin 1) | ⟨2, _⟩ => (⟨(x 2).val, (x 2).isLt⟩ : Fin 2048)) := by
  have h0 : (x 0).val < 1 := (x 0).isLt
  have e1 : cc0_transform_2 k0_off1_inb numel1_S1 (tabs (F := F) T0 T1) (crd T0 T1 h t) = ![(T0 (entry t.val t.isLt)).toNat, 0, 0] :=
    expert_pt T0 T1 h t
  refine congrArg (m ((c : Thread nD τ).loc main_arg4)) (funext fun a => Fin.ext ?_)
  fin_cases a
  · show cc0_transform_2 k0_off1_inb numel1_S1 (tabs (F := F) T0 T1) (crd T0 T1 h t) 0 * 1 + 1 * (x 0).val = (T0 (entry t.val t.isLt)).toNat
    rw [e1]; show (T0 (entry t.val t.isLt)).toNat * 1 + 1 * (x 0).val = _; omega
  · show cc0_transform_2 k0_off1_inb numel1_S1 (tabs (F := F) T0 T1) (crd T0 T1 h t) 1 * 1 + 1 * (x 1).val = (x 1).val
    rw [e1]; show 0 * 1 + 1 * (x 1).val = _; omega
  · show cc0_transform_2 k0_off1_inb numel1_S1 (tabs (F := F) T0 T1) (crd T0 T1 h t) 2 * 2048 + 1 * (x 2).val = (x 2).val
    rw [e1]; show 0 * 2048 + 1 * (x 2).val = _; omega

/-- The second layer's weights at a point: its expert's. -/
theorem iblk3_apply (c : Dev nD) (t : Pt (F := F) T0 T1 h) (x : S1x1024x1024.Idx) :
    iblk T0 T1 h m ρ c (3 : Fin 6) t x = m ((c : Thread nD τ).loc main_arg5)
      (fun | ⟨0, _⟩ => (⟨(T0 (entry t.val t.isLt)).toNat, h.expert _⟩ : Fin 32) | ⟨1, _⟩ => (⟨(x 1).val, (x 1).isLt⟩ : Fin 1024) | ⟨2, _⟩ => (⟨(x 2).val, (x 2).isLt⟩ : Fin 1024)) := by
  have h0 : (x 0).val < 1 := (x 0).isLt
  have e1 : cc0_transform_3 k0_off1_inb numel1_S1 (tabs (F := F) T0 T1) (crd T0 T1 h t) = ![(T0 (entry t.val t.isLt)).toNat, 0, 0] :=
    expert_pt T0 T1 h t
  refine congrArg (m ((c : Thread nD τ).loc main_arg5)) (funext fun a => Fin.ext ?_)
  fin_cases a
  · show cc0_transform_3 k0_off1_inb numel1_S1 (tabs (F := F) T0 T1) (crd T0 T1 h t) 0 * 1 + 1 * (x 0).val = (T0 (entry t.val t.isLt)).toNat
    rw [e1]; show (T0 (entry t.val t.isLt)).toNat * 1 + 1 * (x 0).val = _; omega
  · show cc0_transform_3 k0_off1_inb numel1_S1 (tabs (F := F) T0 T1) (crd T0 T1 h t) 1 * 1024 + 1 * (x 1).val = (x 1).val
    rw [e1]; show 0 * 1024 + 1 * (x 1).val = _; omega
  · show cc0_transform_3 k0_off1_inb numel1_S1 (tabs (F := F) T0 T1) (crd T0 T1 h t) 2 * 1024 + 1 * (x 2).val = (x 2).val
    rw [e1]; show 0 * 1024 + 1 * (x 2).val = _; omega

/-- The second layer's bias at a point: its expert's. -/
theorem iblk4_apply (c : Dev nD) (t : Pt (F := F) T0 T1 h) (x : S1x1x1024.Idx) :
    iblk T0 T1 h m ρ c (4 : Fin 6) t x = m ((c : Thread nD τ).loc main_arg6)
      (fun | ⟨0, _⟩ => (⟨(T0 (entry t.val t.isLt)).toNat, h.expert _⟩ : Fin 32) | ⟨1, _⟩ => (⟨(x 1).val, (x 1).isLt⟩ : Fin 1) | ⟨2, _⟩ => (⟨(x 2).val, (x 2).isLt⟩ : Fin 1024)) := by
  have h0 : (x 0).val < 1 := (x 0).isLt
  have e1 : cc0_transform_4 k0_off1_inb numel1_S1 (tabs (F := F) T0 T1) (crd T0 T1 h t) = ![(T0 (entry t.val t.isLt)).toNat, 0, 0] :=
    expert_pt T0 T1 h t
  refine congrArg (m ((c : Thread nD τ).loc main_arg6)) (funext fun a => Fin.ext ?_)
  fin_cases a
  · show cc0_transform_4 k0_off1_inb numel1_S1 (tabs (F := F) T0 T1) (crd T0 T1 h t) 0 * 1 + 1 * (x 0).val = (T0 (entry t.val t.isLt)).toNat
    rw [e1]; show (T0 (entry t.val t.isLt)).toNat * 1 + 1 * (x 0).val = _; omega
  · show cc0_transform_4 k0_off1_inb numel1_S1 (tabs (F := F) T0 T1) (crd T0 T1 h t) 1 * 1 + 1 * (x 1).val = (x 1).val
    rw [e1]; show 0 * 1 + 1 * (x 1).val = _; omega
  · show cc0_transform_4 k0_off1_inb numel1_S1 (tabs (F := F) T0 T1) (crd T0 T1 h t) 2 * 1024 + 1 * (x 2).val = (x 2).val
    rw [e1]; show 0 * 1024 + 1 * (x 2).val = _; omega

/-! ## What the output's buffer and the rounded weights hold -/

/-- The last used block up to a point. -/
def lastUsed (t : Pt (F := F) T0 T1 h) : Pt (F := F) T0 T1 h := ⟨min t.val (nUsed T1 - 1), lt_of_le_of_lt (Nat.min_le_left _ _) t.isLt⟩

theorem lastUsed_of_used (t : Pt (F := F) T0 T1 h) (hu : t.val < nUsed T1) : lastUsed T0 T1 h t = t :=
  Fin.ext (by show min t.val (nUsed T1 - 1) = t.val; omega)
theorem lastUsed_pred (t : Pt (F := F) T0 T1 h) (hu : nUsed T1 ≤ t.val) (h1) : lastUsed T0 T1 h ⟨t.val - 1, h1⟩ = lastUsed T0 T1 h t :=
  Fin.ext (by show min (t.val - 1) (nUsed T1 - 1) = min t.val (nUsed T1 - 1); omega)

/-- The rounded weights of a point's expert. -/
def w1At (c : Dev nD) (t : Pt (F := F) T0 T1 h) : S1024x2048.Idx → Elt F .bf16 := k0_pay1 (iblk T0 T1 h m ρ c (1 : Fin 6) t)
def w2At (c : Dev nD) (t : Pt (F := F) T0 T1 h) : S1024x1024.Idx → Elt F .bf16 := k0_pay2 (iblk T0 T1 h m ρ c (3 : Fin 6) t)

/-- A used block's result. -/
def resultAt (c : Dev nD) (t : Pt (F := F) T0 T1 h) : S2048x128.Idx → Elt F .f32 :=
  blockOut (iblk T0 T1 h m ρ c (0 : Fin 6) t) (w1At T0 T1 h m ρ c t) (iblk T0 T1 h m ρ c (2 : Fin 6) t) (w2At T0 T1 h m ρ c t) (iblk T0 T1 h m ρ c (4 : Fin 6) t)

/-- Points of one expert have the same weights. -/
theorem w1At_congr (c : Dev nD) (s t : Pt (F := F) T0 T1 h) (e : T0 (entry s.val s.isLt) = T0 (entry t.val t.isLt)) : w1At T0 T1 h m ρ c s = w1At T0 T1 h m ρ c t := by
  unfold w1At; congr 1; funext x
  refine (iblk1_apply T0 T1 h m ρ c s x).trans (Eq.trans ?_ (iblk1_apply T0 T1 h m ρ c t x).symm)
  congr 1; funext a; fin_cases a
  · exact Fin.ext (congrArg BitVec.toNat e)
  · rfl
  · rfl
theorem w2At_congr (c : Dev nD) (s t : Pt (F := F) T0 T1 h) (e : T0 (entry s.val s.isLt) = T0 (entry t.val t.isLt)) : w2At T0 T1 h m ρ c s = w2At T0 T1 h m ρ c t := by
  unfold w2At; congr 1; funext x
  refine (iblk3_apply T0 T1 h m ρ c s x).trans (Eq.trans ?_ (iblk3_apply T0 T1 h m ρ c t x).symm)
  congr 1; funext a; fin_cases a
  · exact Fin.ext (congrArg BitVec.toNat e)
  · rfl
  · rfl

/-- Before a point, past the first: the rounded weights are those of the last used block before it. -/
def Phi (c : Dev nD) (t : Fin ((cfgA (F := F) T0 T1 h).N + 1)) : sProp 𝕄 :=
  iprop((∃ a, ⌜∀ s : Pt (F := F) T0 T1 h, t.val = s.val + 1 → a = w1At T0 T1 h m ρ c (lastUsed T0 T1 h s)⌝ ∗ (sc0.view.loc (c : Thread nD τ) ↦{fullShare} a))
    ∗ (∃ a, ⌜∀ s : Pt (F := F) T0 T1 h, t.val = s.val + 1 → a = w2At T0 T1 h m ρ c (lastUsed T0 T1 h s)⌝ ∗ (sc1.view.loc (c : Thread nD τ) ↦{fullShare} a))
    ∗ (tb0.view.loc (c : Thread nD τ) ↦{fullShare.right} T0) ∗ (tb1.view.loc (c : Thread nD τ) ↦{fullShare.right} T1))

/-- The proof data of the one pipeline on core `c`. -/
def dats (_ : Fin 1) (c : Dev nD) : Dat τ (Elt F) Unit ℕ (UR sig nD τ) ℕ (cfgA (F := F) T0 T1 h) c where
  A w := (s₀ m ρ).mem (((cfgA (F := F) T0 T1 h).win w).arr.view.loc (c : Thread nD τ))
  after w t := match w with
    | ⟨0, _⟩ => iblk T0 T1 h m ρ c (0 : Fin 6) t
    | ⟨1, _⟩ => iblk T0 T1 h m ρ c (1 : Fin 6) t
    | ⟨2, _⟩ => iblk T0 T1 h m ρ c (2 : Fin 6) t
    | ⟨3, _⟩ => iblk T0 T1 h m ρ c (3 : Fin 6) t
    | ⟨4, _⟩ => iblk T0 T1 h m ρ c (4 : Fin 6) t
    | ⟨5, _⟩ => resultAt T0 T1 h m ρ c (lastUsed T0 T1 h t)
  Φ t := Phi T0 T1 h m ρ c t
  q _ := fullShare
  owed _ := 0

theorem after0 (c : Dev nD) (t : Pt (F := F) T0 T1 h) : (dats T0 T1 h m ρ 0 c).after (0 : Fin 6) t = iblk T0 T1 h m ρ c (0 : Fin 6) t := rfl
theorem after1 (c : Dev nD) (t : Pt (F := F) T0 T1 h) : (dats T0 T1 h m ρ 0 c).after (1 : Fin 6) t = iblk T0 T1 h m ρ c (1 : Fin 6) t := rfl
theorem after2 (c : Dev nD) (t : Pt (F := F) T0 T1 h) : (dats T0 T1 h m ρ 0 c).after (2 : Fin 6) t = iblk T0 T1 h m ρ c (2 : Fin 6) t := rfl
theorem after3 (c : Dev nD) (t : Pt (F := F) T0 T1 h) : (dats T0 T1 h m ρ 0 c).after (3 : Fin 6) t = iblk T0 T1 h m ρ c (3 : Fin 6) t := rfl
theorem after4 (c : Dev nD) (t : Pt (F := F) T0 T1 h) : (dats T0 T1 h m ρ 0 c).after (4 : Fin 6) t = iblk T0 T1 h m ρ c (4 : Fin 6) t := rfl
theorem after5 (c : Dev nD) (t : Pt (F := F) T0 T1 h) : (dats T0 T1 h m ρ 0 c).after (5 : Fin 6) t = resultAt T0 T1 h m ρ c (lastUsed T0 T1 h t) := rfl

theorem before0 (c : Dev nD) (t : Pt (F := F) T0 T1 h) (d) : (dats T0 T1 h m ρ 0 c).before (0 : Fin 6) t d = iblk T0 T1 h m ρ c (0 : Fin 6) t :=
  ((dats T0 T1 h m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Pt (F := F) T0 T1 h) (d) : (dats T0 T1 h m ρ 0 c).before (1 : Fin 6) t d = iblk T0 T1 h m ρ c (1 : Fin 6) t :=
  ((dats T0 T1 h m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Pt (F := F) T0 T1 h) (d) : (dats T0 T1 h m ρ 0 c).before (2 : Fin 6) t d = iblk T0 T1 h m ρ c (2 : Fin 6) t :=
  ((dats T0 T1 h m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Pt (F := F) T0 T1 h) (d) : (dats T0 T1 h m ρ 0 c).before (3 : Fin 6) t d = iblk T0 T1 h m ρ c (3 : Fin 6) t :=
  ((dats T0 T1 h m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Pt (F := F) T0 T1 h) (d) : (dats T0 T1 h m ρ 0 c).before (4 : Fin 6) t d = iblk T0 T1 h m ρ c (4 : Fin 6) t :=
  ((dats T0 T1 h m ρ 0 c).before_in_eq_fetched (4 : Fin 6) rfl (fun _ => rfl) (fun _ _ _ => rfl) (fun t => by rw [after4]; unfold Dat.blockOf iblk; rfl) t d).trans
    (by unfold Dat.fetched Dat.blockOf iblk; rfl)

/-- Past the used blocks the output's buffer keeps the last one's result. -/
theorem carry5 (c : Dev nD) : ∀ (t : Pt (F := F) T0 T1 h) (ht : t.val ≠ 0), (cfgA (F := F) T0 T1 h).idle (5 : Fin 6) ((cfgA (F := F) T0 T1 h).grid.coords t) = true → (cfgA (F := F) T0 T1 h).fresh (5 : Fin 6) t.val = false →
    (dats T0 T1 h m ρ 0 c).after (5 : Fin 6) t = (dats T0 T1 h m ρ 0 c).after (5 : Fin 6) ⟨t.val - 1, by omega⟩ := by
  intro t ht hi hf
  rw [idle_iff, decide_eq_true_eq] at hi
  rw [after5, after5, lastUsed_pred T0 T1 h t hi]

theorem before5 (c : Dev nD) (t : Pt (F := F) T0 T1 h) (d) :
    (dats T0 T1 h m ρ 0 c).before (5 : Fin 6) t d = if t.val < nUsed T1 then d else resultAt T0 T1 h m ρ c (lastUsed T0 T1 h t) := by
  rw [(dats T0 T1 h m ρ 0 c).before_out_traj (5 : Fin 6) rfl (fun _ _ => rfl) (carry5 T0 T1 h m ρ c) t.val t rfl d, fresh_iff (F := F) T0 T1 h t.val t.isLt]
  have hu := h.used
  by_cases hf : t.val < nUsed T1
  · simp only [hf, decide_true, ↓reduceIte]
  · have h0 : t.val ≠ 0 := fun h0 => hf (by rw [h0]; unfold nUsed; omega)
    simp only [hf, decide_false, Bool.false_eq_true, ↓reduceIte, after5]
    exact congrArg _ (lastUsed_pred T0 T1 h t (not_lt.1 hf) _)

/-! ## The body's obligation -/

abbrev bodyAt (t : Pt (F := F) T0 T1 h) : Prog (TpuEff nD τ sig (Elt F) Λ₀ .tc) PUnit :=
  cc0_moe_experts (crd T0 T1 h t) tb0 (Memref.isWhole_whole _) tb1 (Memref.isWhole_whole _) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t) (ms5 T0 T1 h t) (hs5 T0 T1 h t) sc0 (Memref.isWhole_whole _) sc1 (Memref.isWhole_whole _)

set_option maxHeartbeats 4000000 in
/-- The body at a point, from what the point's buffers hold, leaves what they are to hold after it. -/
theorem sound_body (c : Dev nD) (t : Pt (F := F) T0 T1 h) :
    iprop((dats T0 T1 h m ρ 0 c).Φ t.castSucc ∗ (dats T0 T1 h m ρ 0 c).owesAt () t.castSucc
        ∗ (∃ d, owns (c : Thread nD τ) (ms0 T0 T1 h t) fullShare ((dats T0 T1 h m ρ 0 c).before (0 : Fin 6) t d))
        ∗ (∃ d, owns (c : Thread nD τ) (ms1 T0 T1 h t) fullShare ((dats T0 T1 h m ρ 0 c).before (1 : Fin 6) t d))
        ∗ (∃ d, owns (c : Thread nD τ) (ms2 T0 T1 h t) fullShare ((dats T0 T1 h m ρ 0 c).before (2 : Fin 6) t d))
        ∗ (∃ d, owns (c : Thread nD τ) (ms3 T0 T1 h t) fullShare ((dats T0 T1 h m ρ 0 c).before (3 : Fin 6) t d))
        ∗ (∃ d, owns (c : Thread nD τ) (ms4 T0 T1 h t) fullShare ((dats T0 T1 h m ρ 0 c).before (4 : Fin 6) t d))
        ∗ (∃ d, owns (c : Thread nD τ) (ms5 T0 T1 h t) fullShare ((dats T0 T1 h m ρ 0 c).before (5 : Fin 6) t d)))
      ⊢ wp frame (wpE (defs₀ (F := F)) Variants.none c none) Set.univ (bodyAt T0 T1 h t) fun _ =>
          iprop((dats T0 T1 h m ρ 0 c).Φ t.succ ∗ (dats T0 T1 h m ρ 0 c).owesAt () t.succ
            ∗ bigSep Finset.univ fun w : Fin (cfgA (F := F) T0 T1 h).W =>
                match (cfgA (F := F) T0 T1 h).idle w ((cfgA (F := F) T0 T1 h).grid.coords t) with
                | true =>
                  match ((cfgA (F := F) T0 T1 h).win w).flush t with
                  | false => iprop(∃ d, owns (c : Thread nD τ) (((cfgA (F := F) T0 T1 h).win w).stage ((cfgA (F := F) T0 T1 h).slots t w)) fullShare ((dats T0 T1 h m ρ 0 c).before w t d))
                  | true => owns (c : Thread nD τ) (((cfgA (F := F) T0 T1 h).win w).stage ((cfgA (F := F) T0 T1 h).slots t w)) fullShare ((dats T0 T1 h m ρ 0 c).after w t)
                | false => owns (c : Thread nD τ) (((cfgA (F := F) T0 T1 h).win w).stage ((cfgA (F := F) T0 T1 h).slots t w)) fullShare ((dats T0 T1 h m ρ 0 c).after w t)) := by
  rw [bigSep_W0]
  have used := used_iff T0 T1 (crd T0 T1 h t) h
  have new := newExpert_iff (F := F) T0 T1 (crd T0 T1 h t) h
  have ec := coord (F := F) T0 T1 h t
  have ht : t.val < 560 := t.isLt
  have e0 : entry ((crd T0 T1 h t) 0).val ((crd T0 T1 h t) 0).isLt = entry t.val t.isLt := eq_entry _ _ _ ec
  have e560 : ((crd T0 T1 h t) 0).val < 560 := ((crd T0 T1 h t) 0).isLt
  have e1 : entry (((crd T0 T1 h t) 0).val - 1) (by omega) = entry (t.val - 1) (by omega) := eq_entry _ _ _ (by show ((crd T0 T1 h t) 0).val - 1 = _; rw [ec])
  rw [e0, e1, ec] at new
  rw [ec, ← wordUsed_eq (F := F) T1] at used
  have i5 := idle_iff (F := F) T0 T1 h t
  by_cases hu : t.val < nUsed T1
  · rw [show decide (nUsed T1 ≤ t.val) = false from decide_eq_false (not_le.2 hu)] at i5
    rewrite [i5]
    simp only [before0, before1, before2, before3, before4, before5, after0, after1, after2, after3, after4, after5]
    simp only [hu, ↓reduceIte]
    rw [lastUsed_of_used T0 T1 h t hu]
    rewrite [show (dats T0 T1 h m ρ 0 c).Φ t.succ = Phi T0 T1 h m ρ c t.succ from rfl, show (dats T0 T1 h m ρ 0 c).Φ t.castSucc = Phi T0 T1 h m ρ c t.castSucc from rfl,
      show (dats T0 T1 h m ρ 0 c).owesAt () t.succ = (dats T0 T1 h m ρ 0 c).owesAt () t.castSucc from rfl]
    have k2 : k0_cond2 (crd T0 T1 h t) (wordUsed (F := F) T1) = 1#1 := used.2 hu
    unfold Phi
    by_cases k1 : newExpert (F := F) (crd T0 T1 h t) T0 T1 = 1#1
    · iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩, ⟨%d5, H5⟩⟩
      iapply ((runNew c (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t) (ms5 T0 T1 h t) (hs5 T0 T1 h t) T0 T1 (iblk T0 T1 h m ρ c (0 : Fin 6) t) (iblk T0 T1 h m ρ c (1 : Fin 6) t) (iblk T0 T1 h m ρ c (2 : Fin 6) t) (iblk T0 T1 h m ρ c (3 : Fin 6) t) (iblk T0 T1 h m ρ c (4 : Fin 6) t) k1 k2).2.2.2 a0 a1 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS0]; · iexact HS0
      isplitl [HS1]; · iexact HS1
      iintro ⟨⟨H0, H1, H2, H3, H4, HT0, HT1⟩, H5, HS0, HS1⟩
      isplitl [HS0 HS1 HT0 HT1]
      · isplitl [HS0]
        · iexists _; isplitr; swap
          · iexact HS0
          · ipureintro; intro s hs
            obtain rfl : s = t := Fin.ext (by have : t.val + 1 = s.val + 1 := hs; omega)
            rw [lastUsed_of_used T0 T1 h s hu]
            exact runNew_s0 c (crd T0 T1 h s) (ms0 T0 T1 h s) (hs0 T0 T1 h s) (ms1 T0 T1 h s) (hs1 T0 T1 h s) (ms2 T0 T1 h s) (hs2 T0 T1 h s) (ms3 T0 T1 h s) (hs3 T0 T1 h s) (ms4 T0 T1 h s) (hs4 T0 T1 h s) (ms5 T0 T1 h s) (hs5 T0 T1 h s) T0 T1 (iblk T0 T1 h m ρ c (0 : Fin 6) s) (iblk T0 T1 h m ρ c (1 : Fin 6) s) (iblk T0 T1 h m ρ c (2 : Fin 6) s) (iblk T0 T1 h m ρ c (3 : Fin 6) s) (iblk T0 T1 h m ρ c (4 : Fin 6) s) k1 k2
        isplitl [HS1]
        · iexists _; isplitr; swap
          · iexact HS1
          · ipureintro; intro s hs
            obtain rfl : s = t := Fin.ext (by have : t.val + 1 = s.val + 1 := hs; omega)
            rw [lastUsed_of_used T0 T1 h s hu]
            exact runNew_s1 c (crd T0 T1 h s) (ms0 T0 T1 h s) (hs0 T0 T1 h s) (ms1 T0 T1 h s) (hs1 T0 T1 h s) (ms2 T0 T1 h s) (hs2 T0 T1 h s) (ms3 T0 T1 h s) (hs3 T0 T1 h s) (ms4 T0 T1 h s) (hs4 T0 T1 h s) (ms5 T0 T1 h s) (hs5 T0 T1 h s) T0 T1 (iblk T0 T1 h m ρ c (0 : Fin 6) s) (iblk T0 T1 h m ρ c (1 : Fin 6) s) (iblk T0 T1 h m ρ c (2 : Fin 6) s) (iblk T0 T1 h m ρ c (3 : Fin 6) s) (iblk T0 T1 h m ρ c (4 : Fin 6) s) k1 k2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      icases H5 with ⟨%f5, H5⟩
      unfold owns; iexists _; isplitr; swap
      · iexact H5
      · ipureintro; exact read_runNew c (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t) (ms5 T0 T1 h t) (hs5 T0 T1 h t) T0 T1 (iblk T0 T1 h m ρ c (0 : Fin 6) t) (iblk T0 T1 h m ρ c (1 : Fin 6) t) (iblk T0 T1 h m ρ c (2 : Fin 6) t) (iblk T0 T1 h m ρ c (3 : Fin 6) t) (iblk T0 T1 h m ρ c (4 : Fin 6) t) k1 k2 _ _
    · iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      have kn : t.val ≠ 0 ∧ T0 (entry (t.val - 1) (by omega)) = T0 (entry t.val t.isLt) := by
        constructor
        · intro h0; exact k1 (new.2 ⟨.inl h0, hu⟩)
        · by_contra h0; exact k1 (new.2 ⟨.inr (fun hh => h0 hh.symm), hu⟩)
      have hu' : t.val - 1 < nUsed T1 := by omega
      have b0 : a0 = w1At T0 T1 h m ρ c t := by
        rw [ha0 ⟨t.val - 1, by omega⟩ (by show t.val = t.val - 1 + 1; omega), lastUsed_of_used T0 T1 h _ hu']
        exact w1At_congr T0 T1 h m ρ c _ _ kn.2
      have b1 : a1 = w2At T0 T1 h m ρ c t := by
        rw [ha1 ⟨t.val - 1, by omega⟩ (by show t.val = t.val - 1 + 1; omega), lastUsed_of_used T0 T1 h _ hu']
        exact w2At_congr T0 T1 h m ρ c _ _ kn.2
      subst b0 b1
      iapply ((runSame c (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t) (ms5 T0 T1 h t) (hs5 T0 T1 h t) T0 T1 (iblk T0 T1 h m ρ c (0 : Fin 6) t) (iblk T0 T1 h m ρ c (1 : Fin 6) t) (iblk T0 T1 h m ρ c (2 : Fin 6) t) (iblk T0 T1 h m ρ c (3 : Fin 6) t) (iblk T0 T1 h m ρ c (4 : Fin 6) t) (w1At T0 T1 h m ρ c t) (w2At T0 T1 h m ρ c t) k1 k2).2 _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexists _; iexact H5
      isplitl [HS0]; · iexact HS0
      isplitl [HS1]; · iexact HS1
      iintro ⟨⟨H0, H1, H2, H3, H4, HT0, HT1⟩, H5, HS0, HS1⟩
      isplitl [HS0 HS1 HT0 HT1]
      · isplitl [HS0]
        · iexists _; isplitr; swap
          · iexact HS0
          · ipureintro; intro s hs
            obtain rfl : s = t := Fin.ext (by have : t.val + 1 = s.val + 1 := hs; omega)
            rw [lastUsed_of_used T0 T1 h s hu]
        isplitl [HS1]
        · iexists _; isplitr; swap
          · iexact HS1
          · ipureintro; intro s hs
            obtain rfl : s = t := Fin.ext (by have : t.val + 1 = s.val + 1 := hs; omega)
            rw [lastUsed_of_used T0 T1 h s hu]
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      icases H5 with ⟨%f5, H5⟩
      unfold owns; iexists _; isplitr; swap
      · iexact H5
      · ipureintro; exact read_runSame c (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t) (ms5 T0 T1 h t) (hs5 T0 T1 h t) T0 T1 (iblk T0 T1 h m ρ c (0 : Fin 6) t) (iblk T0 T1 h m ρ c (1 : Fin 6) t) (iblk T0 T1 h m ρ c (2 : Fin 6) t) (iblk T0 T1 h m ρ c (3 : Fin 6) t) (iblk T0 T1 h m ρ c (4 : Fin 6) t) _ _ k1 k2 _ _
  · rw [show decide (nUsed T1 ≤ t.val) = true from decide_eq_true (not_lt.1 hu)] at i5
    rewrite [i5]
    have k2 : ¬ k0_cond2 (crd T0 T1 h t) (wordUsed (F := F) T1) = 1#1 := fun hh => hu (used.1 hh)
    have k1 : ¬ newExpert (F := F) (crd T0 T1 h t) T0 T1 = 1#1 := fun hh => hu (new.1 hh).2
    have hpos : t.val ≠ 0 := fun h0 => hu (by have := h.used; rw [h0]; unfold nUsed; omega)
    have kp := lastUsed_pred T0 T1 h t (not_lt.1 hu) (by omega)
    cases f5 : ((cfgA (F := F) T0 T1 h).win (5 : Fin 6)).flush t
    · simp only [before0, before1, before2, before3, before4, before5, after0, after1, after2, after3, after4, after5, hu, ↓reduceIte]
      rewrite [show (dats T0 T1 h m ρ 0 c).Φ t.succ = Phi T0 T1 h m ρ c t.succ from rfl, show (dats T0 T1 h m ρ 0 c).Φ t.castSucc = Phi T0 T1 h m ρ c t.castSucc from rfl,
        show (dats T0 T1 h m ρ 0 c).owesAt () t.succ = (dats T0 T1 h m ρ 0 c).owesAt () t.castSucc from rfl]
      unfold Phi
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply (runIdle c (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t) (ms5 T0 T1 h t) (hs5 T0 T1 h t) T0 T1 (iblk T0 T1 h m ρ c (0 : Fin 6) t) (iblk T0 T1 h m ρ c (1 : Fin 6) t) (iblk T0 T1 h m ρ c (2 : Fin 6) t) (iblk T0 T1 h m ρ c (3 : Fin 6) t) (iblk T0 T1 h m ρ c (4 : Fin 6) t) a0 a1 k1 k2 _ _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexact H5
      isplitl [HS0]; · iexact HS0
      isplitl [HS1]; · iexact HS1
      iintro ⟨⟨H0, H1, H2, H3, H4, HT0, HT1⟩, H5, HS0, HS1⟩
      isplitl [HS0 HS1 HT0 HT1]
      · isplitl [HS0]
        · iexists _; isplitr; swap
          · iexact HS0
          · ipureintro; intro s hs
            have hst : s = t := Fin.ext (by have : t.val + 1 = s.val + 1 := hs; omega)
            exact (ha0 ⟨t.val - 1, by omega⟩ (by show t.val = t.val - 1 + 1; omega)).trans (congrArg (w1At T0 T1 h m ρ c) (kp.trans (congrArg (lastUsed T0 T1 h) hst.symm)))
        isplitl [HS1]
        · iexists _; isplitr; swap
          · iexact HS1
          · ipureintro; intro s hs
            have hst : s = t := Fin.ext (by have : t.val + 1 = s.val + 1 := hs; omega)
            exact (ha1 ⟨t.val - 1, by omega⟩ (by show t.val = t.val - 1 + 1; omega)).trans (congrArg (w2At T0 T1 h m ρ c) (kp.trans (congrArg (lastUsed T0 T1 h) hst.symm)))
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists (fun _ => Classical.arbitrary _)
      iexact H5
    · simp only [before0, before1, before2, before3, before4, before5, after0, after1, after2, after3, after4, after5, hu, ↓reduceIte]
      rewrite [show (dats T0 T1 h m ρ 0 c).Φ t.succ = Phi T0 T1 h m ρ c t.succ from rfl, show (dats T0 T1 h m ρ 0 c).Φ t.castSucc = Phi T0 T1 h m ρ c t.castSucc from rfl,
        show (dats T0 T1 h m ρ 0 c).owesAt () t.succ = (dats T0 T1 h m ρ 0 c).owesAt () t.castSucc from rfl]
      unfold Phi
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply (runIdle c (crd T0 T1 h t) (ms0 T0 T1 h t) (hs0 T0 T1 h t) (ms1 T0 T1 h t) (hs1 T0 T1 h t) (ms2 T0 T1 h t) (hs2 T0 T1 h t) (ms3 T0 T1 h t) (hs3 T0 T1 h t) (ms4 T0 T1 h t) (hs4 T0 T1 h t) (ms5 T0 T1 h t) (hs5 T0 T1 h t) T0 T1 (iblk T0 T1 h m ρ c (0 : Fin 6) t) (iblk T0 T1 h m ρ c (1 : Fin 6) t) (iblk T0 T1 h m ρ c (2 : Fin 6) t) (iblk T0 T1 h m ρ c (3 : Fin 6) t) (iblk T0 T1 h m ρ c (4 : Fin 6) t) a0 a1 k1 k2 _ _)
      isplitl [H0 H1 H2 H3 H4 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [HT0]; · iexact HT0
        iexact HT1
      isplitl [H5]; · iexact H5
      isplitl [HS0]; · iexact HS0
      isplitl [HS1]; · iexact HS1
      iintro ⟨⟨H0, H1, H2, H3, H4, HT0, HT1⟩, H5, HS0, HS1⟩
      isplitl [HS0 HS1 HT0 HT1]
      · isplitl [HS0]
        · iexists _; isplitr; swap
          · iexact HS0
          · ipureintro; intro s hs
            have hst : s = t := Fin.ext (by have : t.val + 1 = s.val + 1 := hs; omega)
            exact (ha0 ⟨t.val - 1, by omega⟩ (by show t.val = t.val - 1 + 1; omega)).trans (congrArg (w1At T0 T1 h m ρ c) (kp.trans (congrArg (lastUsed T0 T1 h) hst.symm)))
        isplitl [HS1]
        · iexists _; isplitr; swap
          · iexact HS1
          · ipureintro; intro s hs
            have hst : s = t := Fin.ext (by have : t.val + 1 = s.val + 1 := hs; omega)
            exact (ha1 ⟨t.val - 1, by omega⟩ (by show t.val = t.val - 1 + 1; omega)).trans (congrArg (w2At T0 T1 h m ρ c) (kp.trans (congrArg (lastUsed T0 T1 h) hst.symm)))
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexact H5

/-- The body's obligation at every point, as the pipeline asks it. -/
theorem body_obligation (hp : Holds T0 T1 m) (c : Dev nD) : BodyObligation (dats T0 T1 h m ρ 0 c) (defs₀ (F := F)) Variants.none () Set.univ := fun t => by
  rw [bigSep_W0]
  exact sound_body T0 T1 h m ρ c t

/-! ## The launch -/

/-- The launch's resources. -/
def u₀ : UR sig nD τ :=
  initOf (Pipeline.cells (pcs (F := F) T0 T1 h) ((launch0 (F := F)).cellOf_inj fun _ => adm T0 T1 h))
    (Pipeline.launchToks (pcs (F := F) T0 T1 h) ((launch0 (F := F)).cellOf_inj fun _ => adm T0 T1 h))

theorem share_eq (c : Dev nD) (w : Fin (cfgA (F := F) T0 T1 h).W) : (dats T0 T1 h m ρ 0 c).share w = fullShare := by unfold Dat.share; split <;> rfl

/-- The two tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- Before the first point: the tables, and the two buffers at anything. -/
theorem phi0_intro (c : Dev nD) :
    iprop(BI.emp ∗ Pipeline.prefHeld pre0 c (fun _ => fullShare.right) (adm T0 T1 h).1 ∗ Pipeline.scopedRest spec0 c) ⊢ (dats T0 T1 h m ρ 0 c).Φ 0 := by
  rw [prefHeld_eq, scopedRest0_eq, show (dats T0 T1 h m ρ 0 c).Φ 0 = Phi T0 T1 h m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s hs; exact absurd hs (Nat.succ_ne_zero s.val).symm
  isplitl [HS1]
  · iexists a1; isplitr; swap
    · iexact HS1
    · ipureintro; intro s hs; exact absurd hs (Nat.succ_ne_zero s.val).symm
  isplitl [HT0]
  · iexact HT0
  iexact HT1

/-- After the last point the two buffers are given back. -/
theorem phiN_exit (c : Dev nD) : (dats T0 T1 h m ρ 0 c).Φ (Fin.last (cfgA (F := F) T0 T1 h).N) ⊢ iprop(BI.emp ∗ Pipeline.scopedRest spec0 c) := by
  rw [scopedRest0_eq, show (dats T0 T1 h m ρ 0 c).Φ (Fin.last (cfgA (F := F) T0 T1 h).N) = Phi T0 T1 h m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- What every run ends in: every array at what its window's blocks make it, every table as it was. -/
def QC : PUnit × MemSt nD τ sig (Elt F) → Prop := fun r =>
  ∀ c : Dev nD, (∀ w : Fin (cfgA (F := F) T0 T1 h).W, r.2.mem (((cfgA (F := F) T0 T1 h).win w).arr.view.loc (c : Thread nD τ)) = (dats T0 T1 h m ρ 0 c).arrAt w (cfgA (F := F) T0 T1 h).N)
    ∧ ∀ j, r.2.mem ((c : Thread nD τ).loc (pre0.ref j)) = (adm T0 T1 h).1 j

theorem V_pre (hp : Holds T0 T1 m) (c : Dev nD) (j : Fin 2) : m ((c : Thread nD τ).loc (pre0.ref j)) = (adm T0 T1 h).1 j := by
  fin_cases j
  · exact (hp c).1
  · exact (hp c).2

set_option backward.isDefEq.respectTransparency.types false in
set_option maxHeartbeats 4000000 in
/-- Every run from a memory holding the tables terminates, ends in that, and leaves every counter at zero. -/
theorem run_main_quiescent (hp : Holds T0 T1 m) : θ_run (defs (F := F)) (onTc (τ := τ) (main (F := F))) (s₀ m ρ) (fun r => QC T0 T1 h m ρ r ∧ r.2.sem = fun _ => 0) :=
  Pipeline.θ_run_region_noSem_pf_quiescent pcfgs (fun _ => adm T0 T1 h) (dats T0 T1 h m ρ) () ((launch0 (F := F)).cellOf_inj fun _ => adm T0 T1 h) (0 : Fin 1)
    (launch0 (F := F)).win.to₀ (launch0 (F := F)).pre EP defs₀ Variants.none m ρ main
    (hbody := fun c => (body_obligation T0 T1 h m ρ hp c).loose) (hne := (launch0 (F := F)).block_pos)
    (harr := (launch0 (F := F)).arr_whole) (hstage := (launch0 (F := F)).stage_whole) (howed := fun _ _ => rfl)
    (u₀ := u₀ (F := F) T0 T1 h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) T0 T1 h) (dats T0 T1 h m ρ) 0 (launch0 (F := F)).win.arr_inj c (launch0 (F := F)).arr_whole
      (share_eq T0 T1 h m ρ c) _ _ fun _ => rfl)
    (hpf := V_pre T0 T1 h m hp)
    (X := fun _ => iprop(emp)) (Y := fun _ => iprop(emp)) (Z := fun _ => iprop(emp))
    (hX := fun c => by rw [unscopedRestP0_eq]; iintro -; isplitr <;> iempintro)
    (hin := phi0_intro T0 T1 h m ρ)
    (hout := phiN_exit T0 T1 h m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same without the counters. -/
theorem run_main (hp : Holds T0 T1 m) : θ_run (defs (F := F)) (onTc (τ := τ) (main (F := F))) (s₀ m ρ) (QC T0 T1 h m ρ) :=
  (θ_run defs _ _).mono (fun _ h => h.1) (run_main_quiescent T0 T1 h m ρ hp)

include h in
/-- Every argument array ends unchanged. -/
theorem unchanged (hp : Holds T0 T1 m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hh c => ⟨((hh c).2 0).trans (hp c).1.symm, ((hh c).2 1).trans (hp c).2.symm, ((hh c).1 (0 : Fin 6)).trans ((dats T0 T1 h m ρ 0 c).arrAt_in (0 : Fin 6) rfl _), ((hh c).1 (1 : Fin 6)).trans ((dats T0 T1 h m ρ 0 c).arrAt_in (1 : Fin 6) rfl _), ((hh c).1 (2 : Fin 6)).trans ((dats T0 T1 h m ρ 0 c).arrAt_in (2 : Fin 6) rfl _), ((hh c).1 (3 : Fin 6)).trans ((dats T0 T1 h m ρ 0 c).arrAt_in (3 : Fin 6) rfl _), ((hh c).1 (4 : Fin 6)).trans ((dats T0 T1 h m ρ 0 c).arrAt_in (4 : Fin 6) rfl _)⟩) (run_main T0 T1 h m ρ hp)

include h in
/-- The frame: every run terminates, every argument array ends unchanged and every counter at zero. -/
theorem frame (hp : Holds T0 T1 m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T0 T1 h m ρ hp) ((θ_run defs _ _).mono (fun _ hh => hh.2) (run_main_quiescent T0 T1 h m ρ hp))

end Cert.Kernel2Ideal.Experts

end
-- ==== Proof.ExpertsPlain.lean ====
/- One expert's feed-forward block on one token, over the extended reals: the mathematics both programs compute. -/
module

public import Idealize.ShloMosaic.PureOps.Ideal.Laws
public import Idealize.ShloMosaic.Lib.ValueIdx

@[expose] public section

noncomputable section

namespace Cert.Experts

open Idealize.ShloMosaic

/-- The clipping limit, its negative and the gate's slope, as the programs write them. -/
abbrev limit : EReal := Ideal.ofBits .f32 0x40E00000#32
abbrev floor : EReal := Ideal.ofBits .f32 0xC0E00000#32
abbrev slope : EReal := Ideal.ofBits .f32 0x3FD9DB23#32
abbrev one : EReal := Ideal.ofBits .f32 0x3F800000#32

/-- The number the programs write for one is one. -/
theorem one_eq : one = 1 := by simp [one, Ideal.ofBits, Ideal.ieee, -EReal.coe_mul]; norm_num

/-- Column `f` of the hidden layer of a token `x`: the token times the expert's first weights, and its bias. -/
def hidden (x : Fin 1024 → EReal) (w : Fin 1024 → Fin 2048 → EReal) (b : Fin 2048 → EReal) (f : Fin 2048) : EReal :=
  ∑ k, x k * w k f + b f

/-- The gated unit: of a gate column and a linear column, both clipped, `gate · logistic(slope · gate) · (linear + 1)`. -/
def unit (gate linear : EReal) : EReal :=
  min gate limit * Ideal.logistic (slope * min gate limit) * (min limit (max floor linear) + one)

/-- Activation `j` of a token. -/
def activation (x : Fin 1024 → EReal) (w : Fin 1024 → Fin 2048 → EReal) (b : Fin 2048 → EReal) (j : Fin 1024) : EReal :=
  unit (hidden x w b ⟨j.val, by omega⟩) (hidden x w b ⟨1024 + j.val, by omega⟩)

/-- Column `d` of the expert's result on a token. -/
def expert (x : Fin 1024 → EReal) (w : Fin 1024 → Fin 2048 → EReal) (b : Fin 2048 → EReal) (w' : Fin 1024 → Fin 1024 → EReal) (b' : Fin 1024 → EReal)
    (d : Fin 1024) : EReal :=
  ∑ j, activation x w b j * w' j d + b' d

end Cert.Experts

end
-- ==== Proof.ExpertsValue.lean ====
/- What the experts' kernel stores for one token, over the extended reals: the expert's block of it. -/
module

public import proofs.«01_k».proof.Proof.ExpertsBlock
public import proofs.«01_k».proof.Proof.ExpertsPlain
public import Idealize.ShloMosaic.Lib.MatmulPlain
public import Idealize.ShloMosaic.Lib.Pointwise

@[expose] public section

set_option maxRecDepth 16384

noncomputable section

namespace Cert.Kernel2Ideal.Experts

open Cert.Kernel2Ideal Cert.Kernel2Ideal.Gen
open Idealize.ShloMosaic hiding ix2 ix3
open Idealize.ShloMosaic.ValueIdx (ix2 ix3)

/-- Column `k` of token `r` of a block's window, as the kernel's eight stripes hold it. -/
def tokenOf (x0 : S2048x128.Idx → EReal) (r : Fin 256) (k : Fin 1024) : EReal :=
  x0 (ix2 (⟨8 * r.val + k.val / 128, by omega⟩ : Fin 2048) (⟨k.val % 128, by omega⟩ : Fin 128))

/-- The eight stripes side by side are the block's tokens. -/
theorem tokens (x0 : S2048x128.Idx → EReal) (h) (r : Fin 256) (k : Fin 1024) :
    concatenate S256x1024 1 [⟨S256x128, stripe (F := Ideal) x0 0⟩, ⟨S256x128, stripe (F := Ideal) x0 1⟩, ⟨S256x128, stripe (F := Ideal) x0 2⟩, ⟨S256x128, stripe (F := Ideal) x0 3⟩,
      ⟨S256x128, stripe (F := Ideal) x0 4⟩, ⟨S256x128, stripe (F := Ideal) x0 5⟩, ⟨S256x128, stripe (F := Ideal) x0 6⟩, ⟨S256x128, stripe (F := Ideal) x0 7⟩] h (ix2 r k) = tokenOf x0 r k := by
  have hp : ∀ (j : Fin 8) (hj : k.val / 128 = j.val), stripe (F := Ideal) x0 j (ix2 r (⟨k.val % 128, by omega⟩ : Fin 128)) = tokenOf x0 r k := by
    intro j hj
    refine congrArg x0 (funext fun a => Fin.ext ?_)
    fin_cases a
    · show 8 * r.val + j.val = 8 * r.val + k.val / 128; omega
    · rfl
  have hk : k.val / 128 < 8 := by omega
  have hi : ∀ b : Fin 2, b.cast (rfl : S256x128.rank = S256x1024.rank) ≠ (1 : Fin 2) →
      ((ix2 r (⟨k.val % 128, by omega⟩ : Fin 128) : S256x128.Idx) b).val = ((ix2 r k : S256x1024.Idx) (b.cast rfl)).val := by
    intro b hb; fin_cases b
    · rfl
    · exact absurd rfl hb
  have piece : ∀ (j : Fin 8) (hj : k.val / 128 = j.val), 128 * j.val + ((ix2 r (⟨k.val % 128, by omega⟩ : Fin 128) : S256x128.Idx) 1).val = ((ix2 r k : S256x1024.Idx) 1).val := by
    intro j hj
    show 128 * j.val + k.val % 128 = k.val
    omega
  rcases (by omega : k.val / 128 = 0 ∨ k.val / 128 = 1 ∨ k.val / 128 = 2 ∨ k.val / 128 = 3 ∨ k.val / 128 = 4 ∨ k.val / 128 = 5 ∨ k.val / 128 = 6 ∨ k.val / 128 = 7)
    with e | e | e | e | e | e | e | e
  · exact (concatenate_apply_piece 1 _ h _ 0 (by show 0 < 8; omega) S256x128 (stripe (F := Ideal) x0 0) rfl rfl 0 rfl _ hi (piece 0 e)).trans (hp 0 e)
  · exact (concatenate_apply_piece 1 _ h _ 1 (by show 1 < 8; omega) S256x128 (stripe (F := Ideal) x0 1) rfl rfl 128 rfl _ hi (piece 1 e)).trans (hp 1 e)
  · exact (concatenate_apply_piece 1 _ h _ 2 (by show 2 < 8; omega) S256x128 (stripe (F := Ideal) x0 2) rfl rfl 256 rfl _ hi (piece 2 e)).trans (hp 2 e)
  · exact (concatenate_apply_piece 1 _ h _ 3 (by show 3 < 8; omega) S256x128 (stripe (F := Ideal) x0 3) rfl rfl 384 rfl _ hi (piece 3 e)).trans (hp 3 e)
  · exact (concatenate_apply_piece 1 _ h _ 4 (by show 4 < 8; omega) S256x128 (stripe (F := Ideal) x0 4) rfl rfl 512 rfl _ hi (piece 4 e)).trans (hp 4 e)
  · exact (concatenate_apply_piece 1 _ h _ 5 (by show 5 < 8; omega) S256x128 (stripe (F := Ideal) x0 5) rfl rfl 640 rfl _ hi (piece 5 e)).trans (hp 5 e)
  · exact (concatenate_apply_piece 1 _ h _ 6 (by show 6 < 8; omega) S256x128 (stripe (F := Ideal) x0 6) rfl rfl 768 rfl _ hi (piece 6 e)).trans (hp 6 e)
  · exact (concatenate_apply_piece 1 _ h _ 7 (by show 7 < 8; omega) S256x128 (stripe (F := Ideal) x0 7) rfl rfl 896 rfl _ hi (piece 7 e)).trans (hp 7 e)

/-- A product with a bias row added, read at an entry. -/
theorem affine1 (X : FVec Ideal S256x1024 .bf16) (w : FVec Ideal S1024x2048 .bf16) (b : Vec Ideal S1x1x2048 .f32) (r : Fin 256) (f : Fin 2048) :
    addf (matmul dot_S256x1024_S1024x2048_S256x2048_1_0_0_1_n_n none X w (constant S256x2048 .f32 0x00000000#32))
        (broadcastTo S256x2048 (shapeCast S1x2048 b shapeCasts_S1x1x2048_S1x2048) broadcasts_S1x2048_S256x2048) (ix2 r f)
      = ∑ k : Fin 1024, (X (ix2 r k) : EReal) * (w (ix2 k f) : EReal) + (b (ix3 (0 : Fin 1) (0 : Fin 1) f) : EReal) := by
  refine congrArg₂ (fun a c : EReal => a + c) ?_ ?_
  · refine (Ideal.matmul_plain_apply (M := 256) (K := 1024) (N := 2048) none X w _ r f).trans ?_
    refine (congrArg (fun a : EReal => a + _) Ideal.ofBits_zero_f32).trans (zero_add _)
  · pointwise []
    exact congrArg b (by funext a; fin_cases a <;> rfl)

/-- The same of the second layer. -/
theorem affine2 (X : FVec Ideal S256x1024 .bf16) (w : FVec Ideal S1024x1024 .bf16) (b : Vec Ideal S1x1x1024 .f32) (r : Fin 256) (f : Fin 1024) :
    k0_pay3 X w b (ix2 r f) = ∑ k : Fin 1024, (X (ix2 r k) : EReal) * (w (ix2 k f) : EReal) + (b (ix3 (0 : Fin 1) (0 : Fin 1) f) : EReal) := by
  unfold k0_pay3
  refine congrArg₂ (fun a c : EReal => a + c) ?_ ?_
  · refine (Ideal.matmul_plain_apply (M := 256) (K := 1024) (N := 1024) none X w _ r f).trans ?_
    refine (congrArg (fun a : EReal => a + _) Ideal.ofBits_zero_f32).trans (zero_add _)
  · pointwise []
    exact congrArg b (by funext a; fin_cases a <;> rfl)

/-- The hidden layer of a block, before its gates. -/
def pre (x0 : S2048x128.Idx → EReal) (w1 : S1024x2048.Idx → EReal) (x2 : S1x1x2048.Idx → EReal) : FVec Ideal S256x2048 .f32 :=
  addf (F := Ideal) (matmul dot_S256x1024_S1024x2048_S256x2048_1_0_0_1_n_n none (φ₂ := .bf16)
      (truncf .bf16 (concatenate S256x1024 1 [⟨S256x128, stripe (F := Ideal) x0 0⟩, ⟨S256x128, stripe (F := Ideal) x0 1⟩, ⟨S256x128, stripe (F := Ideal) x0 2⟩, ⟨S256x128, stripe (F := Ideal) x0 3⟩,
        ⟨S256x128, stripe (F := Ideal) x0 4⟩, ⟨S256x128, stripe (F := Ideal) x0 5⟩, ⟨S256x128, stripe (F := Ideal) x0 6⟩, ⟨S256x128, stripe (F := Ideal) x0 7⟩]
        concatenates_S256x128_S256x128_S256x128_S256x128_S256x128_S256x128_S256x128_S256x128_S256x1024_d1) bitsLt_bf16_f32) w1 (constant S256x2048 .f32 0x00000000#32))
    (broadcastTo S256x2048 (shapeCast S1x2048 x2 shapeCasts_S1x1x2048_S1x2048) broadcasts_S1x2048_S256x2048)

/-- It is the expert's. -/
theorem pre_apply (x0 : S2048x128.Idx → EReal) (w1 : S1024x2048.Idx → EReal) (x2 : S1x1x2048.Idx → EReal) (r : Fin 256) (f : Fin 2048) :
    pre x0 w1 x2 (ix2 r f) = Cert.Experts.hidden (tokenOf x0 r) (fun k f => w1 (ix2 k f)) (fun f => x2 (ix3 (0 : Fin 1) (0 : Fin 1) f)) f := by
  unfold pre
  refine (affine1 _ w1 x2 r f).trans ?_
  exact congrArg (fun s : EReal => s + _) (Finset.sum_congr rfl fun k _ => congrArg (fun s : EReal => s * _)
    (tokens x0 concatenates_S256x128_S256x128_S256x128_S256x128_S256x128_S256x128_S256x128_S256x128_S256x1024_d1 r k))

/-- A run of 1024 columns, read at an entry. -/
theorem columns {α : Type} (H : S256x2048.Idx → α) (o : ℕ) (hs : S256x2048.Slices ![0, o] S256x1024) (r : Fin 256) (j : Fin 1024) (f : Fin 2048)
    (hf : f.val = o + j.val) : extractStridedSlice S256x1024 ![0, o] H hs (ix2 r j) = H (ix2 r f) := by
  rw [extractStridedSlice_apply ![0, o] H hs (ix2 r j) (ix2 r f)]
  intro a; fin_cases a
  · show r.val = 0 + r.val; omega
  · show f.val = o + j.val; exact hf

/-- The activations the kernel keeps are the expert's. -/
theorem act_apply (x0 : S2048x128.Idx → EReal) (w1 : S1024x2048.Idx → EReal) (x2 : S1x1x2048.Idx → EReal) (r : Fin 256) (j : Fin 1024) :
    blockAct (F := Ideal) x0 w1 x2 (ix2 r j)
      = Cert.Experts.activation (tokenOf x0 r) (fun k f => w1 (ix2 k f)) (fun f => x2 (ix3 (0 : Fin 1) (0 : Fin 1) f)) j := by
  have s0 : extractStridedSlice S256x1024 ![0, 0] (pre x0 w1 x2) slices_S256x2048_o0_0_S256x1024 (ix2 r j) = pre x0 w1 x2 (ix2 r (⟨j.val, by omega⟩ : Fin 2048)) :=
    columns (pre x0 w1 x2) 0 _ r j (⟨j.val, by omega⟩ : Fin 2048) (Nat.zero_add _).symm
  have s1 : extractStridedSlice S256x1024 ![0, 1024] (pre x0 w1 x2) slices_S256x2048_o0_1024_S256x1024 (ix2 r j) = pre x0 w1 x2 (ix2 r (⟨1024 + j.val, by omega⟩ : Fin 2048)) :=
    columns (pre x0 w1 x2) 1024 _ r j (⟨1024 + j.val, by omega⟩ : Fin 2048) rfl
  have key : blockAct (F := Ideal) x0 w1 x2 (ix2 r j)
      = Cert.Experts.unit (extractStridedSlice S256x1024 ![0, 0] (pre x0 w1 x2) slices_S256x2048_o0_0_S256x1024 (ix2 r j))
          (extractStridedSlice S256x1024 ![0, 1024] (pre x0 w1 x2) slices_S256x2048_o0_1024_S256x1024 (ix2 r j)) := by
    unfold blockAct k0_pay12 pre Cert.Experts.unit
    rfl
  exact key.trans (congrArg₂ Cert.Experts.unit (s0.trans (pre_apply x0 w1 x2 r _)) (s1.trans (pre_apply x0 w1 x2 r _)))

/-- The block's result at a row and lane of its window is the expert's result on the row's token. -/
theorem out_apply (x0 : S2048x128.Idx → EReal) (w1 : S1024x2048.Idx → EReal) (x2 : S1x1x2048.Idx → EReal) (w2 : S1024x1024.Idx → EReal) (x4 : S1x1x1024.Idx → EReal)
    (y : S2048x128.Idx) :
    blockOut (F := Ideal) x0 w1 x2 w2 x4 y
      = Cert.Experts.expert (tokenOf x0 (tokenAt y 0)) (fun k f => w1 (ix2 k f)) (fun f => x2 (ix3 (0 : Fin 1) (0 : Fin 1) f))
          (fun k f => w2 (ix2 k f)) (fun f => x4 (ix3 (0 : Fin 1) (0 : Fin 1) f)) (tokenAt y 1) := by
  have e : tokenAt y = ix2 (tokenAt y 0) (tokenAt y 1) := by funext a; fin_cases a <;> rfl
  unfold blockOut
  rw [e]
  refine (affine2 _ _ _ _ _).trans ?_
  unfold Cert.Experts.expert
  exact congrArg (fun s : EReal => s + _) (Finset.sum_congr rfl fun j _ => congrArg (fun s : EReal => s * _) (act_apply x0 w1 x2 _ j))

end Cert.Kernel2Ideal.Experts

end
-- ==== Proof.ExpertsArray.lean ====
/- What the experts' output array holds after the run: at every row of a used block, the expert's result on the row's token. -/
module

public import proofs.«01_k».proof.Proof.ExpertsFrame
public import proofs.«01_k».proof.Proof.ExpertsValue

@[expose] public section

set_option maxRecDepth 16384

noncomputable section

namespace Cert.Kernel2Ideal.Experts

open Cert.Kernel2Ideal Cert.Kernel2Ideal.Gen
open Idealize.ShloMosaic hiding ix2 ix3
open Idealize.ShloMosaic.TcCoe Idealize.SL.Sem
open Idealize.ShloMosaic.Pipeline
open Idealize.ShloMosaic.ValueIdx (ix2 ix3)

variable (T0 : S560.Idx → BitVec 32) (T1 : S1.Idx → BitVec 32) (h : Routed T0 T1)
variable (m : (ℓ : Loc nD τ sig) → Buf (Elt Ideal) ℓ) (ρ : Dev nD → PrngReg)

/-- The block of a row. -/
def blockOf (i : S1146880x128.Idx) : Pt (F := Ideal) T0 T1 h := ⟨(i 0).val / 2048, by
  have h0 : (i 0).val < 1146880 := (i 0).isLt
  show (i 0).val / 2048 < 560; omega⟩

/-- A row and lane within their block's window. -/
def rowOf (i : S1146880x128.Idx) : S2048x128.Idx :=
  ix2 (⟨(i 0).val % 2048, Nat.mod_lt _ (by decide)⟩ : Fin 2048) (⟨(i 1).val, (i 1).isLt⟩ : Fin 128)

/-- Every block's result, side by side. -/
def whole (c : Dev nD) : S1146880x128.Idx → EReal := fun i => resultAt T0 T1 h m ρ c (blockOf T0 T1 h i) (rowOf i)

/-- Where a block's row sits in the output array. -/
theorem out_emb (t : Pt (F := Ideal) T0 T1 h) (y : S2048x128.Idx) :
    ((((cfgA (F := Ideal) T0 T1 h).win (5 : Fin 6)).blk t).view.emb y : S1146880x128.Idx)
      = ix2 (⟨min t.val (nUsed T1 - 1) * 2048 + (y 0).val, by
            have h0 : (y 0).val < 2048 := (y 0).isLt
            have ht : t.val < 560 := t.isLt
            omega⟩ : Fin 1146880) (⟨(y 1).val, (y 1).isLt⟩ : Fin 128) := by
  have e1 : cc0_transform_5 inb_S1_S1_0 numel1_S1 (tabs (F := Ideal) T0 T1) (crd T0 T1 h t) = ![min t.val (nUsed T1 - 1), 0] := by
    rw [rows_at (F := Ideal) T0 T1 h (crd T0 T1 h t), coord (F := Ideal) T0 T1 h t]
  funext a; refine Fin.ext ?_
  fin_cases a
  · show cc0_transform_5 inb_S1_S1_0 numel1_S1 (tabs (F := Ideal) T0 T1) (crd T0 T1 h t) 0 * 2048 + 1 * (y 0).val = min t.val (nUsed T1 - 1) * 2048 + (y 0).val
    rw [e1]; show min t.val (nUsed T1 - 1) * 2048 + 1 * (y 0).val = _; omega
  · show cc0_transform_5 inb_S1_S1_0 numel1_S1 (tabs (F := Ideal) T0 T1) (crd T0 T1 h t) 1 * 128 + 1 * (y 1).val = (y 1).val
    rw [e1]; show 0 * 128 + 1 * (y 1).val = _; omega

/-- What a point writes back is its block of all the results. -/
theorem flushed_whole (c : Dev nD) (t : Pt (F := Ideal) T0 T1 h) :
    (dats T0 T1 h m ρ 0 c).flushed (5 : Fin 6) t = (((cfgA (F := Ideal) T0 T1 h).win (5 : Fin 6)).blk t).view.read (Elt Ideal) (whole T0 T1 h m ρ c) := by
  funext y
  have h0 : (y 0).val < 2048 := (y 0).isLt
  refine Eq.trans (b := resultAt T0 T1 h m ρ c (lastUsed T0 T1 h t) y) rfl ?_
  refine Eq.trans ?_ (congrArg (whole T0 T1 h m ρ c) (out_emb T0 T1 h t y)).symm
  unfold whole
  refine congrArg₂ (fun s x => resultAt T0 T1 h m ρ c s x) (Fin.ext ?_) ?_
  · show min t.val (nUsed T1 - 1) = (min t.val (nUsed T1 - 1) * 2048 + (y 0).val) / 2048; omega
  · funext a; refine Fin.ext ?_
    fin_cases a
    · show (y 0).val = (min t.val (nUsed T1 - 1) * 2048 + (y 0).val) % 2048; omega
    · rfl

/-- After the run, a row of a used block holds the block's result. -/
theorem final (c : Dev nD) (i : S1146880x128.Idx) (hi : (i 0).val / 2048 < nUsed T1) :
    (dats T0 T1 h m ρ 0 c).arrAt (5 : Fin 6) (cfgA (F := Ideal) T0 T1 h).N i = whole T0 T1 h m ρ c i := by
  have h0 : (i 0).val < 1146880 := (i 0).isLt
  have hu := h.used
  let t : Pt (F := Ideal) T0 T1 h := if (i 0).val / 2048 + 1 < nUsed T1 then blockOf T0 T1 h i else ⟨559, by show 559 < 560; omega⟩
  have ht : min t.val (nUsed T1 - 1) = (i 0).val / 2048 ∧ (t.val + 1 = 560 ∨ t.val + 1 < nUsed T1) := by
    by_cases hc : (i 0).val / 2048 + 1 < nUsed T1
    · have e : t = blockOf T0 T1 h i := if_pos hc
      have ev : t.val = (i 0).val / 2048 := congrArg Fin.val e
      omega
    · have e : t = ⟨559, by show 559 < 560; omega⟩ := if_neg hc
      have ev : t.val = 559 := congrArg Fin.val e
      omega
  refine Dat.arrAt_apply_of_mem (dats T0 T1 h m ρ 0 c) (5 : Fin 6) (whole T0 T1 h m ρ c) (fun t _ => flushed_whole T0 T1 h m ρ c t) _ t i t.isLt ?_ ?_
  · rw [flush_iff (F := Ideal) T0 T1 h t]; exact decide_eq_true ht.2
  · have e : (((cfgA (F := Ideal) T0 T1 h).win (5 : Fin 6)).blk t).view.emb (rowOf i) = i := by
      refine (out_emb T0 T1 h t (rowOf i)).trans ?_
      funext a; refine Fin.ext ?_
      fin_cases a
      · show min t.val (nUsed T1 - 1) * 2048 + (i 0).val % 2048 = (i 0).val; omega
      · rfl
    exact e ▸ View.emb_mem_set _ (rowOf i)

/-- The tokens of a block, read off the argument's rows. -/
def tokenAtRow (c : Dev nD) (b : Fin 560) (r : Fin 256) (k : Fin 1024) : EReal :=
  m ((c : Thread nD τ).loc main_arg2) (ix2 (⟨2048 * b.val + 8 * r.val + k.val / 128, by omega⟩ : Fin 1146880) (⟨k.val % 128, by omega⟩ : Fin 128))

/-- The expert of a block. -/
def expertAt (b : Fin 560) : Fin 32 := ⟨(T0 (ValueIdx.ix1 b)).toNat, h.expert _⟩

/-- The kept weights are the loaded ones: over the extended reals rounding changes nothing. -/
theorem pay1_apply (v : S1x1024x2048.Idx → EReal) (k : Fin 1024) (f : Fin 2048) : k0_pay1 (F := Ideal) v (ix2 k f) = v (ix3 (0 : Fin 1) k f) := by
  unfold k0_pay1
  refine (shapeCast_apply _ _ (ix2 k f) (ix2 k f) rfl).trans ?_
  exact shapeCast_apply v _ (ix2 k f) (ix3 (0 : Fin 1) k f)
    (by rw [Shape.rowMajor_val_two, Shape.rowMajor_val_three]; show (0 * 1024 + k.val) * 2048 + f.val = k.val * 2048 + f.val; omega)

theorem pay2_apply (v : S1x1024x1024.Idx → EReal) (k : Fin 1024) (f : Fin 1024) : k0_pay2 (F := Ideal) v (ix2 k f) = v (ix3 (0 : Fin 1) k f) := by
  unfold k0_pay2
  refine (shapeCast_apply _ _ (ix2 k f) (ix2 k f) rfl).trans ?_
  exact shapeCast_apply v _ (ix2 k f) (ix3 (0 : Fin 1) k f)
    (by rw [Shape.rowMajor_val_two, Shape.rowMajor_val_three]; show (0 * 1024 + k.val) * 1024 + f.val = k.val * 1024 + f.val; omega)

/-- A used block's row and lane hold its expert's result on the row's token. -/
theorem result (c : Dev nD) (i : S1146880x128.Idx) (hi : (i 0).val / 2048 < nUsed T1) (b : Fin 560) (r : Fin 256) (d : Fin 1024)
    (e : (i 0).val * 128 + (i 1).val = (b.val * 256 + r.val) * 1024 + d.val) :
    (dats T0 T1 h m ρ 0 c).arrAt (5 : Fin 6) (cfgA (F := Ideal) T0 T1 h).N i
      = Cert.Experts.expert (tokenAtRow m c b r) (fun k f => m ((c : Thread nD τ).loc main_arg3) (ix3 (expertAt T0 T1 h b) k f))
          (fun f => m ((c : Thread nD τ).loc main_arg4) (ix3 (expertAt T0 T1 h b) (0 : Fin 1) f))
          (fun k f => m ((c : Thread nD τ).loc main_arg5) (ix3 (expertAt T0 T1 h b) k f))
          (fun f => m ((c : Thread nD τ).loc main_arg6) (ix3 (expertAt T0 T1 h b) (0 : Fin 1) f)) d := by
  have h0 : (i 0).val < 1146880 := (i 0).isLt
  have h1 : (i 1).val < 128 := (i 1).isLt
  have hb : (blockOf T0 T1 h i).val = b.val := by show (i 0).val / 2048 = b.val; omega
  have hx : T0 (entry (blockOf T0 T1 h i).val (blockOf T0 T1 h i).isLt) = T0 (ValueIdx.ix1 b) :=
    congrArg T0 (eq_entry (ValueIdx.ix1 b) _ _ hb.symm).symm
  have hE : ∀ p, (⟨(T0 (entry (blockOf T0 T1 h i).val (blockOf T0 T1 h i).isLt)).toNat, p⟩ : Fin 32) = expertAt T0 T1 h b := fun p =>
    Fin.ext (show (T0 (entry (blockOf T0 T1 h i).val (blockOf T0 T1 h i).isLt)).toNat = (T0 (ValueIdx.ix1 b)).toNat from congrArg BitVec.toNat hx)
  have hr : tokenAt (rowOf i) 0 = r := Fin.ext (by show (i 0).val % 2048 / 8 = r.val; omega)
  have hd : tokenAt (rowOf i) 1 = d := Fin.ext (by show 128 * ((i 0).val % 2048 % 8) + (i 1).val = d.val; omega)
  rw [final T0 T1 h m ρ c i hi]
  unfold whole resultAt
  refine (out_apply _ _ _ _ _ (rowOf i)).trans ?_
  rw [hr, hd]
  have f0 : tokenOf (iblk T0 T1 h m ρ c (0 : Fin 6) (blockOf T0 T1 h i)) r = tokenAtRow m c b r := by
    funext k
    refine (iblk0_apply T0 T1 h m ρ c _ _).trans (congrArg (m ((c : Thread nD τ).loc main_arg2)) (funext fun a => Fin.ext ?_))
    fin_cases a
    · show min ((i 0).val / 2048) (nUsed T1 - 1) * 2048 + (8 * r.val + k.val / 128) = 2048 * b.val + 8 * r.val + k.val / 128
      have hb' : (i 0).val / 2048 = b.val := hb
      omega
    · rfl
  have f1 : (fun (k : Fin 1024) (f : Fin 2048) => w1At T0 T1 h m ρ c (blockOf T0 T1 h i) (ix2 k f))
      = fun k f => m ((c : Thread nD τ).loc main_arg3) (ix3 (expertAt T0 T1 h b) k f) := by
    funext k f
    have s : w1At T0 T1 h m ρ c (blockOf T0 T1 h i) (ix2 k f) = iblk T0 T1 h m ρ c (1 : Fin 6) (blockOf T0 T1 h i) (ix3 (0 : Fin 1) k f) := by
      unfold w1At
      exact pay1_apply _ k f
    refine s.trans ((iblk1_apply T0 T1 h m ρ c _ _).trans (congrArg (m ((c : Thread nD τ).loc main_arg3)) (funext fun a => ?_)))
    fin_cases a
    · exact hE _
    · rfl
    · rfl
  have f2 : (fun (f : Fin 2048) => iblk T0 T1 h m ρ c (2 : Fin 6) (blockOf T0 T1 h i) (ix3 (0 : Fin 1) (0 : Fin 1) f))
      = fun f => m ((c : Thread nD τ).loc main_arg4) (ix3 (expertAt T0 T1 h b) (0 : Fin 1) f) := by
    funext f
    refine (iblk2_apply T0 T1 h m ρ c _ _).trans (congrArg (m ((c : Thread nD τ).loc main_arg4)) (funext fun a => ?_))
    fin_cases a
    · exact hE _
    · rfl
    · rfl
  have f3 : (fun (k : Fin 1024) (f : Fin 1024) => w2At T0 T1 h m ρ c (blockOf T0 T1 h i) (ix2 k f))
      = fun k f => m ((c : Thread nD τ).loc main_arg5) (ix3 (expertAt T0 T1 h b) k f) := by
    funext k f
    have s : w2At T0 T1 h m ρ c (blockOf T0 T1 h i) (ix2 k f) = iblk T0 T1 h m ρ c (3 : Fin 6) (blockOf T0 T1 h i) (ix3 (0 : Fin 1) k f) := by
      unfold w2At
      exact pay2_apply _ k f
    refine s.trans ((iblk3_apply T0 T1 h m ρ c _ _).trans (congrArg (m ((c : Thread nD τ).loc main_arg5)) (funext fun a => ?_)))
    fin_cases a
    · exact hE _
    · rfl
    · rfl
  have f4 : (fun (f : Fin 1024) => iblk T0 T1 h m ρ c (4 : Fin 6) (blockOf T0 T1 h i) (ix3 (0 : Fin 1) (0 : Fin 1) f))
      = fun f => m ((c : Thread nD τ).loc main_arg6) (ix3 (expertAt T0 T1 h b) (0 : Fin 1) f) := by
    funext f
    refine (iblk4_apply T0 T1 h m ρ c _ _).trans (congrArg (m ((c : Thread nD τ).loc main_arg6)) (funext fun a => ?_))
    fin_cases a
    · exact hE _
    · rfl
    · rfl
  exact (congrArg (fun x => Cert.Experts.expert x _ _ _ _ d) f0).trans ((congrArg (fun x => Cert.Experts.expert _ x _ _ _ d) f1).trans
    ((congrArg (fun x => Cert.Experts.expert _ _ x _ _ d) f2).trans ((congrArg (fun x => Cert.Experts.expert _ _ _ x _ d) f3).trans
      (congrArg (fun x => Cert.Experts.expert _ _ _ _ x d) f4))))

end Cert.Kernel2Ideal.Experts

end
-- ==== Proof.ExpertsReference.lean ====
/- What the experts' reference computes at an entry: the expert's block of the entry's token, the expert taken from the table. -/
module

public import proofs.«01_k».proof.Proof.Gen.Reference2Ideal.Read
public import proofs.«01_k».proof.Proof.ExpertsPlain
public import Idealize.ShloMosaic.Lib.ValueIdx

@[expose] public section

set_option maxRecDepth 16384

noncomputable section

namespace Cert.Reference2Ideal.Experts

open Cert.Reference2Ideal Cert.Reference2Ideal.Gen Cert.Reference2Ideal.Read
open Idealize.ShloMosaic
open Idealize.ShloMosaic.ValueIdx (ix1 ix2 ix3)

/-- A gather of whole matrices from a stack of 32, one per row of the start indices, reads the matrix at the row's index,
    read signed and clamped. -/
theorem gather_matrix {α : Type} {A B : ℕ} (wf : GatherDims.WF ⟨3, ![32, A, B]⟩ ⟨2, ![560, 1]⟩ ⟨3, ![560, A, B]⟩ [1, 2] [0] [] [0] [] 1 ![1, A, B])
    (x : (⟨3, ![32, A, B]⟩ : Shape).Idx → α) (idx : IVec ⟨2, ![560, 1]⟩ 32) (b : Fin 560) (p : Fin A) (q : Fin B) :
    Host.gather (⟨[1, 2], [0], [], [], [0], 1, ![1, A, B], wf⟩ : GatherDims ⟨3, ![32, A, B]⟩ ⟨2, ![560, 1]⟩ ⟨3, ![560, A, B]⟩) x idx (ix3 b p q)
      = x (ix3 (⟨min (idx (ix2 b (0 : Fin 1))).toInt.toNat 31, by omega⟩ : Fin 32) p q) := by
  unfold Host.gather
  congr 1
  funext a
  refine Fin.ext ?_
  generalize hd : (⟨[1, 2], [0], [], [], [0], 1, ![1, A, B], wf⟩ : GatherDims ⟨3, ![32, A, B]⟩ ⟨2, ![560, 1]⟩ ⟨3, ![560, A, B]⟩) = d
  show d.start (ix3 b p q) idx a + d.batchCoord (ix3 b p q) a + d.offCoord (ix3 b p q) a = _
  rw [GatherDims.batchCoord_eq_zero _ _ _ (by rw [← hd]; exact List.not_mem_nil)]
  fin_cases a
  · rw [GatherDims.offCoord_eq_zero _ _ _ (fun h => ((GatherDims.mem_sKept _ _).mp h).1 (by rw [← hd]; exact List.mem_singleton.mpr rfl))]
    subst hd
    unfold GatherDims.start
    rw [dif_pos (by exact List.mem_singleton.mpr rfl)]
    have hsi : (⟨[1, 2], [0], [], [], [0], 1, ![1, A, B], wf⟩ : GatherDims ⟨3, ![32, A, B]⟩ ⟨2, ![560, 1]⟩ ⟨3, ![560, A, B]⟩).siIdx (ix3 b p q)
        ⟨List.idxOf (0 : Fin 3) [0], List.idxOf_lt_length_iff.2 (List.mem_singleton.mpr rfl)⟩ = ix2 b (0 : Fin 1) := by
      funext c; refine Fin.ext ?_
      match c with
      | ⟨0, _⟩ => rfl
      | ⟨1, _⟩ => rfl
    exact congrArg (fun s : (⟨2, ![560, 1]⟩ : Shape).Idx => min (idx s).toInt.toNat 31) hsi
  · subst hd
    unfold GatherDims.start
    rw [dif_neg (by show ¬ ((1 : Fin 3) ∈ ([0] : List (Fin 3))); decide)]
    exact (Nat.zero_add _).trans rfl
  · subst hd
    unfold GatherDims.start
    rw [dif_neg (by show ¬ ((2 : Fin 3) ∈ ([0] : List (Fin 3))); decide)]
    exact (Nat.zero_add _).trans rfl

variable (T0 : S560.Idx → BitVec 32)

/-- A block's expert is one of the 32. -/
def InRange : Prop := ∀ x, (T0 x).toNat < 32

/-- A word below 32 is itself, as an index wrapped when negative and clamped into the stack. -/
theorem word_self (w : BitVec 32) (hw : w.toNat < 32) :
    min (Scalar.select (IntOp.cmpi .slt w 0#32) (IntOp.addi w 32#32) w : BitVec 32).toInt.toNat 31 = w.toNat := by
  have e : w.toInt = (w.toNat : ℤ) := by rw [BitVec.toInt_eq_toNat_cond, if_pos (by omega)]
  have hn : ¬ (IntOp.cmpi .slt w 0#32 = 1#1) := by
    rw [IntOp.cmpi_slt, e, show (0#32).toInt = 0 from by decide]; omega
  rw [ValueIdx.eq_zero_of_ne_one hn]
  show min w.toInt.toNat 31 = w.toNat
  rw [e]; omega

variable (hT : InRange T0)

/-- The expert of a block. -/
def expertOf (b : Fin 560) : Fin 32 := ⟨(T0 (ix1 b)).toNat, hT _⟩

/-- The four gathers read the block's expert. -/
theorem v7_at (x3 : S32x1024x2048.Idx → EReal) (b : Fin 560) (p : Fin 1024) (q : Fin 2048) :
    val_main_v7 (F := Ideal) T0 x3 (ix3 b p q) = x3 (ix3 (expertOf T0 hT b) p q) := by
  unfold val_main_v7
  refine (gather_matrix _ x3 (val_main_v6 (F := Ideal) T0) b p q).trans (congrArg (fun e : Fin 32 => x3 (ix3 e p q)) (Fin.ext ?_))
  show min (val_main_v6 (F := Ideal) T0 (ix2 b (0 : Fin 1))).toInt.toNat 31 = (T0 (ix1 b)).toNat
  have ei : idx_main_v6 (ix2 b (0 : Fin 1)) = ix1 b := funext fun a => by fin_cases a; rfl
  rw [val_main_v6_apply, val_main_v5_apply, val_main_v2_apply, val_main_v4_apply, val_main_v1_apply, val_main_v3_apply, val_main_c_apply, val_main_c_0_apply, ei]
  exact word_self (T0 (ix1 b)) (hT _)

theorem v15_at (x4 : S32x1x2048.Idx → EReal) (b : Fin 560) (p : Fin 1) (q : Fin 2048) :
    val_main_v15 (F := Ideal) T0 x4 (ix3 b p q) = x4 (ix3 (expertOf T0 hT b) p q) := by
  unfold val_main_v15
  refine (gather_matrix _ x4 (val_main_v14 (F := Ideal) T0) b p q).trans (congrArg (fun e : Fin 32 => x4 (ix3 e p q)) (Fin.ext ?_))
  show min (val_main_v14 (F := Ideal) T0 (ix2 b (0 : Fin 1))).toInt.toNat 31 = (T0 (ix1 b)).toNat
  have ei : idx_main_v14 (ix2 b (0 : Fin 1)) = ix1 b := funext fun a => by fin_cases a; rfl
  rw [val_main_v14_apply, val_main_v13_apply, val_main_v10_apply, val_main_v12_apply, val_main_v9_apply, val_main_v11_apply, val_main_c_1_apply, val_main_c_2_apply, ei]
  exact word_self (T0 (ix1 b)) (hT _)

theorem v41_at (x5 : S32x1024x1024.Idx → EReal) (b : Fin 560) (p : Fin 1024) (q : Fin 1024) :
    val_main_v41 (F := Ideal) T0 x5 (ix3 b p q) = x5 (ix3 (expertOf T0 hT b) p q) := by
  unfold val_main_v41
  refine (gather_matrix _ x5 (val_main_v40 (F := Ideal) T0) b p q).trans (congrArg (fun e : Fin 32 => x5 (ix3 e p q)) (Fin.ext ?_))
  show min (val_main_v40 (F := Ideal) T0 (ix2 b (0 : Fin 1))).toInt.toNat 31 = (T0 (ix1 b)).toNat
  have ei : idx_main_v40 (ix2 b (0 : Fin 1)) = ix1 b := funext fun a => by fin_cases a; rfl
  rw [val_main_v40_apply, val_main_v39_apply, val_main_v36_apply, val_main_v38_apply, val_main_v35_apply, val_main_v37_apply, val_main_c_9_apply, val_main_c_10_apply, ei]
  exact word_self (T0 (ix1 b)) (hT _)

theorem v49_at (x6 : S32x1x1024.Idx → EReal) (b : Fin 560) (p : Fin 1) (q : Fin 1024) :
    val_main_v49 (F := Ideal) T0 x6 (ix3 b p q) = x6 (ix3 (expertOf T0 hT b) p q) := by
  unfold val_main_v49
  refine (gather_matrix _ x6 (val_main_v48 (F := Ideal) T0) b p q).trans (congrArg (fun e : Fin 32 => x6 (ix3 e p q)) (Fin.ext ?_))
  show min (val_main_v48 (F := Ideal) T0 (ix2 b (0 : Fin 1))).toInt.toNat 31 = (T0 (ix1 b)).toNat
  have ei : idx_main_v48 (ix2 b (0 : Fin 1)) = ix1 b := funext fun a => by fin_cases a; rfl
  rw [val_main_v48_apply, val_main_v47_apply, val_main_v44_apply, val_main_v46_apply, val_main_v43_apply, val_main_v45_apply, val_main_c_11_apply, val_main_c_12_apply, ei]
  exact word_self (T0 (ix1 b)) (hT _)

variable (x2 : S1146880x128.Idx → EReal) (x3 : S32x1024x2048.Idx → EReal) (x4 : S32x1x2048.Idx → EReal) (x5 : S32x1024x1024.Idx → EReal) (x6 : S32x1x1024.Idx → EReal)

/-- Column `k` of token `r` of block `b`, in the flat rows of 128 lanes. -/
def tokenOf (b : Fin 560) (r : Fin 256) (k : Fin 1024) : EReal :=
  x2 (ix2 (⟨2048 * b.val + 8 * r.val + k.val / 128, by omega⟩ : Fin 1146880) (⟨k.val % 128, by omega⟩ : Fin 128))

theorem v0_at (b : Fin 560) (r : Fin 256) (k : Fin 1024) : val_main_v0 (F := Ideal) x2 (ix3 b r k) = tokenOf x2 b r k := by
  rw [val_main_v0_apply]
  refine congrArg x2 (funext fun a => Fin.ext ?_)
  fin_cases a
  · show ((b.val * 256 + r.val) * 1024 + k.val) / 128 = 2048 * b.val + 8 * r.val + k.val / 128; omega
  · show ((b.val * 256 + r.val) * 1024 + k.val) % 128 = k.val % 128; omega

/-- The weights and biases of a block's expert. -/
abbrev W1 (b : Fin 560) (k : Fin 1024) (f : Fin 2048) : EReal := x3 (ix3 (expertOf T0 hT b) k f)
abbrev B1 (b : Fin 560) (f : Fin 2048) : EReal := x4 (ix3 (expertOf T0 hT b) (0 : Fin 1) f)
abbrev W2 (b : Fin 560) (k : Fin 1024) (f : Fin 1024) : EReal := x5 (ix3 (expertOf T0 hT b) k f)
abbrev B2 (b : Fin 560) (f : Fin 1024) : EReal := x6 (ix3 (expertOf T0 hT b) (0 : Fin 1) f)

/-- The hidden layer. -/
theorem v17_at (b : Fin 560) (r : Fin 256) (f : Fin 2048) :
    val_main_v17 (F := Ideal) T0 x2 x3 x4 (ix3 b r f) = Cert.Experts.hidden (tokenOf x2 b r) (W1 T0 hT x3 b) (B1 T0 hT x4 b) f := by
  rw [val_main_v17_apply, val_main_v8_apply, val_main_v16_apply]
  refine congrArg₂ (fun a c : EReal => a + c) (Finset.sum_congr rfl fun k _ => congrArg₂ (fun a c : EReal => a * c) ?_ ?_) ?_
  · refine Eq.trans (congrArg _ ?_) (v0_at x2 b r k); funext a; fin_cases a <;> rfl
  · refine Eq.trans (congrArg _ ?_) (v7_at T0 hT x3 b k f); funext a; fin_cases a <;> rfl
  · refine Eq.trans (congrArg _ ?_) (v15_at T0 hT x4 b 0 f); funext a; fin_cases a <;> rfl

/-- The activations. -/
theorem v34_at (b : Fin 560) (r : Fin 256) (j : Fin 1024) :
    val_main_v34 (F := Ideal) T0 x2 x3 x4 (ix3 b r j) = Cert.Experts.activation (tokenOf x2 b r) (W1 T0 hT x3 b) (B1 T0 hT x4 b) j := by
  have e18 : val_main_v18 (F := Ideal) T0 x2 x3 x4 (ix3 b r j) = Cert.Experts.hidden (tokenOf x2 b r) (W1 T0 hT x3 b) (B1 T0 hT x4 b) ⟨j.val, by omega⟩ := by
    rw [val_main_v18_apply]
    refine Eq.trans (congrArg _ ?_) (v17_at T0 hT x2 x3 x4 b r ⟨j.val, by omega⟩); funext a; fin_cases a <;> rfl
  have e21 : val_main_v21 (F := Ideal) T0 x2 x3 x4 (ix3 b r j) = Cert.Experts.hidden (tokenOf x2 b r) (W1 T0 hT x3 b) (B1 T0 hT x4 b) ⟨1024 + j.val, by omega⟩ := by
    rw [val_main_v21_apply]
    refine Eq.trans (congrArg _ ?_) (v17_at T0 hT x2 x3 x4 b r ⟨1024 + j.val, by omega⟩); funext a; fin_cases a <;> rfl
  unfold Cert.Experts.activation
  rw [← e18, ← e21, val_main_v34_apply, val_main_v31_apply, val_main_v33_apply, val_main_v30_apply, val_main_v28_apply, val_main_v26_apply, val_main_v25_apply,
    val_main_v24_apply, val_main_v22_apply, val_main_call0_v2_apply, val_main_v20_apply,
    val_main_v19_apply, val_main_cst_apply, val_main_v23_apply, val_main_cst_5_apply, val_main_v27_apply, val_main_cst_6_apply, val_main_v29_apply, val_main_cst_7_apply,
    val_main_v32_apply, val_main_cst_8_apply, val_main_call0_v1_apply, val_main_call0_v0_apply, val_main_cst_3_apply, val_main_call0_v4_apply, val_main_call0_v3_apply, val_main_cst_4_apply]
  generalize val_main_v18 (F := Ideal) T0 x2 x3 x4 (ix3 b r j) = g
  generalize val_main_v21 (F := Ideal) T0 x2 x3 x4 (ix3 b r j) = l
  have hl : ∀ x : EReal, Ideal.div Cert.Experts.one (Cert.Experts.one + Ideal.exp (-x)) = Ideal.logistic x := fun x => by
    rw [Cert.Experts.one_eq]; rfl
  exact congrArg (fun s : EReal => min g Cert.Experts.limit * s * (min Cert.Experts.limit (max Cert.Experts.floor l) + Cert.Experts.one)) (hl _)

/-- The reference's result at a row and lane. -/
theorem result (i : S1146880x128.Idx) (b : Fin 560) (r : Fin 256) (d : Fin 1024)
    (hi : (i 0).val * 128 + (i 1).val = (b.val * 256 + r.val) * 1024 + d.val) :
    val_main_v52 (F := Ideal) T0 x2 x3 x4 x5 x6 i
      = Cert.Experts.expert (tokenOf x2 b r) (W1 T0 hT x3 b) (B1 T0 hT x4 b) (W2 T0 hT x5 b) (B2 T0 hT x6 b) d := by
  have ei : idx_main_v52 i = ix3 b r d := by
    funext a; refine Fin.ext ?_
    fin_cases a
    · show ((i 0).val * 128 + (i 1).val) / 262144 = b.val; omega
    · show ((i 0).val * 128 + (i 1).val) / 1024 % 256 = r.val; omega
    · show ((i 0).val * 128 + (i 1).val) % 1024 = d.val; omega
  rw [val_main_v52_apply, ei, val_main_v51_apply, val_main_v42_apply, val_main_v50_apply]
  refine congrArg₂ (fun a c : EReal => a + c) (Finset.sum_congr rfl fun k _ => congrArg₂ (fun a c : EReal => a * c) ?_ ?_) ?_
  · refine Eq.trans (congrArg _ ?_) (v34_at T0 hT x2 x3 x4 b r k); funext a; fin_cases a <;> rfl
  · refine Eq.trans (congrArg _ ?_) (v41_at T0 hT x5 b k d); funext a; fin_cases a <;> rfl
  · refine Eq.trans (congrArg _ ?_) (v49_at T0 hT x6 b 0 d); funext a; fin_cases a <;> rfl

end Cert.Reference2Ideal.Experts

end
-- ==== Proof.ExpertsClaims.lean ====
/- The experts' claims: what the precondition says of the two tables, each program's run under it, and the equality of the two
   results on the used rows. -/
module

public import proofs.«01_k».proof.Defs
public import proofs.«01_k».proof.Proof.ExpertsArray
public import proofs.«01_k».proof.Proof.ExpertsReference
public import proofs.«01_k».proof.Proof.Gen.Kernel2
public import proofs.«01_k».proof.Proof.Gen.Reference2Ideal.Run
public import proofs.«01_k».proof.Proof.Gen.Pre_blocks_routed
public import proofs.«01_k».proof.Proof.Gen.On_used_rows
public import Idealize.ShloMosaic.Lib.Quiescent

@[expose] public section

set_option maxRecDepth 16384

noncomputable section

namespace Cert.Experts

open Idealize.ShloMosaic Idealize.ShloMosaic.TcCoe Idealize.SL.Sem
open Cert.Kernel2Ideal.Experts (Routed Holds only eq_only)

/-- The precondition's two comparisons say that every block's expert is one of the 32 and that a block is used. -/
theorem routed {F : FTy → Type} [FloatOps F] (T0 : Kernel2Ideal.S560.Idx → BitVec 32) (T1 : Kernel2Ideal.S1.Idx → BitVec 32)
    (x2 : FVec F Pre_blocks_routed.S1146880x128 .f32) (x3 : FVec F Pre_blocks_routed.S32x1024x2048 .f32) (x4 : FVec F Pre_blocks_routed.S32x1x2048 .f32)
    (x5 : FVec F Pre_blocks_routed.S32x1024x1024 .f32) (x6 : FVec F Pre_blocks_routed.S32x1x1024 .f32)
    (h : letI := Pre_blocks_routed.Gen.facts
      (Pre_blocks_routed.fn (F := F) T0 T1 x2 x3 x4 x5 x6).1 = (fun _ => 1#1) ∧ (Pre_blocks_routed.fn (F := F) T0 T1 x2 x3 x4 x5 x6).2 = (fun _ => 1#1)) :
    Routed T0 T1 where
  expert x := by
    have h0 : IntOp.andi (IntOp.cmpi .sge (T0 x) 0#32) (IntOp.cmpi .slt (T0 x) 32#32) = 1#1 := congrFun h.1 x
    generalize T0 x = w at h0 ⊢
    have h1 : (BitVec.ofBool ((0#32).sle w)) &&& (BitVec.ofBool (w.slt 32#32)) = 1#1 := h0
    have h2 : (0#32).sle w = true ∧ w.slt 32#32 = true := by
      revert h1; cases (0#32).sle w <;> cases w.slt 32#32 <;> decide
    rw [BitVec.sle_iff_toInt_le, BitVec.slt_iff_toInt_lt] at h2
    have e0 : (0#32).toInt = 0 := by decide
    have e1 : (32#32).toInt = 32 := by decide
    rw [e0, e1, BitVec.toInt_eq_toNat_cond] at h2
    have hw : w.toNat < 2 ^ 32 := w.isLt
    split_ifs at h2 <;> omega
  used := by
    have h0 : IntOp.cmpi .sge (T1 only) 1#32 = 1#1 := congrFun h.2 only
    have h1 : BitVec.ofBool ((1#32).sle (T1 only)) = 1#1 := h0
    have h2 : (1#32).sle (T1 only) = true := by revert h1; cases (1#32).sle (T1 only) <;> decide
    rw [BitVec.sle_iff_toInt_le] at h2
    exact h2

/-- The one device's tables are every device's. -/
theorem one_device (c : Dev Kernel2Ideal.nD) : c = 0 := by
  have h : c.val < 1 := c.isLt
  exact Fin.ext (by show c.val = 0; omega)

/-- The kernel's program keeps its arguments and leaves no counter raised, -/
theorem frame_ideal : Cert.quiescent_Kernel2Ideal (hKernel2Ideal := Cert.Kernel2Ideal.Gen.facts) (hPre_blocks_routed := Cert.Pre_blocks_routed.Gen.facts) :=
  fun m ρ hp => Kernel2Ideal.Experts.frame _ _ (routed _ _ _ _ _ _ _ (hp 0)) m ρ fun c => by rw [one_device c]; exact ⟨rfl, rfl⟩

/-- The two texts of the kernel's function are one, -/
theorem defs₀_eq {F : FTy → Type} [FloatOps F] : Kernel2.defs₀ (F := F) = Kernel2Ideal.defs₀ := by
  unfold Kernel2.defs₀ Kernel2Ideal.defs₀
  refine congrArg (Defs.onTc (nD := Kernel2Ideal.nD) (τ := Kernel2Ideal.τ) (sig := Kernel2Ideal.sig) (Val := Elt F) (Λ := Kernel2Ideal.Λ₀)) (funext fun l => funext fun x => ?_)
  match l with
  | 0 => rfl

/-- and so are the two programs' definitions. -/
theorem defs_eq {F : FTy → Type} [FloatOps F] : Kernel2.defs (F := F) = Kernel2Ideal.defs :=
  congrArg (Pipeline.defs (Kernel2Ideal.pcfgs (F := F))) defs₀_eq

/-- The machine's own floats: the same run. -/
theorem frame_bits : Cert.quiescent_Kernel2 (hKernel2 := Cert.Kernel2.Gen.facts) (hPre_blocks_routed := Cert.Pre_blocks_routed.Gen.facts) := fun m ρ hp => by
  rw [defs_eq]
  exact Kernel2Ideal.Experts.frame (F := Bits) _ _ (routed _ _ _ _ _ _ _ (hp 0)) m ρ fun c => by rw [one_device c]; exact ⟨rfl, rfl⟩

/-- The reference's program keeps its arguments and leaves no counter raised. -/
theorem reference_frame : Cert.quiescent_Reference2Ideal (hReference2Ideal := Cert.Reference2Ideal.Gen.facts) := fun m ρ _ =>
  (θ_run Reference2Ideal.defs _ _).mono (fun r h => ⟨fun c => (h c).2, Idealize.ShloMosaic.sem_eq_zero_of_no_sems (by decide) r.2⟩) (Reference2Ideal.Value.run m ρ)

/-! ## The value -/

/-- The mask is set at an entry only if its row's block is used. -/
theorem mask {T0 : On_used_rows.S560.Idx → BitVec 32} {T1 : On_used_rows.S1.Idx → BitVec 32} {x2 : FVec Ideal On_used_rows.S1146880x128 .f32}
    {x3 : FVec Ideal On_used_rows.S32x1024x2048 .f32} {x4 : FVec Ideal On_used_rows.S32x1x2048 .f32} {x5 : FVec Ideal On_used_rows.S32x1024x1024 .f32}
    {x6 : FVec Ideal On_used_rows.S32x1x1024 .f32} (h : Routed T0 T1) (i : On_used_rows.S1146880x128.Idx)
    (hi : letI := On_used_rows.Gen.facts; On_used_rows.fn (F := Ideal) T0 T1 x2 x3 x4 x5 x6 i = 1#1) : (i 0).val / 2048 < Kernel2Ideal.Experts.nUsed T1 := by
  have h0 : (i 0).val < 1146880 := (i 0).isLt
  have h1 : (i 1).val < 128 := (i 1).isLt
  have hu := h.used
  letI := On_used_rows.Gen.facts
  let j : On_used_rows.S560x2048x128.Idx := ValueIdx.ix3 (⟨(i 0).val / 2048, by omega⟩ : Fin 560) (⟨(i 0).val % 2048, by omega⟩ : Fin 2048) (⟨(i 1).val, h1⟩ : Fin 128)
  have e : On_used_rows.fn (F := Ideal) T0 T1 x2 x3 x4 x5 x6 i = IntOp.cmpi .slt (BitVec.ofNat 32 ((i 0).val / 2048)) (T1 only) := by
    unfold On_used_rows.fn
    refine (shapeCast_apply _ _ i j ?_).trans ?_
    · rw [Shape.rowMajor_val_two, Shape.rowMajor_val_three]
      show ((i 0).val / 2048 * 2048 + (i 0).val % 2048) * 128 + (i 1).val = (i 0).val * 128 + (i 1).val
      omega
    · exact congrArg (fun w => IntOp.cmpi .slt (BitVec.ofNat 32 ((i 0).val / 2048)) (T1 w)) (eq_only _)
  rw [e, IntOp.cmpi_slt] at hi
  have e1 : (BitVec.ofNat 32 ((i 0).val / 2048)).toInt = (((i 0).val / 2048 : ℕ) : ℤ) := by
    rw [BitVec.toInt_ofNat', Int.bmod_eq_of_le] <;> omega
  rw [e1] at hi
  show (i 0).val / 2048 < (T1 only).toInt.toNat
  omega

/-- The algebraic claim: on the rows of the used blocks both programs end with the same result. -/
theorem algebraic : Cert.algebraic_Kernel2Ideal_Reference2Ideal_on_used_rows (hKernel2Ideal := Cert.Kernel2Ideal.Gen.facts)
    (hReference2Ideal := Cert.Reference2Ideal.Gen.facts) (hPre_blocks_routed := Cert.Pre_blocks_routed.Gen.facts) (hOn_used_rows := Cert.On_used_rows.Gen.facts) := by
  intro m ρ m' ρ' hp hargs
  have h := routed _ _ _ _ _ _ _ (hp 0)
  have hh : Holds (m (((0 : Dev Kernel2Ideal.nD).tc : Thread Kernel2Ideal.nD Kernel2Ideal.τ).loc Kernel2Ideal.main_arg0))
      (m (((0 : Dev Kernel2Ideal.nD).tc : Thread Kernel2Ideal.nD Kernel2Ideal.τ).loc Kernel2Ideal.main_arg1)) m := fun c => by rw [one_device c]; exact ⟨rfl, rfl⟩
  refine ⟨fun c => (Kernel2Ideal.Experts.dats _ _ h m ρ 0 c).arrAt (5 : Fin 6) (Kernel2Ideal.Experts.cfgA (F := Ideal) _ _ h).N, ?_, ?_⟩
  · have out := (θ_run Kernel2Ideal.defs _ _).mono (fun _ hr (c : Dev Kernel2Ideal.nD) => (hr c).1 (5 : Fin 6)) (Kernel2Ideal.Experts.run_main _ _ h m ρ hh)
    exact (θ_run Kernel2Ideal.defs _ _).mono (fun _ hr c => ⟨fun i _ => congrFun (hr.1 c) i, hr.2 c⟩)
      (θ_run_and out (Kernel2Ideal.Experts.unchanged _ _ h m ρ hh))
  · refine (θ_run Reference2Ideal.defs _ _).mono (fun _ hr c => ⟨fun i hi => (congrFun (hr c).1 i).trans ?_, (hr c).2⟩) (Reference2Ideal.Value.run m' ρ')
    obtain ⟨a0, -, a2, a3, a4, a5, a6⟩ := hargs c
    obtain rfl := one_device c
    have h0 : (i 0).val < 1146880 := (i 0).isLt
    have h1 : (i 1).val < 128 := (i 1).isLt
    have e : (i 0).val * 128 + (i 1).val = ((⟨(i 0).val / 2048, by omega⟩ : Fin 560).val * 256 + (⟨(i 0).val % 2048 / 8, by omega⟩ : Fin 256).val) * 1024
        + (⟨(i 0).val % 8 * 128 + (i 1).val, by omega⟩ : Fin 1024).val := by
      show (i 0).val * 128 + (i 1).val = ((i 0).val / 2048 * 256 + (i 0).val % 2048 / 8) * 1024 + ((i 0).val % 8 * 128 + (i 1).val)
      omega
    refine Eq.trans ?_ (Kernel2Ideal.Experts.result _ _ h m ρ 0 i (mask h i hi) _ _ _ e).symm
    refine (congrFun (Reference2Ideal.Read.val_main_v52_eq m' 0) i).trans ?_
    rw [a0, a2, a3, a4, a5, a6]
    exact Reference2Ideal.Experts.result _ h.expert _ _ _ _ _ i _ _ _ e

end Cert.Experts

end
-- ==== Proof.ProjPlain.lean ====
/- A layer's two projections on one token, over the extended reals: the mathematics both programs compute. -/
module

public import Idealize.ShloMosaic.PureOps.Ideal.Laws
public import Idealize.ShloMosaic.Lib.ValueIdx

@[expose] public section

noncomputable section

namespace Cert.Projection

open Idealize.ShloMosaic

/-- A token's width, the norm's small constant and one, as the programs write them. -/
abbrev width : EReal := Ideal.ofBits .f32 0x44800000#32
abbrev eps : EReal := Ideal.ofBits .f32 0x358637BD#32
abbrev one : EReal := Ideal.ofBits .f32 0x3F800000#32

/-- A token divided by its root mean square, times the gain, scaled and shifted. -/
def modulated (x g scale shift : Fin 1024 → EReal) (k : Fin 1024) : EReal :=
  x k * Ideal.rsqrt (Ideal.div (∑ j, x j * x j) width + eps) * g k * (one + scale k) + shift k

/-- Column `n` of the product of the modulated token with the projection's weights. -/
def normIn {N : ℕ} (x g scale shift : Fin 1024 → EReal) (w : Fin 1024 → Fin N → EReal) (n : Fin N) : EReal :=
  ∑ k, modulated x g scale shift k * w k n

/-- Column `n` of the residual plus the gated product of the two mixers' rows, side by side, with the projection's weights:
    `w` are the rows of the weights that the first mixer's columns meet, `v` the second's. -/
def outRes {A B : ℕ} (a : Fin A → EReal) (b : Fin B → EReal) (w : Fin A → Fin 1024 → EReal) (v : Fin B → Fin 1024 → EReal)
    (h gate : Fin 1024 → EReal) (n : Fin 1024) : EReal :=
  h n + gate n * (∑ k, a k * w k n + ∑ k, b k * v k n)

/-- The row of the shifts, scales and gates that a token's row reads: its batch, or 4 in the context. -/
def modRow (t : Fin 33792) : Fin 8 := if h : t.val < 32768 then ⟨t.val / 8192, by omega⟩ else 4

end Cert.Projection

end
-- ==== Proof.NormIn.lean ====
/- What the kernel `norm_in_proj` of an odd layer computes at an entry of its result: the projection of the entry's token. -/
module

public import proofs.«01_k».proof.Proof.Gen.Kernel3Ideal.Value
public import proofs.«01_k».proof.Proof.ProjPlain
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Projection

open Cert.Kernel3Ideal Cert.Kernel3Ideal.Gen Cert.Projection Idealize.ShloMosaic Idealize.ShloMosaic.TcCoe Idealize.SL.Sem
open Idealize.ShloMosaic.Pipeline (Dat)

/-- The body's block at an entry. -/
theorem block (x0 : S256x1024.Idx → EReal) (x1 : S1x1024.Idx → EReal) (x2 x3 : S1x1x1024.Idx → EReal) (x4 : S1024x2560.Idx → EReal) (r : Fin 256) (n : Fin 2560) :
    k0_pay1 (F := Ideal) x0 x1 x3 x2 x4 (ix2 r n)
      = normIn (fun k => x0 (ix2 r k)) (fun k => x1 (ix2 (0 : Fin 1) k)) (fun k => x3 (ix3 (0 : Fin 1) (0 : Fin 1) k))
          (fun k => x2 (ix3 (0 : Fin 1) (0 : Fin 1) k)) (fun k n => x4 (ix2 k n)) n := by
  unfold normIn modulated
  pointwise [k0_pay1]

section
variable (m : (ℓ : Loc nD τ sig) → Buf (Elt Ideal) ℓ) (c : Dev nD)

abbrev H : S33792x1024.Idx → EReal := m ((c : Thread nD τ).loc main_arg0)
abbrev G : S1024.Idx → EReal := m ((c : Thread nD τ).loc main_arg1)
abbrev SH : S8x1x1024.Idx → EReal := m ((c : Thread nD τ).loc main_arg2)
abbrev SC : S8x1x1024.Idx → EReal := m ((c : Thread nD τ).loc main_arg3)
abbrev W : S1024x2560.Idx → EReal := m ((c : Thread nD τ).loc main_arg4)

/-- The gain as one row. -/
theorem entry_g (k : Fin 1024) : V m c main_v1 (ix2 (0 : Fin 1) k) = G m c (ix1 k) := by
  entry_read
  pointwise
  try rfl

/-- The index maps: point `t` is tile `t` of the rows, with its batch's shift and scale, or row 4's in the context. -/
theorem idx : ∀ t : Fin cfg0.N,
    (win0_0.index t 0 = t.val ∧ win0_0.index t 1 = 0) ∧
    (win0_1.index t 0 = 0 ∧ win0_1.index t 1 = 0) ∧
    (win0_2.index t 0 = (if t.val < 128 then t.val / 32 else 4) ∧ win0_2.index t 1 = 0 ∧ win0_2.index t 2 = 0) ∧
    (win0_3.index t 0 = (if t.val < 128 then t.val / 32 else 4) ∧ win0_3.index t 1 = 0 ∧ win0_3.index t 2 = 0) ∧
    (win0_4.index t 0 = 0 ∧ win0_4.index t 1 = 0) ∧
    (win0_5.index t 0 = t.val ∧ win0_5.index t 1 = 0) :=
  (by decide +kernel : ∀ t : Fin grid0.N,
    (win0_0.index t 0 = t.val ∧ win0_0.index t 1 = 0) ∧
    (win0_1.index t 0 = 0 ∧ win0_1.index t 1 = 0) ∧
    (win0_2.index t 0 = (if t.val < 128 then t.val / 32 else 4) ∧ win0_2.index t 1 = 0 ∧ win0_2.index t 2 = 0) ∧
    (win0_3.index t 0 = (if t.val < 128 then t.val / 32 else 4) ∧ win0_3.index t 1 = 0 ∧ win0_3.index t 2 = 0) ∧
    (win0_4.index t 0 = 0 ∧ win0_4.index t 1 = 0) ∧
    (win0_5.index t 0 = t.val ∧ win0_5.index t 1 = 0))

/-- The tile of a row. -/
def pt (R : Fin 33792) : Fin cfg0.N := ⟨R.val / 256, by have : cfg0.N = 132 := N_0; omega⟩

/-- A row's index maps, with its row of the shifts and scales. -/
theorem pt_idx (R : Fin 33792) :
    (win0_0.index (pt R) 0 = R.val / 256 ∧ win0_0.index (pt R) 1 = 0) ∧
    (win0_1.index (pt R) 0 = 0 ∧ win0_1.index (pt R) 1 = 0) ∧
    (win0_2.index (pt R) 0 = (modRow R).val ∧ win0_2.index (pt R) 1 = 0 ∧ win0_2.index (pt R) 2 = 0) ∧
    (win0_3.index (pt R) 0 = (modRow R).val ∧ win0_3.index (pt R) 1 = 0 ∧ win0_3.index (pt R) 2 = 0) ∧
    (win0_4.index (pt R) 0 = 0 ∧ win0_4.index (pt R) 1 = 0) ∧
    (win0_5.index (pt R) 0 = R.val / 256 ∧ win0_5.index (pt R) 1 = 0) := by
  have e := idx (pt R)
  have e1 : (if (pt R).val < 128 then (pt R).val / 32 else 4) = (modRow R).val := by
    unfold modRow pt
    dsimp only
    split_ifs <;> first | rfl | omega | (dsimp only; omega)
  rw [e1] at e
  exact e

variable (R : Fin 33792)

theorem blk_h (k : Fin 1024) : iblk m c 0 (pt R) (ix2 (⟨R.val % 256, by omega⟩ : Fin 256) k) = H m c (ix2 R k) := by
  blk_ext [iblk, V, pt_idx R]

theorem blk_g (k : Fin 1024) : iblk m c 1 (pt R) (ix2 (0 : Fin 1) k) = G m c (ix1 k) := by
  rw [← entry_g m c k]
  blk_ext [iblk, pt_idx R]

theorem blk_sh (k : Fin 1024) : iblk m c 2 (pt R) (ix3 (0 : Fin 1) (0 : Fin 1) k) = SH m c (ix3 (modRow R) (0 : Fin 1) k) := by
  blk_ext [iblk, V, pt_idx R]

theorem blk_sc (k : Fin 1024) : iblk m c 3 (pt R) (ix3 (0 : Fin 1) (0 : Fin 1) k) = SC m c (ix3 (modRow R) (0 : Fin 1) k) := by
  blk_ext [iblk, V, pt_idx R]

theorem blk_w (k : Fin 1024) (n : Fin 2560) : iblk m c 4 (pt R) (ix2 k n) = W m c (ix2 k n) := by
  blk_ext [iblk, V, pt_idx R]

/-- Every entry of the result. -/
theorem result (n : Fin 2560) : (dats m 0 c).arrAt 5 cfg0.N (ix2 R n)
    = normIn (fun k => H m c (ix2 R k)) (fun k => G m c (ix1 k)) (fun k => SC m c (ix3 (modRow R) (0 : Fin 1) k))
        (fun k => SH m c (ix3 (modRow R) (0 : Fin 1) k)) (fun k n => W m c (ix2 k n)) n := by
  have hb := congrFun (Value.blocks5 m c (pt R) (flush0_5 _)) (ix2 (⟨R.val % 256, by omega⟩ : Fin 256) n)
  rw [Value.flushed5] at hb
  have hx : ((cfg0.win 5).blk (pt R)).view.emb (ix2 (⟨R.val % 256, by omega⟩ : Fin 256) n) = ix2 R n := by
    blk_ext [pt_idx R]
  rw [← hx]
  refine Eq.trans hb ?_
  refine Eq.trans ?_ ((block (iblk m c 0 (pt R)) (iblk m c 1 (pt R)) (iblk m c 2 (pt R)) (iblk m c 3 (pt R)) (iblk m c 4 (pt R)) ⟨R.val % 256, by omega⟩ n).trans ?_)
  · frame_out
    rfl
  · simp only [blk_h, blk_g, blk_sh, blk_sc, blk_w]

end

end Cert.Kernel3Ideal.Projection

end
-- ==== Proof.NormInReference.lean ====
/- What the plain reference of an odd layer's `norm_in_proj` computes at an entry of its result: the projection of the entry's token. -/
module

public import proofs.«01_k».proof.Proof.Gen.Reference3Ideal.Read
public import proofs.«01_k».proof.Proof.ProjPlain
public import Idealize.ShloMosaic.Lib.Pointwise

@[expose] public section

set_option maxRecDepth 16384

noncomputable section

namespace Cert.Reference3Ideal.Projection

open Cert.Reference3Ideal Cert.Reference3Ideal.Gen Cert.Reference3Ideal.Read Cert.Projection Idealize.SL.Sem Idealize.ShloMosaic.TcCoe
open Idealize.ShloMosaic hiding ix1 ix2 ix3
open Idealize.ShloMosaic.ValueIdx (ix1 ix2 ix3)

variable (x0 : S33792x1024.Idx → EReal) (x1 : S1024.Idx → EReal) (x2 x3 : S8x1x1024.Idx → EReal) (x4 : S1024x2560.Idx → EReal)

/-- The sums start from zero. -/
theorem zero_word : Ideal.ofBits .f32 0x00000000#32 = (0 : EReal) := by pointwise

/-- The latents' rows of the residual. -/
theorem rows_lat (b : Fin 4) (q : Fin 8192) (R : Fin 33792) (hR : R.val = b.val * 8192 + q.val) (k : Fin 1024) :
    val_main_v1 (F := Ideal) x0 (ix3 b q k) = x0 (ix2 R k) := by
  rw [val_main_v1_apply, val_main_v0_apply]
  refine congrArg x0 ?_
  funext a
  match a with
  | ⟨0, _⟩ => refine Fin.ext ?_; show ((b.val * 8192 + q.val) * 1024 + k.val) / 1024 = R.val; omega
  | ⟨1, _⟩ => refine Fin.ext ?_; show ((b.val * 8192 + q.val) * 1024 + k.val) % 1024 = k.val; omega

/-- The latents' rows, normed and modulated. -/
theorem normed_lat (b : Fin 4) (q : Fin 8192) (R : Fin 33792) (hR : R.val = b.val * 8192 + q.val) (r : Fin 8) (hm : r.val = b.val) (k : Fin 1024) :
    val_main_v24 (F := Ideal) x0 x1 x2 x3 (ix3 b q k)
      = modulated (fun k => x0 (ix2 R k)) (fun k => x1 (ix1 k)) (fun k => x3 (ix3 r (0 : Fin 1) k)) (fun k => x2 (ix3 r (0 : Fin 1) k)) k := by
  have hs : ∀ k' : Fin 1024, val_main_v4 (F := Ideal) x0 (idx_main_v5 (idx_main_v6 (idx_main_v12 (ix3 b q k))) k') = x0 (ix2 R k') * x0 (ix2 R k') := fun k' => by
    have e : idx_main_v5 (idx_main_v6 (idx_main_v12 (ix3 b q k))) k' = ix3 b q k' := by funext a; fin_cases a <;> rfl
    rw [val_main_v4_apply, e, rows_lat x0 b q R hR]
    rfl
  have hg : x1 (idx_main_v14 (idx_main_v15 (ix3 b q k))) = x1 (ix1 k) := congrArg x1 (by funext a; fin_cases a; rfl)
  have hsc : x3 (idx_main_v17 (idx_main_v20 (ix3 b q k))) = x3 (ix3 r (0 : Fin 1) k) := congrArg x3 (by
    funext a
    match a with
    | ⟨0, _⟩ => exact Fin.ext hm.symm
    | ⟨1, _⟩ => rfl
    | ⟨2, _⟩ => refine Fin.ext ?_; rfl)
  have hsh : x2 (idx_main_v22 (idx_main_v23 (ix3 b q k))) = x2 (ix3 r (0 : Fin 1) k) := congrArg x2 (by
    funext a
    match a with
    | ⟨0, _⟩ => exact Fin.ext hm.symm
    | ⟨1, _⟩ => rfl
    | ⟨2, _⟩ => refine Fin.ext ?_; rfl)
  rw [val_main_v24_apply, val_main_v21_apply, val_main_v16_apply, val_main_v13_apply, val_main_v12_apply, val_main_v11_apply,
    val_main_v10_apply, val_main_v8_apply, val_main_v6_apply, val_main_v5_apply, val_main_v7_apply, val_main_v9_apply,
    val_main_v15_apply, val_main_v14_apply, val_main_v20_apply, val_main_v19_apply, val_main_v18_apply, val_main_v17_apply, val_main_v23_apply, val_main_v22_apply,
    Finset.sum_congr rfl fun k' _ => hs k', hg, hsc, hsh, rows_lat x0 b q R hR, val_main_cst_apply]
  have hz : FloatOps.ofBits (F := Ideal) .f32 0x00000000#32 = (0 : EReal) := zero_word
  rw [hz, zero_add]
  rfl

/-- The latents' rows of the product. -/
theorem product_lat (b : Fin 4) (q : Fin 8192) (R : Fin 33792) (hR : R.val = b.val * 8192 + q.val) (r : Fin 8) (hm : r.val = b.val) (n : Fin 2560) :
    val_main_v50 (F := Ideal) x0 x1 x2 x3 x4 (ix3 b q n)
      = normIn (fun k => x0 (ix2 R k)) (fun k => x1 (ix1 k)) (fun k => x3 (ix3 r (0 : Fin 1) k)) (fun k => x2 (ix3 r (0 : Fin 1) k)) (fun k n => x4 (ix2 k n)) n := by
  rw [val_main_v50_apply]
  unfold normIn
  refine Finset.sum_congr rfl fun k _ => ?_
  have el : lidx_main_v50 (ix3 b q n) k = ix3 b q k := by funext a; fin_cases a <;> rfl
  have er : ridx_main_v50 (ix3 b q n) k = ix2 k n := by funext a; fin_cases a <;> rfl
  rw [el, er, normed_lat x0 x1 x2 x3 b q R hR r hm]

/-- The context's rows of the residual. -/
theorem rows_ctx (b : Fin 4) (q : Fin 256) (R : Fin 33792) (hR : R.val = 32768 + b.val * 256 + q.val) (k : Fin 1024) :
    val_main_v3 (F := Ideal) x0 (ix3 b q k) = x0 (ix2 R k) := by
  rw [val_main_v3_apply, val_main_v2_apply]
  refine congrArg x0 ?_
  funext a
  match a with
  | ⟨0, _⟩ => refine Fin.ext ?_; show 32768 + ((b.val * 256 + q.val) * 1024 + k.val) / 1024 = R.val; omega
  | ⟨1, _⟩ => refine Fin.ext ?_; show ((b.val * 256 + q.val) * 1024 + k.val) % 1024 = k.val; omega

/-- The context's rows, normed and modulated. -/
theorem normed_ctx (b : Fin 4) (q : Fin 256) (R : Fin 33792) (hR : R.val = 32768 + b.val * 256 + q.val) (r : Fin 8) (hm : r.val = 4) (k : Fin 1024) :
    val_main_v49 (F := Ideal) x0 x1 x2 x3 (ix3 b q k)
      = modulated (fun k => x0 (ix2 R k)) (fun k => x1 (ix1 k)) (fun k => x3 (ix3 r (0 : Fin 1) k)) (fun k => x2 (ix3 r (0 : Fin 1) k)) k := by
  have hs : ∀ k' : Fin 1024, val_main_v25 (F := Ideal) x0 (idx_main_v26 (idx_main_v27 (idx_main_v33 (ix3 b q k))) k') = x0 (ix2 R k') * x0 (ix2 R k') := fun k' => by
    have e : idx_main_v26 (idx_main_v27 (idx_main_v33 (ix3 b q k))) k' = ix3 b q k' := by funext a; fin_cases a <;> rfl
    rw [val_main_v25_apply, e, rows_ctx x0 b q R hR]
    rfl
  have hg : x1 (idx_main_v35 (idx_main_v36 (ix3 b q k))) = x1 (ix1 k) := congrArg x1 (by funext a; fin_cases a; rfl)
  have hsc : x3 (idx_main_v38 (idx_main_v39 (idx_main_v42 (idx_main_v43 (ix3 b q k))))) = x3 (ix3 r (0 : Fin 1) k) := congrArg x3 (by
    funext a
    match a with
    | ⟨0, _⟩ => exact Fin.ext hm.symm
    | ⟨1, _⟩ => rfl
    | ⟨2, _⟩ => refine Fin.ext ?_; exact Nat.mod_eq_of_lt k.isLt)
  have hsh : x2 (idx_main_v45 (idx_main_v46 (idx_main_v47 (idx_main_v48 (ix3 b q k))))) = x2 (ix3 r (0 : Fin 1) k) := congrArg x2 (by
    funext a
    match a with
    | ⟨0, _⟩ => exact Fin.ext hm.symm
    | ⟨1, _⟩ => rfl
    | ⟨2, _⟩ => refine Fin.ext ?_; exact Nat.mod_eq_of_lt k.isLt)
  rw [val_main_v49_apply, val_main_v44_apply, val_main_v37_apply, val_main_v34_apply, val_main_v33_apply, val_main_v32_apply,
    val_main_v31_apply, val_main_v29_apply, val_main_v27_apply, val_main_v26_apply, val_main_v28_apply, val_main_v30_apply,
    val_main_v36_apply, val_main_v35_apply, val_main_v43_apply, val_main_v42_apply, val_main_v41_apply, val_main_v40_apply, val_main_v39_apply, val_main_v38_apply, val_main_v48_apply, val_main_v47_apply, val_main_v46_apply, val_main_v45_apply,
    Finset.sum_congr rfl fun k' _ => hs k', hg, hsc, hsh, rows_ctx x0 b q R hR, val_main_cst_3_apply]
  have hz : FloatOps.ofBits (F := Ideal) .f32 0x00000000#32 = (0 : EReal) := zero_word
  rw [hz, zero_add]
  rfl

/-- The context's rows of the product. -/
theorem product_ctx (b : Fin 4) (q : Fin 256) (R : Fin 33792) (hR : R.val = 32768 + b.val * 256 + q.val) (r : Fin 8) (hm : r.val = 4) (n : Fin 2560) :
    val_main_v51 (F := Ideal) x0 x1 x2 x3 x4 (ix3 b q n)
      = normIn (fun k => x0 (ix2 R k)) (fun k => x1 (ix1 k)) (fun k => x3 (ix3 r (0 : Fin 1) k)) (fun k => x2 (ix3 r (0 : Fin 1) k)) (fun k n => x4 (ix2 k n)) n := by
  rw [val_main_v51_apply]
  unfold normIn
  refine Finset.sum_congr rfl fun k _ => ?_
  have el : lidx_main_v51 (ix3 b q n) k = ix3 b q k := by funext a; fin_cases a <;> rfl
  have er : ridx_main_v51 (ix3 b q n) k = ix2 k n := by funext a; fin_cases a <;> rfl
  rw [el, er, normed_ctx x0 x1 x2 x3 b q R hR r hm]

/-- Every entry of the result. -/
theorem result (R : Fin 33792) (n : Fin 2560) : val_main_v54 (F := Ideal) x0 x1 x2 x3 x4 (ix2 R n)
    = normIn (fun k => x0 (ix2 R k)) (fun k => x1 (ix1 k)) (fun k => x3 (ix3 (modRow R) (0 : Fin 1) k)) (fun k => x2 (ix3 (modRow R) (0 : Fin 1) k))
        (fun k n => x4 (ix2 k n)) n := by
  unfold val_main_v54
  by_cases h : R.val < 32768
  · refine Eq.trans (concatenate_pair_apply_left (t := S33792x2560) (s₁ := S32768x2560) (s₂ := S1024x2560) 0 _ _ _ (ix2 R n) rfl
      (ix2 (⟨R.val, h⟩ : Fin 32768) n) (by intro a; fin_cases a <;> rfl)) ?_
    rw [val_main_v52_apply]
    have e : idx_main_v52 (ix2 (⟨R.val, h⟩ : Fin 32768) n) = ix3 (⟨R.val / 8192, by omega⟩ : Fin 4) (⟨R.val % 8192, by omega⟩ : Fin 8192) n := by
      funext a
      match a with
      | ⟨0, _⟩ => refine Fin.ext ?_; show (R.val * 2560 + n.val) / 20971520 = R.val / 8192; omega
      | ⟨1, _⟩ => refine Fin.ext ?_; show (R.val * 2560 + n.val) / 2560 % 8192 = R.val % 8192; omega
      | ⟨2, _⟩ => refine Fin.ext ?_; show (R.val * 2560 + n.val) % 2560 = n.val; omega
    rw [e]
    exact product_lat x0 x1 x2 x3 x4 _ _ R (by dsimp only; omega) (modRow R) (by unfold modRow; rw [dif_pos h]) n
  · refine Eq.trans (concatenate_pair_apply_right (t := S33792x2560) (s₁ := S32768x2560) (s₂ := S1024x2560) 0 _ _ _ (ix2 R n) rfl rfl
      (ix2 (⟨R.val - 32768, by omega⟩ : Fin 1024) n)
      (by
        intro a ha
        match a with
        | ⟨0, _⟩ => exact absurd rfl ha
        | ⟨1, _⟩ => rfl)
      (by show R.val - 32768 + 32768 = R.val; omega)) ?_
    rw [val_main_v53_apply]
    have e : idx_main_v53 (ix2 (⟨R.val - 32768, by omega⟩ : Fin 1024) n) = ix3 (⟨(R.val - 32768) / 256, by omega⟩ : Fin 4) (⟨(R.val - 32768) % 256, by omega⟩ : Fin 256) n := by
      funext a
      match a with
      | ⟨0, _⟩ => refine Fin.ext ?_; show ((R.val - 32768) * 2560 + n.val) / 655360 = (R.val - 32768) / 256; omega
      | ⟨1, _⟩ => refine Fin.ext ?_; show ((R.val - 32768) * 2560 + n.val) / 2560 % 256 = (R.val - 32768) % 256; omega
      | ⟨2, _⟩ => refine Fin.ext ?_; show ((R.val - 32768) * 2560 + n.val) % 2560 = n.val; omega
    rw [e]
    exact product_ctx x0 x1 x2 x3 x4 _ _ R (by dsimp only; omega) (modRow R) (by unfold modRow; rw [dif_neg h]; rfl) n

end Cert.Reference3Ideal.Projection

end
-- ==== Proof.OutRes.lean ====
/- What the kernel `out_proj_residual` of an odd layer computes at an entry of its result: the residual plus the gated projection of the entry's token. -/
module

public import proofs.«01_k».proof.Proof.Gen.Kernel4Ideal.Value
public import proofs.«01_k».proof.Proof.ProjPlain
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Projection

open Cert.Kernel4Ideal Cert.Kernel4Ideal.Gen Cert.Projection Idealize.ShloMosaic Idealize.ShloMosaic.TcCoe Idealize.SL.Sem
open Idealize.ShloMosaic.Pipeline (Dat)

/-- The body's block at an entry. -/
theorem block (x0 x1 : S256x512.Idx → EReal) (x2 x3 : S512x1024.Idx → EReal) (x4 : S256x1024.Idx → EReal) (x5 : S1x1x1024.Idx → EReal) (r : Fin 256) (n : Fin 1024) :
    k0_pay1 (F := Ideal) x0 x2 x1 x3 x4 x5 (ix2 r n)
      = x4 (ix2 r n) + x5 (ix3 (0 : Fin 1) (0 : Fin 1) n)
          * (∑ k : Fin 512, x0 (ix2 r k) * x2 (ix2 k n) + ∑ k : Fin 512, x1 (ix2 r k) * x3 (ix2 k n)) := by
  pointwise [k0_pay1]

section
variable (m : (ℓ : Loc nD τ sig) → Buf (Elt Ideal) ℓ) (c : Dev nD)

abbrev A : S33792x512.Idx → EReal := m ((c : Thread nD τ).loc main_arg0)
abbrev B : S33792x512.Idx → EReal := m ((c : Thread nD τ).loc main_arg1)
abbrev W : S1024x1024.Idx → EReal := m ((c : Thread nD τ).loc main_arg2)
abbrev H : S33792x1024.Idx → EReal := m ((c : Thread nD τ).loc main_arg3)
abbrev GT : S8x1x1024.Idx → EReal := m ((c : Thread nD τ).loc main_arg4)

/-- The weights' first 512 rows. -/
theorem entry_lo (k : Fin 512) (n : Fin 1024) : V m c main_v1 (ix2 k n) = W m c (ix2 (⟨k.val, by omega⟩ : Fin 1024) n) := by
  entry_read
  pointwise
  try rfl

/-- The weights' last 512 rows. -/
theorem entry_hi (k : Fin 512) (n : Fin 1024) : V m c main_v2 (ix2 k n) = W m c (ix2 (⟨512 + k.val, by omega⟩ : Fin 1024) n) := by
  entry_read
  pointwise
  try rfl

/-- The index maps: point `t` is tile `t` of the rows, with its batch's gate, or row 4's in the context. -/
theorem idx : ∀ t : Fin cfg0.N,
    (win0_0.index t 0 = t.val ∧ win0_0.index t 1 = 0) ∧
    (win0_1.index t 0 = t.val ∧ win0_1.index t 1 = 0) ∧
    (win0_2.index t 0 = 0 ∧ win0_2.index t 1 = 0) ∧
    (win0_3.index t 0 = 0 ∧ win0_3.index t 1 = 0) ∧
    (win0_4.index t 0 = t.val ∧ win0_4.index t 1 = 0) ∧
    (win0_5.index t 0 = (if t.val < 128 then t.val / 32 else 4) ∧ win0_5.index t 1 = 0 ∧ win0_5.index t 2 = 0) ∧
    (win0_6.index t 0 = t.val ∧ win0_6.index t 1 = 0) :=
  (by decide +kernel : ∀ t : Fin grid0.N,
    (win0_0.index t 0 = t.val ∧ win0_0.index t 1 = 0) ∧
    (win0_1.index t 0 = t.val ∧ win0_1.index t 1 = 0) ∧
    (win0_2.index t 0 = 0 ∧ win0_2.index t 1 = 0) ∧
    (win0_3.index t 0 = 0 ∧ win0_3.index t 1 = 0) ∧
    (win0_4.index t 0 = t.val ∧ win0_4.index t 1 = 0) ∧
    (win0_5.index t 0 = (if t.val < 128 then t.val / 32 else 4) ∧ win0_5.index t 1 = 0 ∧ win0_5.index t 2 = 0) ∧
    (win0_6.index t 0 = t.val ∧ win0_6.index t 1 = 0))

/-- The tile of a row. -/
def pt (R : Fin 33792) : Fin cfg0.N := ⟨R.val / 256, by have : cfg0.N = 132 := N_0; omega⟩

/-- A row's index maps, with its row of the gates. -/
theorem pt_idx (R : Fin 33792) :
    (win0_0.index (pt R) 0 = R.val / 256 ∧ win0_0.index (pt R) 1 = 0) ∧
    (win0_1.index (pt R) 0 = R.val / 256 ∧ win0_1.index (pt R) 1 = 0) ∧
    (win0_2.index (pt R) 0 = 0 ∧ win0_2.index (pt R) 1 = 0) ∧
    (win0_3.index (pt R) 0 = 0 ∧ win0_3.index (pt R) 1 = 0) ∧
    (win0_4.index (pt R) 0 = R.val / 256 ∧ win0_4.index (pt R) 1 = 0) ∧
    (win0_5.index (pt R) 0 = (modRow R).val ∧ win0_5.index (pt R) 1 = 0 ∧ win0_5.index (pt R) 2 = 0) ∧
    (win0_6.index (pt R) 0 = R.val / 256 ∧ win0_6.index (pt R) 1 = 0) := by
  have e := idx (pt R)
  have e1 : (if (pt R).val < 128 then (pt R).val / 32 else 4) = (modRow R).val := by
    unfold modRow pt
    dsimp only
    split_ifs <;> first | rfl | omega | (dsimp only; omega)
  rw [e1] at e
  exact e

variable (R : Fin 33792)

theorem blk_a (k : Fin 512) : iblk m c 0 (pt R) (ix2 (⟨R.val % 256, by omega⟩ : Fin 256) k) = A m c (ix2 R k) := by
  blk_ext [iblk, V, pt_idx R]

theorem blk_b (k : Fin 512) : iblk m c 1 (pt R) (ix2 (⟨R.val % 256, by omega⟩ : Fin 256) k) = B m c (ix2 R k) := by
  blk_ext [iblk, V, pt_idx R]

theorem blk_lo (k : Fin 512) (n : Fin 1024) : iblk m c 2 (pt R) (ix2 k n) = W m c (ix2 (⟨k.val, by omega⟩ : Fin 1024) n) := by
  rw [← entry_lo m c k n]
  blk_ext [iblk, pt_idx R]

theorem blk_hi (k : Fin 512) (n : Fin 1024) : iblk m c 3 (pt R) (ix2 k n) = W m c (ix2 (⟨512 + k.val, by omega⟩ : Fin 1024) n) := by
  rw [← entry_hi m c k n]
  blk_ext [iblk, pt_idx R]

theorem blk_h (n : Fin 1024) : iblk m c 4 (pt R) (ix2 (⟨R.val % 256, by omega⟩ : Fin 256) n) = H m c (ix2 R n) := by
  blk_ext [iblk, V, pt_idx R]

theorem blk_gate (n : Fin 1024) : iblk m c 5 (pt R) (ix3 (0 : Fin 1) (0 : Fin 1) n) = GT m c (ix3 (modRow R) (0 : Fin 1) n) := by
  blk_ext [iblk, V, pt_idx R]

/-- Every entry of the result. -/
theorem result (n : Fin 1024) : (dats m 0 c).arrAt 6 cfg0.N (ix2 R n)
    = outRes (fun k => A m c (ix2 R k)) (fun k => B m c (ix2 R k)) (fun (k : Fin 512) n => W m c (ix2 (⟨k.val, by omega⟩ : Fin 1024) n)) (fun (k : Fin 512) n => W m c (ix2 (⟨512 + k.val, by omega⟩ : Fin 1024) n)) (fun n => H m c (ix2 R n))
        (fun n => GT m c (ix3 (modRow R) (0 : Fin 1) n)) n := by
  have hb := congrFun (Value.blocks6 m c (pt R) (flush0_6 _)) (ix2 (⟨R.val % 256, by omega⟩ : Fin 256) n)
  rw [Value.flushed6] at hb
  have hx : ((cfg0.win 6).blk (pt R)).view.emb (ix2 (⟨R.val % 256, by omega⟩ : Fin 256) n) = ix2 R n := by
    blk_ext [pt_idx R]
  rw [← hx]
  refine Eq.trans hb ?_
  refine Eq.trans ?_ ((block (iblk m c 0 (pt R)) (iblk m c 1 (pt R)) (iblk m c 2 (pt R)) (iblk m c 3 (pt R)) (iblk m c 4 (pt R)) (iblk m c 5 (pt R)) ⟨R.val % 256, by omega⟩ n).trans ?_)
  · frame_out
    rfl
  · unfold outRes
    simp only [blk_a, blk_b, blk_lo, blk_hi, blk_h, blk_gate]

end

end Cert.Kernel4Ideal.Projection

end
-- ==== Proof.OutResReference.lean ====
/- What the plain reference of an odd layer's `out_proj_residual` computes at an entry of its result: the residual plus the gated projection of the
   entry's token. -/
module

public import proofs.«01_k».proof.Proof.Gen.Reference4Ideal.Read
public import proofs.«01_k».proof.Proof.ProjPlain
public import Idealize.ShloMosaic.Lib.Pointwise

@[expose] public section

set_option maxRecDepth 16384

noncomputable section

namespace Cert.Reference4Ideal.Projection

open Cert.Reference4Ideal Cert.Reference4Ideal.Gen Cert.Reference4Ideal.Read Cert.Projection Idealize.SL.Sem Idealize.ShloMosaic.TcCoe
open Idealize.ShloMosaic hiding ix1 ix2 ix3
open Idealize.ShloMosaic.ValueIdx (ix1 ix2 ix3)

variable (x0 x1 : S33792x512.Idx → EReal) (x2 : S1024x1024.Idx → EReal) (x3 : S33792x1024.Idx → EReal) (x4 : S8x1x1024.Idx → EReal)

/-- The product with the weights, as the sum over the first half's columns plus the sum over the second's. -/
theorem product (R : Fin 33792) (n : Fin 1024) : val_main_v5 (F := Ideal) x0 x1 x2 (ix2 R n)
    = ∑ k : Fin 512, x0 (ix2 R k) * x2 (ix2 (⟨k.val, by omega⟩ : Fin 1024) n) + ∑ k : Fin 512, x1 (ix2 R k) * x2 (ix2 (⟨512 + k.val, by omega⟩ : Fin 1024) n) := by
  rw [val_main_v5_apply]
  have hr : ∀ k : Fin 1024, ridx_main_v5 (ix2 R n) k = ix2 k n := fun k => by funext a; fin_cases a <;> rfl
  have hl : ∀ k : Fin 1024, lidx_main_v5 (ix2 R n) k = ix2 R k := fun k => by funext a; fin_cases a <;> rfl
  simp only [hr, hl]
  refine Eq.trans (Fin.sum_univ_add (a := 512) (b := 512) _) ?_
  refine congrArg₂ (· + ·) (Finset.sum_congr rfl fun k _ => congrArg₂ (· * ·) ?_ ?_) (Finset.sum_congr rfl fun k _ => congrArg₂ (· * ·) ?_ ?_)
  · exact concatenate_pair_apply_left (t := S33792x1024) (s₁ := S33792x512) (s₂ := S33792x512) 1 _ _ _ _ rfl (ix2 R k) (by intro a; fin_cases a <;> rfl)
  · rfl
  · refine concatenate_pair_apply_right (t := S33792x1024) (s₁ := S33792x512) (s₂ := S33792x512) 1 _ _ _ _ rfl rfl (ix2 R k) ?_ ?_
    · intro a ha
      match a with
      | ⟨0, _⟩ => rfl
      | ⟨1, _⟩ => exact absurd rfl ha
    · show k.val + 512 = 512 + k.val
      omega
  · rfl

/-- The latents' rows of an array over all the tokens. -/
theorem row_lat (b : Fin 4) (q : Fin 8192) (R : Fin 33792) (hR : R.val = b.val * 8192 + q.val) (n : Fin 1024) :
    idx_main_v0 (idx_main_v1 (ix3 b q n)) = ix2 R n := by
  funext a
  match a with
  | ⟨0, _⟩ => refine Fin.ext ?_; show ((b.val * 8192 + q.val) * 1024 + n.val) / 1024 = R.val; omega
  | ⟨1, _⟩ => refine Fin.ext ?_; show ((b.val * 8192 + q.val) * 1024 + n.val) % 1024 = n.val; omega

/-- The latents' rows of the gated residual. -/
theorem gated_lat (b : Fin 4) (q : Fin 8192) (R : Fin 33792) (hR : R.val = b.val * 8192 + q.val) (r : Fin 8) (hm : r.val = b.val) (n : Fin 1024) :
    val_main_v13 (F := Ideal) x0 x1 x2 x3 x4 (ix3 b q n)
      = outRes (fun k => x0 (ix2 R k)) (fun k => x1 (ix2 R k)) (fun (k : Fin 512) n => x2 (ix2 (⟨k.val, by omega⟩ : Fin 1024) n)) (fun (k : Fin 512) n => x2 (ix2 (⟨512 + k.val, by omega⟩ : Fin 1024) n)) (fun n => x3 (ix2 R n)) (fun n => x4 (ix3 r (0 : Fin 1) n)) n := by
  have hg : x4 (idx_main_v10 (idx_main_v11 (ix3 b q n))) = x4 (ix3 r (0 : Fin 1) n) := congrArg x4 (by
    funext a
    match a with
    | ⟨0, _⟩ => exact Fin.ext hm.symm
    | ⟨1, _⟩ => rfl
    | ⟨2, _⟩ => refine Fin.ext ?_; rfl)
  have hy : idx_main_v6 (idx_main_v7 (ix3 b q n)) = ix2 R n := row_lat b q R hR n
  rw [val_main_v13_apply, val_main_v1_apply, val_main_v0_apply, row_lat b q R hR, val_main_v12_apply, val_main_v11_apply, val_main_v10_apply,
    hg, val_main_v7_apply, val_main_v6_apply, hy, product]
  rfl

/-- The context's rows of an array over all the tokens. -/
theorem row_ctx (b : Fin 4) (q : Fin 256) (R : Fin 33792) (hR : R.val = 32768 + b.val * 256 + q.val) (n : Fin 1024) :
    idx_main_v2 (idx_main_v3 (ix3 b q n)) = ix2 R n := by
  funext a
  match a with
  | ⟨0, _⟩ => refine Fin.ext ?_; show 32768 + ((b.val * 256 + q.val) * 1024 + n.val) / 1024 = R.val; omega
  | ⟨1, _⟩ => refine Fin.ext ?_; show ((b.val * 256 + q.val) * 1024 + n.val) % 1024 = n.val; omega

/-- The context's rows of the gated residual. -/
theorem gated_ctx (b : Fin 4) (q : Fin 256) (R : Fin 33792) (hR : R.val = 32768 + b.val * 256 + q.val) (r : Fin 8) (hm : r.val = 4) (n : Fin 1024) :
    val_main_v19 (F := Ideal) x0 x1 x2 x3 x4 (ix3 b q n)
      = outRes (fun k => x0 (ix2 R k)) (fun k => x1 (ix2 R k)) (fun (k : Fin 512) n => x2 (ix2 (⟨k.val, by omega⟩ : Fin 1024) n)) (fun (k : Fin 512) n => x2 (ix2 (⟨512 + k.val, by omega⟩ : Fin 1024) n)) (fun n => x3 (ix2 R n)) (fun n => x4 (ix3 r (0 : Fin 1) n)) n := by
  have hg : x4 (idx_main_v14 (idx_main_v15 (idx_main_v16 (idx_main_v17 (ix3 b q n))))) = x4 (ix3 r (0 : Fin 1) n) := congrArg x4 (by
    funext a
    match a with
    | ⟨0, _⟩ => exact Fin.ext hm.symm
    | ⟨1, _⟩ => rfl
    | ⟨2, _⟩ => refine Fin.ext ?_; exact Nat.mod_eq_of_lt n.isLt)
  have hy : idx_main_v8 (idx_main_v9 (ix3 b q n)) = ix2 R n := row_ctx b q R hR n
  rw [val_main_v19_apply, val_main_v3_apply, val_main_v2_apply, row_ctx b q R hR, val_main_v18_apply, val_main_v17_apply, val_main_v16_apply, val_main_v15_apply, val_main_v14_apply,
    hg, val_main_v9_apply, val_main_v8_apply, hy, product]
  rfl

/-- Every entry of the result. -/
theorem result (R : Fin 33792) (n : Fin 1024) : val_main_v22 (F := Ideal) x0 x1 x2 x3 x4 (ix2 R n)
    = outRes (fun k => x0 (ix2 R k)) (fun k => x1 (ix2 R k)) (fun (k : Fin 512) n => x2 (ix2 (⟨k.val, by omega⟩ : Fin 1024) n)) (fun (k : Fin 512) n => x2 (ix2 (⟨512 + k.val, by omega⟩ : Fin 1024) n)) (fun n => x3 (ix2 R n))
        (fun n => x4 (ix3 (modRow R) (0 : Fin 1) n)) n := by
  unfold val_main_v22
  by_cases h : R.val < 32768
  · refine Eq.trans (concatenate_pair_apply_left (t := S33792x1024) (s₁ := S32768x1024) (s₂ := S1024x1024) 0 _ _ _ (ix2 R n) rfl
      (ix2 (⟨R.val, h⟩ : Fin 32768) n) (by intro a; fin_cases a <;> rfl)) ?_
    rw [val_main_v20_apply]
    have e : idx_main_v20 (ix2 (⟨R.val, h⟩ : Fin 32768) n) = ix3 (⟨R.val / 8192, by omega⟩ : Fin 4) (⟨R.val % 8192, by omega⟩ : Fin 8192) n := by
      funext a
      match a with
      | ⟨0, _⟩ => refine Fin.ext ?_; show (R.val * 1024 + n.val) / 8388608 = R.val / 8192; omega
      | ⟨1, _⟩ => refine Fin.ext ?_; show (R.val * 1024 + n.val) / 1024 % 8192 = R.val % 8192; omega
      | ⟨2, _⟩ => refine Fin.ext ?_; show (R.val * 1024 + n.val) % 1024 = n.val; omega
    rw [e]
    exact gated_lat x0 x1 x2 x3 x4 _ _ R (by dsimp only; omega) (modRow R) (by unfold modRow; rw [dif_pos h]) n
  · refine Eq.trans (concatenate_pair_apply_right (t := S33792x1024) (s₁ := S32768x1024) (s₂ := S1024x1024) 0 _ _ _ (ix2 R n) rfl rfl
      (ix2 (⟨R.val - 32768, by omega⟩ : Fin 1024) n)
      (by
        intro a ha
        match a with
        | ⟨0, _⟩ => exact absurd rfl ha
        | ⟨1, _⟩ => rfl)
      (by show R.val - 32768 + 32768 = R.val; omega)) ?_
    rw [val_main_v21_apply]
    have e : idx_main_v21 (ix2 (⟨R.val - 32768, by omega⟩ : Fin 1024) n) = ix3 (⟨(R.val - 32768) / 256, by omega⟩ : Fin 4) (⟨(R.val - 32768) % 256, by omega⟩ : Fin 256) n := by
      funext a
      match a with
      | ⟨0, _⟩ => refine Fin.ext ?_; show ((R.val - 32768) * 1024 + n.val) / 262144 = (R.val - 32768) / 256; omega
      | ⟨1, _⟩ => refine Fin.ext ?_; show ((R.val - 32768) * 1024 + n.val) / 1024 % 256 = (R.val - 32768) % 256; omega
      | ⟨2, _⟩ => refine Fin.ext ?_; show ((R.val - 32768) * 1024 + n.val) % 1024 = n.val; omega
    rw [e]
    exact gated_ctx x0 x1 x2 x3 x4 _ _ R (by dsimp only; omega) (modRow R) (by unfold modRow; rw [dif_neg h]; rfl) n

end Cert.Reference4Ideal.Projection

end
-- ==== Proof.EvenNormIn.lean ====
/- What the kernel `norm_in_proj` of an even layer computes at an entry of its result: the projection of the entry's token. -/
module

public import proofs.«01_k».proof.Proof.Gen.Kernel5Ideal.Value
public import proofs.«01_k».proof.Proof.ProjPlain
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Projection

open Cert.Kernel5Ideal Cert.Kernel5Ideal.Gen Cert.Projection Idealize.ShloMosaic Idealize.ShloMosaic.TcCoe Idealize.SL.Sem
open Idealize.ShloMosaic.Pipeline (Dat)

/-- The body's block at an entry. -/
theorem block (x0 : S256x1024.Idx → EReal) (x1 : S1x1024.Idx → EReal) (x2 x3 : S1x1x1024.Idx → EReal) (x4 : S1024x1024.Idx → EReal) (r : Fin 256) (n : Fin 1024) :
    k0_pay1 (F := Ideal) x0 x1 x3 x2 x4 (ix2 r n)
      = normIn (fun k => x0 (ix2 r k)) (fun k => x1 (ix2 (0 : Fin 1) k)) (fun k => x3 (ix3 (0 : Fin 1) (0 : Fin 1) k))
          (fun k => x2 (ix3 (0 : Fin 1) (0 : Fin 1) k)) (fun k n => x4 (ix2 k n)) n := by
  unfold normIn modulated
  pointwise [k0_pay1]

section
variable (m : (ℓ : Loc nD τ sig) → Buf (Elt Ideal) ℓ) (c : Dev nD)

abbrev H : S33792x1024.Idx → EReal := m ((c : Thread nD τ).loc main_arg0)
abbrev G : S1024.Idx → EReal := m ((c : Thread nD τ).loc main_arg1)
abbrev SH : S8x1x1024.Idx → EReal := m ((c : Thread nD τ).loc main_arg2)
abbrev SC : S8x1x1024.Idx → EReal := m ((c : Thread nD τ).loc main_arg3)
abbrev W : S1024x1024.Idx → EReal := m ((c : Thread nD τ).loc main_arg4)

/-- The gain as one row. -/
theorem entry_g (k : Fin 1024) : V m c main_v1 (ix2 (0 : Fin 1) k) = G m c (ix1 k) := by
  entry_read
  pointwise
  try rfl

/-- The index maps: point `t` is tile `t` of the rows, with its batch's shift and scale, or row 4's in the context. -/
theorem idx : ∀ t : Fin cfg0.N,
    (win0_0.index t 0 = t.val ∧ win0_0.index t 1 = 0) ∧
    (win0_1.index t 0 = 0 ∧ win0_1.index t 1 = 0) ∧
    (win0_2.index t 0 = (if t.val < 128 then t.val / 32 else 4) ∧ win0_2.index t 1 = 0 ∧ win0_2.index t 2 = 0) ∧
    (win0_3.index t 0 = (if t.val < 128 then t.val / 32 else 4) ∧ win0_3.index t 1 = 0 ∧ win0_3.index t 2 = 0) ∧
    (win0_4.index t 0 = 0 ∧ win0_4.index t 1 = 0) ∧
    (win0_5.index t 0 = t.val ∧ win0_5.index t 1 = 0) :=
  (by decide +kernel : ∀ t : Fin grid0.N,
    (win0_0.index t 0 = t.val ∧ win0_0.index t 1 = 0) ∧
    (win0_1.index t 0 = 0 ∧ win0_1.index t 1 = 0) ∧
    (win0_2.index t 0 = (if t.val < 128 then t.val / 32 else 4) ∧ win0_2.index t 1 = 0 ∧ win0_2.index t 2 = 0) ∧
    (win0_3.index t 0 = (if t.val < 128 then t.val / 32 else 4) ∧ win0_3.index t 1 = 0 ∧ win0_3.index t 2 = 0) ∧
    (win0_4.index t 0 = 0 ∧ win0_4.index t 1 = 0) ∧
    (win0_5.index t 0 = t.val ∧ win0_5.index t 1 = 0))

/-- The tile of a row. -/
def pt (R : Fin 33792) : Fin cfg0.N := ⟨R.val / 256, by have : cfg0.N = 132 := N_0; omega⟩

/-- A row's index maps, with its row of the shifts and scales. -/
theorem pt_idx (R : Fin 33792) :
    (win0_0.index (pt R) 0 = R.val / 256 ∧ win0_0.index (pt R) 1 = 0) ∧
    (win0_1.index (pt R) 0 = 0 ∧ win0_1.index (pt R) 1 = 0) ∧
    (win0_2.index (pt R) 0 = (modRow R).val ∧ win0_2.index (pt R) 1 = 0 ∧ win0_2.index (pt R) 2 = 0) ∧
    (win0_3.index (pt R) 0 = (modRow R).val ∧ win0_3.index (pt R) 1 = 0 ∧ win0_3.index (pt R) 2 = 0) ∧
    (win0_4.index (pt R) 0 = 0 ∧ win0_4.index (pt R) 1 = 0) ∧
    (win0_5.index (pt R) 0 = R.val / 256 ∧ win0_5.index (pt R) 1 = 0) := by
  have e := idx (pt R)
  have e1 : (if (pt R).val < 128 then (pt R).val / 32 else 4) = (modRow R).val := by
    unfold modRow pt
    dsimp only
    split_ifs <;> first | rfl | omega | (dsimp only; omega)
  rw [e1] at e
  exact e

variable (R : Fin 33792)

theorem blk_h (k : Fin 1024) : iblk m c 0 (pt R) (ix2 (⟨R.val % 256, by omega⟩ : Fin 256) k) = H m c (ix2 R k) := by
  blk_ext [iblk, V, pt_idx R]

theorem blk_g (k : Fin 1024) : iblk m c 1 (pt R) (ix2 (0 : Fin 1) k) = G m c (ix1 k) := by
  rw [← entry_g m c k]
  blk_ext [iblk, pt_idx R]

theorem blk_sh (k : Fin 1024) : iblk m c 2 (pt R) (ix3 (0 : Fin 1) (0 : Fin 1) k) = SH m c (ix3 (modRow R) (0 : Fin 1) k) := by
  blk_ext [iblk, V, pt_idx R]

theorem blk_sc (k : Fin 1024) : iblk m c 3 (pt R) (ix3 (0 : Fin 1) (0 : Fin 1) k) = SC m c (ix3 (modRow R) (0 : Fin 1) k) := by
  blk_ext [iblk, V, pt_idx R]

theorem blk_w (k : Fin 1024) (n : Fin 1024) : iblk m c 4 (pt R) (ix2 k n) = W m c (ix2 k n) := by
  blk_ext [iblk, V, pt_idx R]

/-- Every entry of the result. -/
theorem result (n : Fin 1024) : (dats m 0 c).arrAt 5 cfg0.N (ix2 R n)
    = normIn (fun k => H m c (ix2 R k)) (fun k => G m c (ix1 k)) (fun k => SC m c (ix3 (modRow R) (0 : Fin 1) k))
        (fun k => SH m c (ix3 (modRow R) (0 : Fin 1) k)) (fun k n => W m c (ix2 k n)) n := by
  have hb := congrFun (Value.blocks5 m c (pt R) (flush0_5 _)) (ix2 (⟨R.val % 256, by omega⟩ : Fin 256) n)
  rw [Value.flushed5] at hb
  have hx : ((cfg0.win 5).blk (pt R)).view.emb (ix2 (⟨R.val % 256, by omega⟩ : Fin 256) n) = ix2 R n := by
    blk_ext [pt_idx R]
  rw [← hx]
  refine Eq.trans hb ?_
  refine Eq.trans ?_ ((block (iblk m c 0 (pt R)) (iblk m c 1 (pt R)) (iblk m c 2 (pt R)) (iblk m c 3 (pt R)) (iblk m c 4 (pt R)) ⟨R.val % 256, by omega⟩ n).trans ?_)
  · frame_out
    rfl
  · simp only [blk_h, blk_g, blk_sh, blk_sc, blk_w]

end

end Cert.Kernel5Ideal.Projection

end
-- ==== Proof.EvenNormInReference.lean ====
/- What the plain reference of an even layer's `norm_in_proj` computes at an entry of its result: the projection of the entry's token. -/
module

public import proofs.«01_k».proof.Proof.Gen.Reference5Ideal.Read
public import proofs.«01_k».proof.Proof.NormInReference
public import Idealize.ShloMosaic.Lib.Pointwise

@[expose] public section

set_option maxRecDepth 16384

noncomputable section

namespace Cert.Reference5Ideal.Projection

open Cert.Reference5Ideal Cert.Reference5Ideal.Gen Cert.Reference5Ideal.Read Cert.Projection Idealize.SL.Sem Idealize.ShloMosaic.TcCoe
open Idealize.ShloMosaic hiding ix1 ix2 ix3
open Idealize.ShloMosaic.ValueIdx (ix1 ix2 ix3)

variable (x0 : S33792x1024.Idx → EReal) (x1 : S1024.Idx → EReal) (x2 x3 : S8x1x1024.Idx → EReal) (x4 : S1024x1024.Idx → EReal)

/-- The rows before the product are an odd layer's. -/
theorem stage_lat : val_main_v24 (F := Ideal) x0 x1 x2 x3 = Reference3Ideal.Read.val_main_v24 (F := Ideal) x0 x1 x2 x3 := rfl

theorem stage_ctx : val_main_v49 (F := Ideal) x0 x1 x2 x3 = Reference3Ideal.Read.val_main_v49 (F := Ideal) x0 x1 x2 x3 := rfl

/-- The latents' rows of the product. -/
theorem product_lat (b : Fin 4) (q : Fin 8192) (R : Fin 33792) (hR : R.val = b.val * 8192 + q.val) (r : Fin 8) (hm : r.val = b.val) (n : Fin 1024) :
    val_main_v50 (F := Ideal) x0 x1 x2 x3 x4 (ix3 b q n)
      = normIn (fun k => x0 (ix2 R k)) (fun k => x1 (ix1 k)) (fun k => x3 (ix3 r (0 : Fin 1) k)) (fun k => x2 (ix3 r (0 : Fin 1) k)) (fun k n => x4 (ix2 k n)) n := by
  rw [val_main_v50_apply]
  unfold normIn
  refine Finset.sum_congr rfl fun k _ => ?_
  have el : lidx_main_v50 (ix3 b q n) k = ix3 b q k := by funext a; fin_cases a <;> rfl
  have er : ridx_main_v50 (ix3 b q n) k = ix2 k n := by funext a; fin_cases a <;> rfl
  rw [el, er, stage_lat, Reference3Ideal.Projection.normed_lat x0 x1 x2 x3 b q R hR r hm]

/-- The context's rows of the product. -/
theorem product_ctx (b : Fin 4) (q : Fin 256) (R : Fin 33792) (hR : R.val = 32768 + b.val * 256 + q.val) (r : Fin 8) (hm : r.val = 4) (n : Fin 1024) :
    val_main_v51 (F := Ideal) x0 x1 x2 x3 x4 (ix3 b q n)
      = normIn (fun k => x0 (ix2 R k)) (fun k => x1 (ix1 k)) (fun k => x3 (ix3 r (0 : Fin 1) k)) (fun k => x2 (ix3 r (0 : Fin 1) k)) (fun k n => x4 (ix2 k n)) n := by
  rw [val_main_v51_apply]
  unfold normIn
  refine Finset.sum_congr rfl fun k _ => ?_
  have el : lidx_main_v51 (ix3 b q n) k = ix3 b q k := by funext a; fin_cases a <;> rfl
  have er : ridx_main_v51 (ix3 b q n) k = ix2 k n := by funext a; fin_cases a <;> rfl
  rw [el, er, stage_ctx, Reference3Ideal.Projection.normed_ctx x0 x1 x2 x3 b q R hR r hm]

/-- Every entry of the result. -/
theorem result (R : Fin 33792) (n : Fin 1024) : val_main_v54 (F := Ideal) x0 x1 x2 x3 x4 (ix2 R n)
    = normIn (fun k => x0 (ix2 R k)) (fun k => x1 (ix1 k)) (fun k => x3 (ix3 (modRow R) (0 : Fin 1) k)) (fun k => x2 (ix3 (modRow R) (0 : Fin 1) k))
        (fun k n => x4 (ix2 k n)) n := by
  unfold val_main_v54
  by_cases h : R.val < 32768
  · refine Eq.trans (concatenate_pair_apply_left (t := S33792x1024) (s₁ := S32768x1024) (s₂ := S1024x1024) 0 _ _ _ (ix2 R n) rfl
      (ix2 (⟨R.val, h⟩ : Fin 32768) n) (by intro a; fin_cases a <;> rfl)) ?_
    rw [val_main_v52_apply]
    have e : idx_main_v52 (ix2 (⟨R.val, h⟩ : Fin 32768) n) = ix3 (⟨R.val / 8192, by omega⟩ : Fin 4) (⟨R.val % 8192, by omega⟩ : Fin 8192) n := by
      funext a
      match a with
      | ⟨0, _⟩ => refine Fin.ext ?_; show (R.val * 1024 + n.val) / 8388608 = R.val / 8192; omega
      | ⟨1, _⟩ => refine Fin.ext ?_; show (R.val * 1024 + n.val) / 1024 % 8192 = R.val % 8192; omega
      | ⟨2, _⟩ => refine Fin.ext ?_; show (R.val * 1024 + n.val) % 1024 = n.val; omega
    rw [e]
    exact product_lat x0 x1 x2 x3 x4 _ _ R (by dsimp only; omega) (modRow R) (by unfold modRow; rw [dif_pos h]) n
  · refine Eq.trans (concatenate_pair_apply_right (t := S33792x1024) (s₁ := S32768x1024) (s₂ := S1024x1024) 0 _ _ _ (ix2 R n) rfl rfl
      (ix2 (⟨R.val - 32768, by omega⟩ : Fin 1024) n)
      (by
        intro a ha
        match a with
        | ⟨0, _⟩ => exact absurd rfl ha
        | ⟨1, _⟩ => rfl)
      (by show R.val - 32768 + 32768 = R.val; omega)) ?_
    rw [val_main_v53_apply]
    have e : idx_main_v53 (ix2 (⟨R.val - 32768, by omega⟩ : Fin 1024) n) = ix3 (⟨(R.val - 32768) / 256, by omega⟩ : Fin 4) (⟨(R.val - 32768) % 256, by omega⟩ : Fin 256) n := by
      funext a
      match a with
      | ⟨0, _⟩ => refine Fin.ext ?_; show ((R.val - 32768) * 1024 + n.val) / 262144 = (R.val - 32768) / 256; omega
      | ⟨1, _⟩ => refine Fin.ext ?_; show ((R.val - 32768) * 1024 + n.val) / 1024 % 256 = (R.val - 32768) % 256; omega
      | ⟨2, _⟩ => refine Fin.ext ?_; show ((R.val - 32768) * 1024 + n.val) % 1024 = n.val; omega
    rw [e]
    exact product_ctx x0 x1 x2 x3 x4 _ _ R (by dsimp only; omega) (modRow R) (by unfold modRow; rw [dif_neg h]; rfl) n

end Cert.Reference5Ideal.Projection

end
-- ==== Proof.EvenOutRes.lean ====
/- What the kernel `out_proj_residual` of an even layer computes at an entry of its result: the residual plus the gated projection of the entry's token. -/
module

public import proofs.«01_k».proof.Proof.Gen.Kernel6Ideal.Value
public import proofs.«01_k».proof.Proof.ProjPlain
public import Idealize.ShloMosaic.Lib.Pipeline.ValueKit
public import Idealize.ShloMosaic.Lib.Pointwise
public import Idealize.ShloMosaic.Lib.Claim

@[expose] public section

set_option maxRecDepth 16384

noncomputable section

namespace Cert.Kernel6Ideal.Projection

open Cert.Kernel6Ideal Cert.Kernel6Ideal.Gen Cert.Projection Idealize.ShloMosaic Idealize.ShloMosaic.TcCoe Idealize.SL.Sem
open Idealize.ShloMosaic.Pipeline (Dat)

/-- The body's block at an entry. -/
theorem block (x0 : S256x256.Idx → EReal) (x1 : S256x768.Idx → EReal) (x2 : S256x1024.Idx → EReal) (x3 : S768x1024.Idx → EReal) (x4 : S256x1024.Idx → EReal) (x5 : S1x1x1024.Idx → EReal) (r : Fin 256) (n : Fin 1024) :
    k0_pay1 (F := Ideal) x0 x2 x1 x3 x4 x5 (ix2 r n)
      = x4 (ix2 r n) + x5 (ix3 (0 : Fin 1) (0 : Fin 1) n)
          * (∑ k : Fin 256, x0 (ix2 r k) * x2 (ix2 k n) + ∑ k : Fin 768, x1 (ix2 r k) * x3 (ix2 k n)) := by
  pointwise [k0_pay1]

section
variable (m : (ℓ : Loc nD τ sig) → Buf (Elt Ideal) ℓ) (c : Dev nD)

abbrev A : S33792x256.Idx → EReal := m ((c : Thread nD τ).loc main_arg0)
abbrev B : S33792x768.Idx → EReal := m ((c : Thread nD τ).loc main_arg1)
abbrev W : S1024x1024.Idx → EReal := m ((c : Thread nD τ).loc main_arg2)
abbrev H : S33792x1024.Idx → EReal := m ((c : Thread nD τ).loc main_arg3)
abbrev GT : S8x1x1024.Idx → EReal := m ((c : Thread nD τ).loc main_arg4)

/-- The weights' first 256 rows. -/
theorem entry_lo (k : Fin 256) (n : Fin 1024) : V m c main_v1 (ix2 k n) = W m c (ix2 (⟨k.val, by omega⟩ : Fin 1024) n) := by
  entry_read
  pointwise
  try rfl

/-- The weights' last 768 rows. -/
theorem entry_hi (k : Fin 768) (n : Fin 1024) : V m c main_v2 (ix2 k n) = W m c (ix2 (⟨256 + k.val, by omega⟩ : Fin 1024) n) := by
  entry_read
  pointwise
  try rfl

/-- The index maps: point `t` is tile `t` of the rows, with its batch's gate, or row 4's in the context. -/
theorem idx : ∀ t : Fin cfg0.N,
    (win0_0.index t 0 = t.val ∧ win0_0.index t 1 = 0) ∧
    (win0_1.index t 0 = t.val ∧ win0_1.index t 1 = 0) ∧
    (win0_2.index t 0 = 0 ∧ win0_2.index t 1 = 0) ∧
    (win0_3.index t 0 = 0 ∧ win0_3.index t 1 = 0) ∧
    (win0_4.index t 0 = t.val ∧ win0_4.index t 1 = 0) ∧
    (win0_5.index t 0 = (if t.val < 128 then t.val / 32 else 4) ∧ win0_5.index t 1 = 0 ∧ win0_5.index t 2 = 0) ∧
    (win0_6.index t 0 = t.val ∧ win0_6.index t 1 = 0) :=
  (by decide +kernel : ∀ t : Fin grid0.N,
    (win0_0.index t 0 = t.val ∧ win0_0.index t 1 = 0) ∧
    (win0_1.index t 0 = t.val ∧ win0_1.index t 1 = 0) ∧
    (win0_2.index t 0 = 0 ∧ win0_2.index t 1 = 0) ∧
    (win0_3.index t 0 = 0 ∧ win0_3.index t 1 = 0) ∧
    (win0_4.index t 0 = t.val ∧ win0_4.index t 1 = 0) ∧
    (win0_5.index t 0 = (if t.val < 128 then t.val / 32 else 4) ∧ win0_5.index t 1 = 0 ∧ win0_5.index t 2 = 0) ∧
    (win0_6.index t 0 = t.val ∧ win0_6.index t 1 = 0))

/-- The tile of a row. -/
def pt (R : Fin 33792) : Fin cfg0.N := ⟨R.val / 256, by have : cfg0.N = 132 := N_0; omega⟩

/-- A row's index maps, with its row of the gates. -/
theorem pt_idx (R : Fin 33792) :
    (win0_0.index (pt R) 0 = R.val / 256 ∧ win0_0.index (pt R) 1 = 0) ∧
    (win0_1.index (pt R) 0 = R.val / 256 ∧ win0_1.index (pt R) 1 = 0) ∧
    (win0_2.index (pt R) 0 = 0 ∧ win0_2.index (pt R) 1 = 0) ∧
    (win0_3.index (pt R) 0 = 0 ∧ win0_3.index (pt R) 1 = 0) ∧
    (win0_4.index (pt R) 0 = R.val / 256 ∧ win0_4.index (pt R) 1 = 0) ∧
    (win0_5.index (pt R) 0 = (modRow R).val ∧ win0_5.index (pt R) 1 = 0 ∧ win0_5.index (pt R) 2 = 0) ∧
    (win0_6.index (pt R) 0 = R.val / 256 ∧ win0_6.index (pt R) 1 = 0) := by
  have e := idx (pt R)
  have e1 : (if (pt R).val < 128 then (pt R).val / 32 else 4) = (modRow R).val := by
    unfold modRow pt
    dsimp only
    split_ifs <;> first | rfl | omega | (dsimp only; omega)
  rw [e1] at e
  exact e

variable (R : Fin 33792)

theorem blk_a (k : Fin 256) : iblk m c 0 (pt R) (ix2 (⟨R.val % 256, by omega⟩ : Fin 256) k) = A m c (ix2 R k) := by
  blk_ext [iblk, V, pt_idx R]

theorem blk_b (k : Fin 768) : iblk m c 1 (pt R) (ix2 (⟨R.val % 256, by omega⟩ : Fin 256) k) = B m c (ix2 R k) := by
  blk_ext [iblk, V, pt_idx R]

theorem blk_lo (k : Fin 256) (n : Fin 1024) : iblk m c 2 (pt R) (ix2 k n) = W m c (ix2 (⟨k.val, by omega⟩ : Fin 1024) n) := by
  rw [← entry_lo m c k n]
  blk_ext [iblk, pt_idx R]

theorem blk_hi (k : Fin 768) (n : Fin 1024) : iblk m c 3 (pt R) (ix2 k n) = W m c (ix2 (⟨256 + k.val, by omega⟩ : Fin 1024) n) := by
  rw [← entry_hi m c k n]
  blk_ext [iblk, pt_idx R]

theorem blk_h (n : Fin 1024) : iblk m c 4 (pt R) (ix2 (⟨R.val % 256, by omega⟩ : Fin 256) n) = H m c (ix2 R n) := by
  blk_ext [iblk, V, pt_idx R]

theorem blk_gate (n : Fin 1024) : iblk m c 5 (pt R) (ix3 (0 : Fin 1) (0 : Fin 1) n) = GT m c (ix3 (modRow R) (0 : Fin 1) n) := by
  blk_ext [iblk, V, pt_idx R]

/-- Every entry of the result. -/
theorem result (n : Fin 1024) : (dats m 0 c).arrAt 6 cfg0.N (ix2 R n)
    = outRes (fun k => A m c (ix2 R k)) (fun k => B m c (ix2 R k)) (fun (k : Fin 256) n => W m c (ix2 (⟨k.val, by omega⟩ : Fin 1024) n)) (fun (k : Fin 768) n => W m c (ix2 (⟨256 + k.val, by omega⟩ : Fin 1024) n)) (fun n => H m c (ix2 R n))
        (fun n => GT m c (ix3 (modRow R) (0 : Fin 1) n)) n := by
  have hb := congrFun (Value.blocks6 m c (pt R) (flush0_6 _)) (ix2 (⟨R.val % 256, by omega⟩ : Fin 256) n)
  rw [Value.flushed6] at hb
  have hx : ((cfg0.win 6).blk (pt R)).view.emb (ix2 (⟨R.val % 256, by omega⟩ : Fin 256) n) = ix2 R n := by
    blk_ext [pt_idx R]
  rw [← hx]
  refine Eq.trans hb ?_
  refine Eq.trans ?_ ((block (iblk m c 0 (pt R)) (iblk m c 1 (pt R)) (iblk m c 2 (pt R)) (iblk m c 3 (pt R)) (iblk m c 4 (pt R)) (iblk m c 5 (pt R)) ⟨R.val % 256, by omega⟩ n).trans ?_)
  · frame_out
    rfl
  · unfold outRes
    simp only [blk_a, blk_b, blk_lo, blk_hi, blk_h, blk_gate]

end

end Cert.Kernel6Ideal.Projection

end
-- ==== Proof.EvenOutResReference.lean ====
/- What the plain reference of an even layer's `out_proj_residual` computes at an entry of its result: the residual plus the gated projection of the
   entry's token. -/
module

public import proofs.«01_k».proof.Proof.Gen.Reference6Ideal.Read
public import proofs.«01_k».proof.Proof.OutResReference
public import Idealize.ShloMosaic.Lib.Pointwise

@[expose] public section

set_option maxRecDepth 16384

noncomputable section

namespace Cert.Reference6Ideal.Projection

open Cert.Reference6Ideal Cert.Reference6Ideal.Gen Cert.Reference6Ideal.Read Cert.Projection Idealize.SL.Sem Idealize.ShloMosaic.TcCoe
open Idealize.ShloMosaic hiding ix1 ix2 ix3
open Idealize.ShloMosaic.ValueIdx (ix1 ix2 ix3)

variable (x0 : S33792x256.Idx → EReal) (x1 : S33792x768.Idx → EReal) (x2 : S1024x1024.Idx → EReal) (x3 : S33792x1024.Idx → EReal) (x4 : S8x1x1024.Idx → EReal)

/-- The product with the weights, as the sum over the first half's columns plus the sum over the second's. -/
theorem product (R : Fin 33792) (n : Fin 1024) : val_main_v5 (F := Ideal) x0 x1 x2 (ix2 R n)
    = ∑ k : Fin 256, x0 (ix2 R k) * x2 (ix2 (⟨k.val, by omega⟩ : Fin 1024) n) + ∑ k : Fin 768, x1 (ix2 R k) * x2 (ix2 (⟨256 + k.val, by omega⟩ : Fin 1024) n) := by
  rw [val_main_v5_apply]
  have hr : ∀ k : Fin 1024, ridx_main_v5 (ix2 R n) k = ix2 k n := fun k => by funext a; fin_cases a <;> rfl
  have hl : ∀ k : Fin 1024, lidx_main_v5 (ix2 R n) k = ix2 R k := fun k => by funext a; fin_cases a <;> rfl
  simp only [hr, hl]
  refine Eq.trans (Fin.sum_univ_add (a := 256) (b := 768) _) ?_
  refine congrArg₂ (· + ·) (Finset.sum_congr rfl fun k _ => congrArg₂ (· * ·) ?_ ?_) (Finset.sum_congr rfl fun k _ => congrArg₂ (· * ·) ?_ ?_)
  · exact concatenate_pair_apply_left (t := S33792x1024) (s₁ := S33792x256) (s₂ := S33792x768) 1 _ _ _ _ rfl (ix2 R k) (by intro a; fin_cases a <;> rfl)
  · rfl
  · refine concatenate_pair_apply_right (t := S33792x1024) (s₁ := S33792x256) (s₂ := S33792x768) 1 _ _ _ _ rfl rfl (ix2 R k) ?_ ?_
    · intro a ha
      match a with
      | ⟨0, _⟩ => rfl
      | ⟨1, _⟩ => exact absurd rfl ha
    · show k.val + 256 = 256 + k.val
      omega
  · rfl

/-- The latents' rows of an array over all the tokens. -/
theorem row_lat (b : Fin 4) (q : Fin 8192) (R : Fin 33792) (hR : R.val = b.val * 8192 + q.val) (n : Fin 1024) :
    idx_main_v0 (idx_main_v1 (ix3 b q n)) = ix2 R n :=
  Reference4Ideal.Projection.row_lat b q R hR n

/-- The latents' rows of the gated residual. -/
theorem gated_lat (b : Fin 4) (q : Fin 8192) (R : Fin 33792) (hR : R.val = b.val * 8192 + q.val) (r : Fin 8) (hm : r.val = b.val) (n : Fin 1024) :
    val_main_v13 (F := Ideal) x0 x1 x2 x3 x4 (ix3 b q n)
      = outRes (fun k => x0 (ix2 R k)) (fun k => x1 (ix2 R k)) (fun (k : Fin 256) n => x2 (ix2 (⟨k.val, by omega⟩ : Fin 1024) n)) (fun (k : Fin 768) n => x2 (ix2 (⟨256 + k.val, by omega⟩ : Fin 1024) n)) (fun n => x3 (ix2 R n)) (fun n => x4 (ix3 r (0 : Fin 1) n)) n := by
  have hg : x4 (idx_main_v10 (idx_main_v11 (ix3 b q n))) = x4 (ix3 r (0 : Fin 1) n) := congrArg x4 (by
    funext a
    match a with
    | ⟨0, _⟩ => exact Fin.ext hm.symm
    | ⟨1, _⟩ => rfl
    | ⟨2, _⟩ => refine Fin.ext ?_; rfl)
  have hy : idx_main_v6 (idx_main_v7 (ix3 b q n)) = ix2 R n := row_lat b q R hR n
  rw [val_main_v13_apply, val_main_v1_apply, val_main_v0_apply, row_lat b q R hR, val_main_v12_apply, val_main_v11_apply, val_main_v10_apply,
    hg, val_main_v7_apply, val_main_v6_apply, hy, product]
  rfl

/-- The context's rows of an array over all the tokens. -/
theorem row_ctx (b : Fin 4) (q : Fin 256) (R : Fin 33792) (hR : R.val = 32768 + b.val * 256 + q.val) (n : Fin 1024) :
    idx_main_v2 (idx_main_v3 (ix3 b q n)) = ix2 R n :=
  Reference4Ideal.Projection.row_ctx b q R hR n

/-- The context's rows of the gated residual. -/
theorem gated_ctx (b : Fin 4) (q : Fin 256) (R : Fin 33792) (hR : R.val = 32768 + b.val * 256 + q.val) (r : Fin 8) (hm : r.val = 4) (n : Fin 1024) :
    val_main_v19 (F := Ideal) x0 x1 x2 x3 x4 (ix3 b q n)
      = outRes (fun k => x0 (ix2 R k)) (fun k => x1 (ix2 R k)) (fun (k : Fin 256) n => x2 (ix2 (⟨k.val, by omega⟩ : Fin 1024) n)) (fun (k : Fin 768) n => x2 (ix2 (⟨256 + k.val, by omega⟩ : Fin 1024) n)) (fun n => x3 (ix2 R n)) (fun n => x4 (ix3 r (0 : Fin 1) n)) n := by
  have hg : x4 (idx_main_v14 (idx_main_v15 (idx_main_v16 (idx_main_v17 (ix3 b q n))))) = x4 (ix3 r (0 : Fin 1) n) := congrArg x4 (by
    funext a
    match a with
    | ⟨0, _⟩ => exact Fin.ext hm.symm
    | ⟨1, _⟩ => rfl
    | ⟨2, _⟩ => refine Fin.ext ?_; exact Nat.mod_eq_of_lt n.isLt)
  have hy : idx_main_v8 (idx_main_v9 (ix3 b q n)) = ix2 R n := row_ctx b q R hR n
  rw [val_main_v19_apply, val_main_v3_apply, val_main_v2_apply, row_ctx b q R hR, val_main_v18_apply, val_main_v17_apply, val_main_v16_apply, val_main_v15_apply, val_main_v14_apply,
    hg, val_main_v9_apply, val_main_v8_apply, hy, product]
  rfl

/-- Every entry of the result. -/
theorem result (R : Fin 33792) (n : Fin 1024) : val_main_v22 (F := Ideal) x0 x1 x2 x3 x4 (ix2 R n)
    = outRes (fun k => x0 (ix2 R k)) (fun k => x1 (ix2 R k)) (fun (k : Fin 256) n => x2 (ix2 (⟨k.val, by omega⟩ : Fin 1024) n)) (fun (k : Fin 768) n => x2 (ix2 (⟨256 + k.val, by omega⟩ : Fin 1024) n)) (fun n => x3 (ix2 R n))
        (fun n => x4 (ix3 (modRow R) (0 : Fin 1) n)) n := by
  unfold val_main_v22
  by_cases h : R.val < 32768
  · refine Eq.trans (concatenate_pair_apply_left (t := S33792x1024) (s₁ := S32768x1024) (s₂ := S1024x1024) 0 _ _ _ (ix2 R n) rfl
      (ix2 (⟨R.val, h⟩ : Fin 32768) n) (by intro a; fin_cases a <;> rfl)) ?_
    rw [val_main_v20_apply]
    have e : idx_main_v20 (ix2 (⟨R.val, h⟩ : Fin 32768) n) = ix3 (⟨R.val / 8192, by omega⟩ : Fin 4) (⟨R.val % 8192, by omega⟩ : Fin 8192) n := by
      funext a
      match a with
      | ⟨0, _⟩ => refine Fin.ext ?_; show (R.val * 1024 + n.val) / 8388608 = R.val / 8192; omega
      | ⟨1, _⟩ => refine Fin.ext ?_; show (R.val * 1024 + n.val) / 1024 % 8192 = R.val % 8192; omega
      | ⟨2, _⟩ => refine Fin.ext ?_; show (R.val * 1024 + n.val) % 1024 = n.val; omega
    rw [e]
    exact gated_lat x0 x1 x2 x3 x4 _ _ R (by dsimp only; omega) (modRow R) (by unfold modRow; rw [dif_pos h]) n
  · refine Eq.trans (concatenate_pair_apply_right (t := S33792x1024) (s₁ := S32768x1024) (s₂ := S1024x1024) 0 _ _ _ (ix2 R n) rfl rfl
      (ix2 (⟨R.val - 32768, by omega⟩ : Fin 1024) n)
      (by
        intro a ha
        match a with
        | ⟨0, _⟩ => exact absurd rfl ha
        | ⟨1, _⟩ => rfl)
      (by show R.val - 32768 + 32768 = R.val; omega)) ?_
    rw [val_main_v21_apply]
    have e : idx_main_v21 (ix2 (⟨R.val - 32768, by omega⟩ : Fin 1024) n) = ix3 (⟨(R.val - 32768) / 256, by omega⟩ : Fin 4) (⟨(R.val - 32768) % 256, by omega⟩ : Fin 256) n := by
      funext a
      match a with
      | ⟨0, _⟩ => refine Fin.ext ?_; show ((R.val - 32768) * 1024 + n.val) / 262144 = (R.val - 32768) / 256; omega
      | ⟨1, _⟩ => refine Fin.ext ?_; show ((R.val - 32768) * 1024 + n.val) / 1024 % 256 = (R.val - 32768) % 256; omega
      | ⟨2, _⟩ => refine Fin.ext ?_; show ((R.val - 32768) * 1024 + n.val) % 1024 = n.val; omega
    rw [e]
    exact gated_ctx x0 x1 x2 x3 x4 _ _ R (by dsimp only; omega) (modRow R) (by unfold modRow; rw [dif_neg h]; rfl) n

end Cert.Reference6Ideal.Projection

end
-- ==== Proof.ProjClaims.lean ====
/- The claims of an odd and an even layer's projections: each kernel's result and its reference's are equal at every entry. -/
module

public import proofs.«01_k».proof.Defs
public import proofs.«01_k».proof.Proof.NormIn
public import proofs.«01_k».proof.Proof.NormInReference
public import proofs.«01_k».proof.Proof.OutRes
public import proofs.«01_k».proof.Proof.OutResReference
public import proofs.«01_k».proof.Proof.EvenNormIn
public import proofs.«01_k».proof.Proof.EvenNormInReference
public import proofs.«01_k».proof.Proof.EvenOutRes
public import proofs.«01_k».proof.Proof.EvenOutResReference
public import Idealize.ShloMosaic.Lib.Quiescent
public import Idealize.ShloMosaic.Lib.Affine

@[expose] public section

set_option maxRecDepth 16384

noncomputable section

namespace Cert.Projection

open Idealize.ShloMosaic Idealize.ShloMosaic.TcCoe Idealize.SL.Sem

/-- A pair of coordinates is its index. -/
theorem ix2_eta {a b : ℕ} (i : (⟨2, ![a, b]⟩ : Shape).Idx) : ValueIdx.ix2 (i 0) (i 1) = i := by
  funext x
  match x with
  | ⟨0, _⟩ => rfl
  | ⟨1, _⟩ => rfl

/-- `norm_in_proj` of an odd layer: both programs end with the same result. -/
theorem norm_in_algebraic : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => (Kernel3Ideal.Gen.dats m 0 c).arrAt 5 Kernel3Ideal.cfg0.N, Kernel3Ideal.Value.run_blocks m ρ, ?_⟩
  refine (θ_run Reference3Ideal.defs _ _).mono (fun _ h c => ⟨(h c).1.trans ?_, (h c).2⟩) (Reference3Ideal.Value.run m' ρ')
  obtain ⟨a0, a1, a2, a3, a4⟩ := hargs c
  funext i
  rw [Reference3Ideal.Read.val_main_v54_eq, a0, a1, a2, a3, a4, ← ix2_eta i]
  exact (Reference3Ideal.Projection.result _ _ _ _ _ _ _).trans (Kernel3Ideal.Projection.result m c _ _).symm

/-- The reference's program keeps its arguments and leaves no counter raised. -/
theorem norm_in_reference_frame : Cert.quiescent_Reference3Ideal (hReference3Ideal := Cert.Reference3Ideal.Gen.facts) := fun m ρ _ =>
  (θ_run Reference3Ideal.defs _ _).mono (fun r h => ⟨fun c => (h c).2, Idealize.ShloMosaic.sem_eq_zero_of_no_sems (by decide) r.2⟩) (Reference3Ideal.Value.run m ρ)

/-- `out_proj_residual` of an odd layer: both programs end with the same result. -/
theorem out_res_algebraic : Cert.algebraic_Kernel4Ideal_Reference4Ideal (hKernel4Ideal := Cert.Kernel4Ideal.Gen.facts)
    (hReference4Ideal := Cert.Reference4Ideal.Gen.facts) := by
  intro m ρ m' ρ' _ hargs
  refine ⟨fun c => (Kernel4Ideal.Gen.dats m 0 c).arrAt 6 Kernel4Ideal.cfg0.N, Kernel4Ideal.Value.run_blocks m ρ, ?_⟩
  refine (θ_run Reference4Ideal.defs _ _).mono (fun _ h c => ⟨(h c).1.trans ?_, (h c).2⟩) (Reference4Ideal.Value.run m' ρ')
  obtain ⟨a0, a1, a2, a3, a4⟩ := hargs c
  funext i
  rw [Reference4Ideal.Read.val_main_v22_eq, a0, a1, a2, a3, a4, ← ix2_eta i]
  exact (Reference4Ideal.Projection.result _ _ _ _ _ _ _).trans (Kernel4Ideal.Projection.result m c _ _).symm

/-- The reference's program keeps its arguments and leaves no counter raised. -/
theorem out_res_reference_frame : Cert.quiescent_Reference4Ideal (hReference4Ideal := Cert.Reference4Ideal.Gen.facts) := fun m ρ _ =>
  (θ_run Reference4Ideal.defs _ _).mono (fun r h => ⟨fun c => (h c).2, Idealize.ShloMosaic.sem_eq_zero_of_no_sems (by decide) r.2⟩) (Reference4Ideal.Value.run m ρ)

/-- `norm_in_proj` of an even layer: both programs end with the same result. -/
theorem even_norm_in_algebraic : Cert.algebraic_Kernel5Ideal_Reference5Ideal (hKernel5Ideal := Cert.Kernel5Ideal.Gen.facts)
    (hReference5Ideal := Cert.Reference5Ideal.Gen.facts) := by
  intro m ρ m' ρ' _ hargs
  refine ⟨fun c => (Kernel5Ideal.Gen.dats m 0 c).arrAt 5 Kernel5Ideal.cfg0.N, Kernel5Ideal.Value.run_blocks m ρ, ?_⟩
  refine (θ_run Reference5Ideal.defs _ _).mono (fun _ h c => ⟨(h c).1.trans ?_, (h c).2⟩) (Reference5Ideal.Value.run m' ρ')
  obtain ⟨a0, a1, a2, a3, a4⟩ := hargs c
  funext i
  rw [Reference5Ideal.Read.val_main_v54_eq, a0, a1, a2, a3, a4, ← ix2_eta i]
  exact (Reference5Ideal.Projection.result _ _ _ _ _ _ _).trans (Kernel5Ideal.Projection.result m c _ _).symm

/-- The reference's program keeps its arguments and leaves no counter raised. -/
theorem even_norm_in_reference_frame : Cert.quiescent_Reference5Ideal (hReference5Ideal := Cert.Reference5Ideal.Gen.facts) := fun m ρ _ =>
  (θ_run Reference5Ideal.defs _ _).mono (fun r h => ⟨fun c => (h c).2, Idealize.ShloMosaic.sem_eq_zero_of_no_sems (by decide) r.2⟩) (Reference5Ideal.Value.run m ρ)

/-- `out_proj_residual` of an even layer: both programs end with the same result. -/
theorem even_out_res_algebraic : Cert.algebraic_Kernel6Ideal_Reference6Ideal (hKernel6Ideal := Cert.Kernel6Ideal.Gen.facts)
    (hReference6Ideal := Cert.Reference6Ideal.Gen.facts) := by
  intro m ρ m' ρ' _ hargs
  refine ⟨fun c => (Kernel6Ideal.Gen.dats m 0 c).arrAt 6 Kernel6Ideal.cfg0.N, Kernel6Ideal.Value.run_blocks m ρ, ?_⟩
  refine (θ_run Reference6Ideal.defs _ _).mono (fun _ h c => ⟨(h c).1.trans ?_, (h c).2⟩) (Reference6Ideal.Value.run m' ρ')
  obtain ⟨a0, a1, a2, a3, a4⟩ := hargs c
  funext i
  rw [Reference6Ideal.Read.val_main_v22_eq, a0, a1, a2, a3, a4, ← ix2_eta i]
  exact (Reference6Ideal.Projection.result _ _ _ _ _ _ _).trans (Kernel6Ideal.Projection.result m c _ _).symm

/-- The reference's program keeps its arguments and leaves no counter raised. -/
theorem even_out_res_reference_frame : Cert.quiescent_Reference6Ideal (hReference6Ideal := Cert.Reference6Ideal.Gen.facts) := fun m ρ _ =>
  (θ_run Reference6Ideal.defs _ _).mono (fun r h => ⟨fun c => (h c).2, Idealize.ShloMosaic.sem_eq_zero_of_no_sems (by decide) r.2⟩) (Reference6Ideal.Value.run m ρ)

end Cert.Projection

end
-- ==== Proof.lean ====
module

public import proofs.«01_k».proof.Defs
public import proofs.«01_k».proof.Proof.Claims
public import proofs.«01_k».proof.Proof.ExpertsClaims
public import proofs.«01_k».proof.Proof.ProjClaims
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem

/-- The certificate's claims, together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_values_finite.Gen.facts, Cert.Pre_blocks_routed.Gen.facts, Cert.On_latent_rows.Gen.facts, Cert.On_used_rows.Gen.facts,
  fun m ρ _ => Cert.Kernel.Gen.frame m ρ,
  fun m ρ _ => Cert.KernelIdeal.Gen.frame m ρ,
  fun m ρ _ => Cert.KernelIdeal.Gen.frame m ρ,
  Cert.Attention.reference_frame,
  fun m ρ _ => Cert.Attention.reference_frame m ρ trivial,
  Cert.Experts.frame_bits,
  Cert.Experts.frame_ideal,
  Cert.Experts.reference_frame,
  fun m ρ _ => Cert.Experts.reference_frame m ρ trivial,
  fun m ρ _ => Cert.Kernel3.Gen.frame m ρ,
  fun m ρ _ => Cert.Kernel3Ideal.Gen.frame m ρ,
  Cert.Projection.norm_in_reference_frame,
  fun m ρ _ => Cert.Kernel4.Gen.frame m ρ,
  fun m ρ _ => Cert.Kernel4Ideal.Gen.frame m ρ,
  Cert.Projection.out_res_reference_frame,
  fun m ρ _ => Cert.Kernel5.Gen.frame m ρ,
  fun m ρ _ => Cert.Kernel5Ideal.Gen.frame m ρ,
  Cert.Projection.even_norm_in_reference_frame,
  fun m ρ _ => Cert.Kernel6.Gen.frame m ρ,
  fun m ρ _ => Cert.Kernel6Ideal.Gen.frame m ρ,
  Cert.Projection.even_out_res_reference_frame,
  trivial,
  Cert.Attention.algebraic,
  trivial,
  Cert.Experts.algebraic,
  trivial,
  Cert.Projection.norm_in_algebraic,
  trivial,
  Cert.Projection.out_res_algebraic,
  trivial,
  Cert.Projection.even_norm_in_algebraic,
  trivial,
  Cert.Projection.even_out_res_algebraic⟩

end Cert.Proof

end
